-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs [hPre_inputs : Cert.Pre_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs [hPre_inputs : Cert.Pre_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_inputs [hKernelIdeal : Cert.KernelIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_inputs [hReferenceIdeal : Cert.ReferenceIdeal.Facts] [hPre_inputs : Cert.Pre_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_inputs [hKernelIdeal : Cert.KernelIdeal.Facts] [hReferenceIdeal : Cert.ReferenceIdeal.Facts] [hPre_inputs : Cert.Pre_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v46) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_inputs : Cert.Pre_inputs.Facts),
    quiescent_Kernel (hKernel := hKernel)
    ∧ quiescent_KernelIdeal (hKernelIdeal := hKernelIdeal)
    ∧ quiescent_KernelIdeal_pre_inputs (hKernelIdeal := hKernelIdeal) (hPre_inputs := hPre_inputs)
    ∧ quiescent_ReferenceIdeal (hReferenceIdeal := hReferenceIdeal)
    ∧ quiescent_ReferenceIdeal_pre_inputs (hReferenceIdeal := hReferenceIdeal) (hPre_inputs := hPre_inputs)
    ∧ preserves_Kernel_KernelIdeal
    ∧ algebraic_KernelIdeal_ReferenceIdeal_pre_inputs (hKernelIdeal := hKernelIdeal) (hReferenceIdeal := hReferenceIdeal) (hPre_inputs := hPre_inputs)
-- ==== Pre_inputs.lean ====
abbrev S128x1 : Shape := ⟨2, ![128, 1]⟩
abbrev S128x100000 : Shape := ⟨2, ![128, 100000]⟩
abbrev S1 : Shape := ⟨1, ![1]⟩
abbrev S_ : Shape := ⟨0, ![]⟩

class Facts : Prop where
  bcast_S_S128x1 : S_.BroadcastsInDim S128x1 (![] : Fin 0 → Fin S128x1.rank)
  reducesTo_S128x1_S_d0_1 : S128x1.ReducesTo [0, 1] S_
  h_S_ : 0 < S_.numel
  bcast_S_S128x100000 : S_.BroadcastsInDim S128x100000 (![] : Fin 0 → Fin S128x100000.rank)
  reducesTo_S128x100000_S_d0_1 : S128x100000.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : IVec S_ 32) (main_arg5 : FVec F S1 .f32) (main_v15 : IVec S_ 1) : IVec S_ 1 :=
  let main_c_6 : IVec S_ 32 := constantI S_ 32 21475#32
  let main_v16 : IVec S_ 1 := cmpi .sle main_arg4 main_c_6
  let main_v17 : IVec S_ 1 := andi main_v15 main_v16
  let main_cst_7 : FVec F S_ .f32 := constant S_ .f32 0x00000000#32
  let main_v18 : FVec F S1 .f32 := broadcastInDim S1 ![] bcast_S_S1 main_cst_7
  let main_v19 : IVec S1 1 := cmpf .oge main_arg5 main_v18
  let main_c_8 : IVec S_ 1 := constantI S_ 1 1#1
  let main_v20 : IVec S_ 1 := (fun x v => Host.reduce IntOp.andi x v reducesTo_S1_S_d0 h_S_) main_v19 main_c_8
  let main_v21 : IVec S_ 1 := andi main_v17 main_v20
  main_v21

def fn {F : FTy → Type} [FloatOps F] (main_arg0 : IVec S128x1 32) (main_arg1 : FVec F S128x100000 .f32) (main_arg2 : FVec F S128x100000 .f32) (main_arg3 : FVec F S1 .f32) (main_arg4 : IVec S_ 32) (main_arg5 : FVec F S1 .f32) (main_arg6 : FVec F S128x100000 .f32) : IVec S_ 1 :=
  let main_c : IVec S_ 32 := constantI S_ 32 0#32
  let main_v0 : IVec S128x1 32 := broadcastInDim S128x1 ![] bcast_S_S128x1 main_c
  let main_v1 : IVec S128x1 1 := cmpi .sge main_arg0 main_v0
  let main_c_0 : IVec S_ 32 := constantI S_ 32 100000#32
  let main_v2 : IVec S128x1 32 := broadcastInDim S128x1 ![] bcast_S_S128x1 main_c_0
  let main_v3 : IVec S128x1 1 := cmpi .slt main_arg0 main_v2
  let main_v4 : IVec S128x1 1 := andi main_v1 main_v3
  let main_c_1 : IVec S_ 1 := constantI S_ 1 1#1
  let main_v5 : IVec S_ 1 := (fun x v => Host.reduce IntOp.andi x v reducesTo_S128x1_S_d0_1 h_S_) main_v4 main_c_1
  let main_cst : FVec F S_ .f32 := constant S_ .f32 0x00000000#32
  let main_v6 : FVec F S128x100000 .f32 := broadcastInDim S128x100000 ![] bcast_S_S128x100000 main_cst
  let main_v7 : IVec S128x100000 1 := cmpf .oge main_arg1 main_v6
  let main_c_2 : IVec S_ 1 := constantI S_ 1 1#1
  let main_v8 : IVec S_ 1 := (fun x v => Host.reduce IntOp.andi x v reducesTo_S128x100000_S_d0_1 h_S_) main_v7 main_c_2
  let main_v9 : IVec S_ 1 := andi main_v5 main_v8
  let main_cst_3 : FVec F S_ .f32 := constant S_ .f32 0x00000000#32
  let main_v10 : FVec F S1 .f32 := broadcastInDim S1 ![] bcast_S_S1 main_cst_3
  let main_v11 : IVec S1 1 := cmpf .oge main_arg3 main_v10
  let main_c_4 : IVec S_ 1 := constantI S_ 1 1#1
  let main_v12 : IVec S_ 1 := (fun x v => Host.reduce IntOp.andi x v reducesTo_S1_S_d0 h_S_) main_v11 main_c_4
  let main_v13 : IVec S_ 1 := andi main_v9 main_v12
  let main_c_5 : IVec S_ 32 := constantI S_ 32 0#32
  let main_v14 : IVec S_ 1 := cmpi .sge main_arg4 main_c_5
  let main_v15 : IVec S_ 1 := andi main_v13 main_v14
  fn_part1 (F := F) main_arg4 main_arg5 main_v15
-- ==== Kernel.lean ====
abbrev S128x1 : Shape := ⟨2, ![128, 1]⟩
abbrev S128x100000 : Shape := ⟨2, ![128, 100000]⟩
abbrev S1 : Shape := ⟨1, ![1]⟩
abbrev S_ : Shape := ⟨0, ![]⟩
abbrev S128x1x1 : Shape := ⟨3, ![128, 1, 1]⟩
abbrev S1x1x1 : Shape := ⟨3, ![1, 1, 1]⟩
abbrev S1x1 : Shape := ⟨2, ![1, 1]⟩
abbrev S128x129 : Shape := ⟨2, ![128, 129]⟩
abbrev S128x128 : Shape := ⟨2, ![128, 128]⟩
abbrev S128x128x1 : Shape := ⟨3, ![128, 128, 1]⟩
abbrev S128 : Shape := ⟨1, ![128]⟩
abbrev S8x16 : Shape := ⟨2, ![8, 16]⟩
abbrev S8 : Shape := ⟨1, ![8]⟩
abbrev S2 : Shape := ⟨1, ![2]⟩
abbrev S16x1 : Shape := ⟨2, ![16, 1]⟩
abbrev S16x100000 : Shape := ⟨2, ![16, 100000]⟩
abbrev S16 : Shape := ⟨1, ![16]⟩
abbrev S32x1 : Shape := ⟨2, ![32, 1]⟩
abbrev S2x1 : Shape := ⟨2, ![2, 1]⟩
abbrev S1x16 : Shape := ⟨2, ![1, 16]⟩
abbrev S2x16 : Shape := ⟨2, ![2, 16]⟩
abbrev S32 : Shape := ⟨1, ![32]⟩
abbrev S32x2 : Shape := ⟨2, ![32, 2]⟩

abbrev nBuf : Space → Nat
  | .hbm => 174
  | .vmem => 45
  | .smem => 4
  | _ => 0

abbrev hbmTy0_0 (i : Nat) : BufTy := match i % 128 with
  | 0 => ⟨S128x1, .i32⟩
  | 1 => ⟨S128x100000, .f32⟩
  | 2 => ⟨S128x100000, .f32⟩
  | 3 => ⟨S1, .f32⟩
  | 4 => ⟨S_, .i32⟩
  | 5 => ⟨S1, .f32⟩
  | 6 => ⟨S128x100000, .f32⟩
  | 7 => ⟨S_, .f32⟩
  | 8 => ⟨S1, .f32⟩
  | 9 => ⟨S1, .f32⟩
  | 10 => ⟨S_, .f32⟩
  | 11 => ⟨S1, .f32⟩
  | 12 => ⟨S_, .f32⟩
  | 13 => ⟨S_, .f32⟩
  | 14 => ⟨S1, .f32⟩
  | 15 => ⟨S1, .f32⟩
  | 16 => ⟨S1, .f32⟩
  | 17 => ⟨S_, .f32⟩
  | 18 => ⟨S_, .f32⟩
  | 19 => ⟨S_, .f32⟩
  | 20 => ⟨S_, .i32⟩
  | 21 => ⟨S_, .i32⟩
  | 22 => ⟨S_, .f32⟩
  | 23 => ⟨S1, .f32⟩
  | 24 => ⟨S1, .f32⟩
  | 25 => ⟨S_, .f32⟩
  | 26 => ⟨S1, .f32⟩
  | 27 => ⟨S1, .f32⟩
  | 28 => ⟨S1, .f32⟩
  | 29 => ⟨S1, .f32⟩
  | 30 => ⟨S_, .i32⟩
  | 31 => ⟨S128x1, .i32⟩
  | 32 => ⟨S128x1, .i1⟩
  | 33 => ⟨S_, .i32⟩
  | 34 => ⟨S128x1, .i32⟩
  | 35 => ⟨S128x1, .i32⟩
  | 36 => ⟨S128x1, .i32⟩
  | 37 => ⟨S128x1x1, .i32⟩
  | 38 => ⟨S1, .i32⟩
  | 39 => ⟨S_, .i32⟩
  | 40 => ⟨S128x1x1, .i32⟩
  | 41 => ⟨S128x1x1, .i1⟩
  | 42 => ⟨S1x1x1, .i32⟩
  | 43 => ⟨S128x1x1, .i32⟩
  | 44 => ⟨S128x1x1, .i1⟩
  | 45 => ⟨S128x1x1, .i1⟩
  | 46 => ⟨S_, .i1⟩
  | 47 => ⟨S128x1, .i1⟩
  | 48 => ⟨S128x1, .f32⟩
  | 49 => ⟨S_, .f32⟩
  | 50 => ⟨S128x1, .f32⟩
  | 51 => ⟨S128x1, .f32⟩
  | 52 => ⟨S_, .i32⟩
  | 53 => ⟨S128x1, .i32⟩
  | 54 => ⟨S128x1, .i1⟩
  | 55 => ⟨S_, .i32⟩
  | 56 => ⟨S128x1, .i32⟩
  | 57 => ⟨S128x1, .i32⟩
  | 58 => ⟨S128x1, .i32⟩
  | 59 => ⟨S128x1x1, .i32⟩
  | 60 => ⟨S1, .i32⟩
  | 61 => ⟨S_, .i32⟩
  | 62 => ⟨S128x1x1, .i32⟩
  | 63 => ⟨S128x1x1, .i1⟩
  | 64 => ⟨S1x1x1, .i32⟩
  | 65 => ⟨S128x1x1, .i32⟩
  | 66 => ⟨S128x1x1, .i1⟩
  | 67 => ⟨S128x1x1, .i1⟩
  | 68 => ⟨S_, .i1⟩
  | 69 => ⟨S128x1, .i1⟩
  | 70 => ⟨S128x1, .f32⟩
  | 71 => ⟨S_, .f32⟩
  | 72 => ⟨S128x1, .f32⟩
  | 73 => ⟨S128x1, .f32⟩
  | 74 => ⟨S128x1, .f32⟩
  | 75 => ⟨S128x1, .f32⟩
  | 76 => ⟨S128x1, .f32⟩
  | 77 => ⟨S128x1, .f32⟩
  | 78 => ⟨S_, .f32⟩
  | 79 => ⟨S1, .f32⟩
  | 80 => ⟨S1, .f32⟩
  | 81 => ⟨S1x1, .f32⟩
  | 82 => ⟨S128x1, .f32⟩
  | 83 => ⟨S128x1, .f32⟩
  | 84 => ⟨S128x129, .f32⟩
  | 85 => ⟨S128x129, .i32⟩
  | 86 => ⟨S128x128, .i32⟩
  | 87 => ⟨S128x128, .f32⟩
  | 88 => ⟨S128x1, .f32⟩
  | 89 => ⟨S_, .i32⟩
  | 90 => ⟨S128x128, .i32⟩
  | 91 => ⟨S128x128, .i1⟩
  | 92 => ⟨S_, .i32⟩
  | 93 => ⟨S128x128, .i32⟩
  | 94 => ⟨S128x128, .i32⟩
  | 95 => ⟨S128x128, .i32⟩
  | 96 => ⟨S128x128x1, .i32⟩
  | 97 => ⟨S1, .i32⟩
  | 98 => ⟨S_, .i32⟩
  | 99 => ⟨S128x128x1, .i32⟩
  | 100 => ⟨S128x128x1, .i1⟩
  | 101 => ⟨S1x1x1, .i32⟩
  | 102 => ⟨S128x128x1, .i32⟩
  | 103 => ⟨S128x128x1, .i1⟩
  | 104 => ⟨S128x128x1, .i1⟩
  | 105 => ⟨S_, .i1⟩
  | 106 => ⟨S128x128, .i1⟩
  | 107 => ⟨S128x128, .f32⟩
  | 108 => ⟨S_, .f32⟩
  | 109 => ⟨S128x128, .f32⟩
  | 110 => ⟨S128x128, .f32⟩
  | 111 => ⟨S128x1, .f32⟩
  | 112 => ⟨S128x1, .i32⟩
  | 113 => ⟨S128x1, .i32⟩
  | 114 => ⟨S128x1, .i32⟩
  | 115 => ⟨S_, .i32⟩
  | 116 => ⟨S128x1, .i32⟩
  | 117 => ⟨S128x1, .i1⟩
  | 118 => ⟨S8x16, .i1⟩
  | 119 => ⟨S_, .i1⟩
  | 120 => ⟨S8, .i1⟩
  | 121 => ⟨S8, .i32⟩
  | 122 => ⟨S_, .i32⟩
  | 123 => ⟨S_, .i32⟩
  | 124 => ⟨S8, .i1⟩
  | 125 => ⟨S8, .i32⟩
  | 126 => ⟨S8, .i1⟩
  | 127 => ⟨S8, .i32⟩
  | _ => ⟨S128x1, .i32⟩

abbrev hbmTy0_1 (i : Nat) : BufTy := match i % 128 with
  | 0 => ⟨S_, .i32⟩
  | 1 => ⟨S128x1, .i32⟩
  | 2 => ⟨S128x1, .i1⟩
  | 3 => ⟨S_, .i1⟩
  | 4 => ⟨S_, .i1⟩
  | 5 => ⟨S_, .i32⟩
  | 6 => ⟨S128x100000, .f32⟩
  | 7 => ⟨S_, .i32⟩
  | 8 => ⟨S128x1, .i32⟩
  | 9 => ⟨S128x1, .i1⟩
  | 10 => ⟨S_, .i1⟩
  | 11 => ⟨S_, .i1⟩
  | 12 => ⟨S_, .i32⟩
  | 13 => ⟨S_, .i1⟩
  | 14 => ⟨S_, .i1⟩
  | 15 => ⟨S_, .i32⟩
  | 16 => ⟨S128x100000, .f32⟩
  | 17 => ⟨S128x100000, .f32⟩
  | 18 => ⟨S32x1, .i32⟩
  | 19 => ⟨S2x1, .i32⟩
  | 20 => ⟨S_, .i32⟩
  | 21 => ⟨S2x1, .i32⟩
  | 22 => ⟨S2x1, .i32⟩
  | 23 => ⟨S16, .i32⟩
  | 24 => ⟨S1x16, .i32⟩
  | 25 => ⟨S2x16, .i32⟩
  | 26 => ⟨S2x16, .i32⟩
  | 27 => ⟨S2x16, .i32⟩
  | 28 => ⟨S32, .i32⟩
  | 29 => ⟨S32, .i32⟩
  | 30 => ⟨S_, .i32⟩
  | 31 => ⟨S32, .i32⟩
  | 32 => ⟨S32, .i1⟩
  | 33 => ⟨S_, .i32⟩
  | 34 => ⟨S32, .i32⟩
  | 35 => ⟨S32, .i32⟩
  | 36 => ⟨S32, .i32⟩
  | 37 => ⟨S_, .i32⟩
  | 38 => ⟨S32, .i32⟩
  | 39 => ⟨S32, .i32⟩
  | 40 => ⟨S32x1, .i32⟩
  | 41 => ⟨S32x1, .i32⟩
  | 42 => ⟨S32x2, .i32⟩
  | 43 => ⟨S128x1, .i32⟩
  | 44 => ⟨S128x100000, .f32⟩
  | 45 => ⟨S128x100000, .f32⟩
  | _ => ⟨S128x1, .i32⟩

abbrev hbmTy (i : Nat) : BufTy := match i / 128 with
  | 0 => hbmTy0_0 i
  | 1 => hbmTy0_1 i
  | _ => ⟨S128x1, .i32⟩

abbrev bufTy : (tb : Table) → Fin (tcTables nBuf tb) → BufTy
  | .hbm, ⟨i, _⟩ => hbmTy i
  | .local _ .vmem, ⟨0, _⟩ => ⟨S128x1, .i32⟩
  | .local _ .vmem, ⟨1, _⟩ => ⟨S128x1, .f32⟩
  | .local _ .vmem, ⟨2, _⟩ => ⟨S128x1, .f32⟩
  | .local _ .vmem, ⟨3, _⟩ => ⟨S128x1, .f32⟩
  | .local _ .vmem, ⟨4, _⟩ => ⟨S128x128, .i32⟩
  | .local _ .vmem, ⟨5, _⟩ => ⟨S128x128, .f32⟩
  | .local _ .vmem, ⟨6, _⟩ => ⟨S128x128, .f32⟩
  | .local _ .vmem, ⟨7, _⟩ => ⟨S128x1, .f32⟩
  | .local _ .vmem, ⟨8, _⟩ => ⟨S128x1, .i32⟩
  | .local _ .vmem, ⟨9, _⟩ => ⟨S128x1, .i32⟩
  | .local _ .vmem, ⟨10, _⟩ => ⟨S128x1, .i32⟩
  | .local _ .vmem, ⟨11, _⟩ => ⟨S16x1, .i32⟩
  | .local _ .vmem, ⟨12, _⟩ => ⟨S16x1, .i32⟩
  | .local _ .vmem, ⟨13, _⟩ => ⟨S16x1, .f32⟩
  | .local _ .vmem, ⟨14, _⟩ => ⟨S16x1, .f32⟩
  | .local _ .vmem, ⟨15, _⟩ => ⟨S16x1, .f32⟩
  | .local _ .vmem, ⟨16, _⟩ => ⟨S16x1, .f32⟩
  | .local _ .vmem, ⟨17, _⟩ => ⟨S16x100000, .f32⟩
  | .local _ .vmem, ⟨18, _⟩ => ⟨S16x100000, .f32⟩
  | .local _ .vmem, ⟨19, _⟩ => ⟨S16x100000, .f32⟩
  | .local _ .vmem, ⟨20, _⟩ => ⟨S16x100000, .f32⟩
  | .local _ .vmem, ⟨21, _⟩ => ⟨S16x100000, .f32⟩
  | .local _ .vmem, ⟨22, _⟩ => ⟨S16x100000, .f32⟩
  | .local _ .vmem, ⟨23, _⟩ => ⟨S16x1, .i32⟩
  | .local _ .vmem, ⟨24, _⟩ => ⟨S16x1, .i32⟩
  | .local _ .vmem, ⟨25, _⟩ => ⟨S16x1, .f32⟩
  | .local _ .vmem, ⟨26, _⟩ => ⟨S16x1, .f32⟩
  | .local _ .vmem, ⟨27, _⟩ => ⟨S16x1, .f32⟩
  | .local _ .vmem, ⟨28, _⟩ => ⟨S16x1, .f32⟩
  | .local _ .vmem, ⟨29, _⟩ => ⟨S16x1, .f32⟩
  | .local _ .vmem, ⟨30, _⟩ => ⟨S16x1, .f32⟩
  | .local _ .vmem, ⟨31, _⟩ => ⟨S16x1, .i32⟩
  | .local _ .vmem, ⟨32, _⟩ => ⟨S16x1, .i32⟩
  | .local _ .vmem, ⟨33, _⟩ => ⟨S16x100000, .f32⟩
  | .local _ .vmem, ⟨34, _⟩ => ⟨S16x100000, .f32⟩
  | .local _ .vmem, ⟨35, _⟩ => ⟨S16x1, .i32⟩
  | .local _ .vmem, ⟨36, _⟩ => ⟨S16x1, .i32⟩
  | .local _ .vmem, ⟨37, _⟩ => ⟨S16x1, .i32⟩
  | .local _ .vmem, ⟨38, _⟩ => ⟨S16x1, .i32⟩
  | .local _ .vmem, ⟨39, _⟩ => ⟨S16x100000, .f32⟩
  | .local _ .vmem, ⟨40, _⟩ => ⟨S16x100000, .f32⟩
  | .local _ .vmem, ⟨41, _⟩ => ⟨S16x1, .i32⟩
  | .local _ .vmem, ⟨42, _⟩ => ⟨S16x1, .i32⟩
  | .local _ .vmem, ⟨43, _⟩ => ⟨S16x100000, .f32⟩
  | .local _ .vmem, ⟨44, _⟩ => ⟨S16x100000, .f32⟩
  | .local _ .smem, ⟨0, _⟩ => ⟨S1, .f32⟩
  | .local _ .smem, ⟨1, _⟩ => ⟨S1, .f32⟩
  | .local _ .smem, ⟨2, _⟩ => ⟨S2, .i32⟩
  | .local _ .smem, ⟨3, _⟩ => ⟨S1, .f32⟩
  | _, _ => ⟨S128x1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .smem, ⟨0, _⟩ => true
  | .smem, ⟨1, _⟩ => true
  | .smem, ⟨3, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_c : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_call1_c : Ref sig .tc := ⟨.hbm, 30, rfl⟩
abbrev main_call1_v0 : Ref sig .tc := ⟨.hbm, 31, rfl⟩
abbrev main_call1_v1 : Ref sig .tc := ⟨.hbm, 32, rfl⟩
abbrev main_call1_c_0 : Ref sig .tc := ⟨.hbm, 33, rfl⟩
abbrev main_call1_v2 : Ref sig .tc := ⟨.hbm, 34, rfl⟩
abbrev main_call1_v3 : Ref sig .tc := ⟨.hbm, 35, rfl⟩
abbrev main_call1_v4 : Ref sig .tc := ⟨.hbm, 36, rfl⟩
abbrev main_call1_v5 : Ref sig .tc := ⟨.hbm, 37, rfl⟩
abbrev main_call1_c_1 : Ref sig .tc := ⟨.hbm, 38, rfl⟩
abbrev main_call1_c_2 : Ref sig .tc := ⟨.hbm, 39, rfl⟩
abbrev main_call1_v6 : Ref sig .tc := ⟨.hbm, 40, rfl⟩
abbrev main_call1_v7 : Ref sig .tc := ⟨.hbm, 41, rfl⟩
abbrev main_call1_v8 : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_3 : Ref sig .tc := ⟨.hbm, 46, rfl⟩
abbrev main_call1_v12 : Ref sig .tc := ⟨.hbm, 47, rfl⟩
abbrev main_call1_v13 : Ref sig .tc := ⟨.hbm, 48, rfl⟩
abbrev main_call1_cst : Ref sig .tc := ⟨.hbm, 49, rfl⟩
abbrev main_call1_v14 : Ref sig .tc := ⟨.hbm, 50, rfl⟩
abbrev main_v16 : Ref sig .tc := ⟨.hbm, 51, rfl⟩
abbrev main_call2_c : Ref sig .tc := ⟨.hbm, 52, rfl⟩
abbrev main_call2_v0 : Ref sig .tc := ⟨.hbm, 53, rfl⟩
abbrev main_call2_v1 : Ref sig .tc := ⟨.hbm, 54, rfl⟩
abbrev main_call2_c_0 : Ref sig .tc := ⟨.hbm, 55, rfl⟩
abbrev main_call2_v2 : Ref sig .tc := ⟨.hbm, 56, rfl⟩
abbrev main_call2_v3 : Ref sig .tc := ⟨.hbm, 57, rfl⟩
abbrev main_call2_v4 : Ref sig .tc := ⟨.hbm, 58, rfl⟩
abbrev main_call2_v5 : Ref sig .tc := ⟨.hbm, 59, rfl⟩
abbrev main_call2_c_1 : Ref sig .tc := ⟨.hbm, 60, rfl⟩
abbrev main_call2_c_2 : Ref sig .tc := ⟨.hbm, 61, rfl⟩
abbrev main_call2_v6 : Ref sig .tc := ⟨.hbm, 62, rfl⟩
abbrev main_call2_v7 : Ref sig .tc := ⟨.hbm, 63, rfl⟩
abbrev main_call2_v8 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_3 : Ref sig .tc := ⟨.hbm, 68, rfl⟩
abbrev main_call2_v12 : Ref sig .tc := ⟨.hbm, 69, rfl⟩
abbrev main_call2_v13 : Ref sig .tc := ⟨.hbm, 70, rfl⟩
abbrev main_call2_cst : Ref sig .tc := ⟨.hbm, 71, rfl⟩
abbrev main_call2_v14 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_v20 : Ref sig .tc := ⟨.hbm, 76, rfl⟩
abbrev main_v21 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_values : Ref sig .tc := ⟨.hbm, 84, rfl⟩
abbrev main_indices : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_call3_c : Ref sig .tc := ⟨.hbm, 89, rfl⟩
abbrev main_call3_v0 : Ref sig .tc := ⟨.hbm, 90, rfl⟩
abbrev main_call3_v1 : Ref sig .tc := ⟨.hbm, 91, rfl⟩
abbrev main_call3_c_0 : Ref sig .tc := ⟨.hbm, 92, rfl⟩
abbrev main_call3_v2 : Ref sig .tc := ⟨.hbm, 93, rfl⟩
abbrev main_call3_v3 : Ref sig .tc := ⟨.hbm, 94, rfl⟩
abbrev main_call3_v4 : Ref sig .tc := ⟨.hbm, 95, rfl⟩
abbrev main_call3_v5 : Ref sig .tc := ⟨.hbm, 96, rfl⟩
abbrev main_call3_c_1 : Ref sig .tc := ⟨.hbm, 97, rfl⟩
abbrev main_call3_c_2 : Ref sig .tc := ⟨.hbm, 98, rfl⟩
abbrev main_call3_v6 : Ref sig .tc := ⟨.hbm, 99, rfl⟩
abbrev main_call3_v7 : Ref sig .tc := ⟨.hbm, 100, rfl⟩
abbrev main_call3_v8 : Ref sig .tc := ⟨.hbm, 101, rfl⟩
abbrev main_call3_v9 : Ref sig .tc := ⟨.hbm, 102, rfl⟩
abbrev main_call3_v10 : Ref sig .tc := ⟨.hbm, 103, rfl⟩
abbrev main_call3_v11 : Ref sig .tc := ⟨.hbm, 104, rfl⟩
abbrev main_call3_c_3 : Ref sig .tc := ⟨.hbm, 105, rfl⟩
abbrev main_call3_v12 : Ref sig .tc := ⟨.hbm, 106, rfl⟩
abbrev main_call3_v13 : Ref sig .tc := ⟨.hbm, 107, rfl⟩
abbrev main_call3_cst : Ref sig .tc := ⟨.hbm, 108, rfl⟩
abbrev main_call3_v14 : Ref sig .tc := ⟨.hbm, 109, rfl⟩
abbrev main_v31 : Ref sig .tc := ⟨.hbm, 110, rfl⟩
abbrev main_v32_0 : Ref sig .tc := ⟨.hbm, 111, rfl⟩
abbrev main_v32_1 : Ref sig .tc := ⟨.hbm, 112, rfl⟩
abbrev main_v32_2 : Ref sig .tc := ⟨.hbm, 113, rfl⟩
abbrev main_v32_3 : Ref sig .tc := ⟨.hbm, 114, rfl⟩
abbrev main_c_3 : Ref sig .tc := ⟨.hbm, 115, rfl⟩
abbrev main_v33 : Ref sig .tc := ⟨.hbm, 116, rfl⟩
abbrev main_v34 : Ref sig .tc := ⟨.hbm, 117, rfl⟩
abbrev main_v35 : Ref sig .tc := ⟨.hbm, 118, rfl⟩
abbrev main_c_4 : Ref sig .tc := ⟨.hbm, 119, rfl⟩
abbrev main_v36 : Ref sig .tc := ⟨.hbm, 120, rfl⟩
abbrev main_v37 : Ref sig .tc := ⟨.hbm, 121, rfl⟩
abbrev main_c_5 : Ref sig .tc := ⟨.hbm, 122, rfl⟩
abbrev main_v38 : Ref sig .tc := ⟨.hbm, 123, rfl⟩
abbrev main_v39 : Ref sig .tc := ⟨.hbm, 124, rfl⟩
abbrev main_call5_v0 : Ref sig .tc := ⟨.hbm, 125, rfl⟩
abbrev main_call5_v1_0 : Ref sig .tc := ⟨.hbm, 126, rfl⟩
abbrev main_v40 : Ref sig .tc := ⟨.hbm, 127, rfl⟩
abbrev main_c_6 : Ref sig .tc := ⟨.hbm, 128, rfl⟩
abbrev main_v42 : Ref sig .tc := ⟨.hbm, 129, rfl⟩
abbrev main_v43 : Ref sig .tc := ⟨.hbm, 130, rfl⟩
abbrev main_c_7 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_case0b0_c_8 : Ref sig .tc := ⟨.hbm, 135, rfl⟩
abbrev main_case0b0_v47 : Ref sig .tc := ⟨.hbm, 136, rfl⟩
abbrev main_case0b0_v48 : Ref sig .tc := ⟨.hbm, 137, rfl⟩
abbrev main_case0b0_c_9 : Ref sig .tc := ⟨.hbm, 138, rfl⟩
abbrev main_case0b0_v49 : Ref sig .tc := ⟨.hbm, 139, rfl⟩
abbrev main_case0b0_c_10 : Ref sig .tc := ⟨.hbm, 140, rfl⟩
abbrev main_case0b0_v50 : Ref sig .tc := ⟨.hbm, 141, rfl⟩
abbrev main_case0b0_v51 : Ref sig .tc := ⟨.hbm, 142, rfl⟩
abbrev main_case0b0_v52 : Ref sig .tc := ⟨.hbm, 143, rfl⟩
abbrev main_case0b0_v53 : Ref sig .tc := ⟨.hbm, 144, rfl⟩
abbrev main_case0b0_case1b0_v54 : Ref sig .tc := ⟨.hbm, 145, rfl⟩
abbrev main_case0b0_case1b1_v54 : Ref sig .tc := ⟨.hbm, 146, rfl⟩
abbrev main_case0b0_case1b1_v55 : Ref sig .tc := ⟨.hbm, 147, rfl⟩
abbrev main_case0b0_case1b1_c_11 : Ref sig .tc := ⟨.hbm, 148, rfl⟩
abbrev main_case0b0_case1b1_v56 : Ref sig .tc := ⟨.hbm, 149, rfl⟩
abbrev main_case0b0_case1b1_v57 : Ref sig .tc := ⟨.hbm, 150, rfl⟩
abbrev main_case0b0_case1b1_v58 : Ref sig .tc := ⟨.hbm, 151, rfl⟩
abbrev main_case0b0_case1b1_v59 : Ref sig .tc := ⟨.hbm, 152, rfl⟩
abbrev main_case0b0_case1b1_v60 : Ref sig .tc := ⟨.hbm, 153, rfl⟩
abbrev main_case0b0_case1b1_v61 : Ref sig .tc := ⟨.hbm, 154, rfl⟩
abbrev main_case0b0_case1b1_v62 : Ref sig .tc := ⟨.hbm, 155, rfl⟩
abbrev main_case0b0_case1b1_v63 : Ref sig .tc := ⟨.hbm, 156, rfl⟩
abbrev main_case0b0_case1b1_v64 : Ref sig .tc := ⟨.hbm, 157, rfl⟩
abbrev main_case0b0_case1b1_c_12 : Ref sig .tc := ⟨.hbm, 158, rfl⟩
abbrev main_case0b0_case1b1_v65 : Ref sig .tc := ⟨.hbm, 159, rfl⟩
abbrev main_case0b0_case1b1_v66 : Ref sig .tc := ⟨.hbm, 160, rfl⟩
abbrev main_case0b0_case1b1_c_13 : Ref sig .tc := ⟨.hbm, 161, rfl⟩
abbrev main_case0b0_case1b1_v67 : Ref sig .tc := ⟨.hbm, 162, rfl⟩
abbrev main_case0b0_case1b1_v68 : Ref sig .tc := ⟨.hbm, 163, rfl⟩
abbrev main_case0b0_case1b1_v69 : Ref sig .tc := ⟨.hbm, 164, rfl⟩
abbrev main_case0b0_case1b1_c_14 : Ref sig .tc := ⟨.hbm, 165, rfl⟩
abbrev main_case0b0_case1b1_v70 : Ref sig .tc := ⟨.hbm, 166, rfl⟩
abbrev main_case0b0_case1b1_v71 : Ref sig .tc := ⟨.hbm, 167, rfl⟩
abbrev main_case0b0_case1b1_v72 : Ref sig .tc := ⟨.hbm, 168, rfl⟩
abbrev main_case0b0_case1b1_v73 : Ref sig .tc := ⟨.hbm, 169, rfl⟩
abbrev main_case0b0_case1b1_v74 : Ref sig .tc := ⟨.hbm, 170, rfl⟩
abbrev main_case0b0_case1b1_v75 : Ref sig .tc := ⟨.hbm, 171, rfl⟩
abbrev main_case0b0_case1b1_v76 : Ref sig .tc := ⟨.hbm, 172, rfl⟩
abbrev main_case0b1_v47 : Ref sig .tc := ⟨.hbm, 173, rfl⟩
abbrev main_v41 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_stg11_0 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg2_1 : Ref sig .tc := ⟨.vmem, 28, rfl⟩
abbrev cc2_stg3_0 : Ref sig .tc := ⟨.vmem, 29, rfl⟩
abbrev cc2_stg3_1 : Ref sig .tc := ⟨.vmem, 30, rfl⟩
abbrev cc2_stg4_0 : Ref sig .tc := ⟨.vmem, 31, rfl⟩
abbrev cc2_stg4_1 : Ref sig .tc := ⟨.vmem, 32, rfl⟩
abbrev cc2_stg6_0 : Ref sig .tc := ⟨.vmem, 33, rfl⟩
abbrev cc2_stg6_1 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg1_1 : Ref sig .tc := ⟨.vmem, 40, rfl⟩
abbrev cc4_stg0_0 : Ref sig .tc := ⟨.vmem, 41, rfl⟩
abbrev cc4_stg0_1 : Ref sig .tc := ⟨.vmem, 42, rfl⟩
abbrev cc4_stg1_0 : Ref sig .tc := ⟨.vmem, 43, rfl⟩
abbrev cc4_stg1_1 : Ref sig .tc := ⟨.vmem, 44, rfl⟩
abbrev cc0_stg4_0 : Ref sig .tc := ⟨.smem, 0, rfl⟩
abbrev cc1_stg3_0 : Ref sig .tc := ⟨.smem, 1, rfl⟩
abbrev cc2_stg5_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem2_1 : DmaSem sig := 30
abbrev cc2_sem3_0 : DmaSem sig := 31
abbrev cc2_sem3_1 : DmaSem sig := 32
abbrev cc2_sem4_0 : DmaSem sig := 33
abbrev cc2_sem4_1 : DmaSem sig := 34
abbrev cc2_sem5_0 : DmaSem sig := 35
abbrev cc2_sem6_0 : DmaSem sig := 36
abbrev cc2_sem6_1 : DmaSem sig := 37
abbrev cc2_sem7_0 : DmaSem sig := 38
abbrev cc2_sem7_1 : DmaSem sig := 39
abbrev cc3_sem0_0 : DmaSem sig := 40
abbrev cc3_sem0_1 : DmaSem sig := 41
abbrev cc3_sem1_0 : DmaSem sig := 42
abbrev cc3_sem1_1 : DmaSem sig := 43
abbrev cc4_sem0_0 : DmaSem sig := 44
abbrev cc4_sem0_1 : DmaSem sig := 45
abbrev cc4_sem1_0 : DmaSem sig := 46
abbrev cc4_sem1_1 : DmaSem sig := 47

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .smem S1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x1 .i32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x1 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16x1 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S16x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S16x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x100000 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S16x100000 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S16x100000 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![2], ![false]⟩

abbrev pre2 : Pipeline.Prefetch sig := ⟨1, ![main_v41.idx], fun | 0 => main_v41.names | ⟨_ + 1, h⟩ => absurd h (Nat.not_lt.2 (Nat.le_add_left _ _)), fun | 0 => rfl | ⟨_ + 1, h⟩ => absurd h (Nat.not_lt.2 (Nat.le_add_left _ _))⟩

def k2_off1 (i : grid2.Coords) : Fin 1 → Nat :=
  let arg0 : BitVec 32 := BitVec.ofNat 32 (i 0).val
  let v0 : Index := Scalar.indexCast arg0
  ![v0.toNat]
def cc2_transform_0 (k2_off1_inb : ∀ i : grid2.Coords, ∀ a, (k2_off1 i) a + S1.size a ≤ S2.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S2) ![v0.toNat] S1.size (k2_off1_inb i)) numel1_S1
  let c0_i32 : BitVec 32 := 0#32
  let c0_i32_0 : BitVec 32 := 0#32
  ![v1.toNat, c0_i32.toNat]

def cc2_transform_1 (k2_off1_inb : ∀ i : grid2.Coords, ∀ a, (k2_off1 i) a + S1.size a ≤ S2.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S2) ![v0.toNat] S1.size (k2_off1_inb i)) numel1_S1
  let c0_i32 : BitVec 32 := 0#32
  let c0_i32_0 : BitVec 32 := 0#32
  ![v1.toNat, c0_i32.toNat]

def cc2_transform_2 (k2_off1_inb : ∀ i : grid2.Coords, ∀ a, (k2_off1 i) a + S1.size a ≤ S2.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S2) ![v0.toNat] S1.size (k2_off1_inb i)) numel1_S1
  let c0_i32 : BitVec 32 := 0#32
  let c0_i32_0 : BitVec 32 := 0#32
  ![v1.toNat, c0_i32.toNat]

def cc2_transform_3 (k2_off1_inb : ∀ i : grid2.Coords, ∀ a, (k2_off1 i) a + S1.size a ≤ S2.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S2) ![v0.toNat] S1.size (k2_off1_inb i)) numel1_S1
  let c0_i32 : BitVec 32 := 0#32
  let c0_i32_0 : BitVec 32 := 0#32
  ![v1.toNat, c0_i32.toNat]

def cc2_transform_4 (k2_off1_inb : ∀ i : grid2.Coords, ∀ a, (k2_off1 i) a + S1.size a ≤ S2.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S2) ![v0.toNat] S1.size (k2_off1_inb i)) numel1_S1
  let c0_i32 : BitVec 32 := 0#32
  let c0_i32_0 : BitVec 32 := 0#32
  ![v1.toNat, c0_i32.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (k2_off1_inb : ∀ i : grid2.Coords, ∀ a, (k2_off1 i) a + S1.size a ≤ S2.size a) (numel1_S1 : S1.numel = 1) (pf : pre2.Contents (Elt F)) (i : grid2.Coords) : Fin 2 → Nat :=
  let arg0 : BitVec 32 := BitVec.ofNat 32 (i 0).val
  let v0 : Index := Scalar.indexCast arg0
  let v1 : BitVec 32 := pf.at 0 (Rect.unit (s := S2) ![v0.toNat] S1.size (k2_off1_inb i)) numel1_S1
  let c0_i32 : BitVec 32 := 0#32
  let c0_i32_0 : BitVec 32 := 0#32
  ![v1.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S16x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S16x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S16x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S16x1 .i32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .smem S1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S16x100000 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S16x1 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16x1 .i32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S16x100000 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev grid4 : Pipeline.Grid := ⟨1, ![8], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S16x1 .i32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S16x100000 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]
-- ==== ReferenceIdeal.lean ====
abbrev S128x1 : Shape := ⟨2, ![128, 1]⟩
abbrev S128x100000 : Shape := ⟨2, ![128, 100000]⟩
abbrev S1 : Shape := ⟨1, ![1]⟩
abbrev S_ : Shape := ⟨0, ![]⟩
abbrev S128x1x1 : Shape := ⟨3, ![128, 1, 1]⟩
abbrev S1x1x1 : Shape := ⟨3, ![1, 1, 1]⟩
abbrev S1x1 : Shape := ⟨2, ![1, 1]⟩
abbrev S128 : Shape := ⟨1, ![128]⟩
abbrev S128x1x2 : Shape := ⟨3, ![128, 1, 2]⟩
abbrev S1x100000 : Shape := ⟨2, ![1, 100000]⟩

abbrev nBuf : Space → Nat
  | .hbm => 138
  | .vmem => 0
  | .smem => 0
  | _ => 0

abbrev hbmTy0_0 (i : Nat) : BufTy := match i % 128 with
  | 0 => ⟨S128x1, .i32⟩
  | 1 => ⟨S128x100000, .f32⟩
  | 2 => ⟨S128x100000, .f32⟩
  | 3 => ⟨S1, .f32⟩
  | 4 => ⟨S_, .i32⟩
  | 5 => ⟨S1, .f32⟩
  | 6 => ⟨S128x100000, .f32⟩
  | 7 => ⟨S_, .i32⟩
  | 8 => ⟨S128x1, .i32⟩
  | 9 => ⟨S128x1, .i1⟩
  | 10 => ⟨S_, .i32⟩
  | 11 => ⟨S128x1, .i32⟩
  | 12 => ⟨S128x1, .i32⟩
  | 13 => ⟨S128x1, .i32⟩
  | 14 => ⟨S128x1x1, .i32⟩
  | 15 => ⟨S1, .i32⟩
  | 16 => ⟨S_, .i32⟩
  | 17 => ⟨S128x1x1, .i32⟩
  | 18 => ⟨S128x1x1, .i1⟩
  | 19 => ⟨S1x1x1, .i32⟩
  | 20 => ⟨S128x1x1, .i32⟩
  | 21 => ⟨S128x1x1, .i1⟩
  | 22 => ⟨S128x1x1, .i1⟩
  | 23 => ⟨S_, .i1⟩
  | 24 => ⟨S128x1, .i1⟩
  | 25 => ⟨S128x1, .f32⟩
  | 26 => ⟨S_, .f32⟩
  | 27 => ⟨S128x1, .f32⟩
  | 28 => ⟨S128x1, .f32⟩
  | 29 => ⟨S_, .f32⟩
  | 30 => ⟨S1, .f32⟩
  | 31 => ⟨S1, .f32⟩
  | 32 => ⟨S_, .f32⟩
  | 33 => ⟨S1, .f32⟩
  | 34 => ⟨S_, .f32⟩
  | 35 => ⟨S_, .f32⟩
  | 36 => ⟨S1, .f32⟩
  | 37 => ⟨S1, .f32⟩
  | 38 => ⟨S1, .f32⟩
  | 39 => ⟨S_, .f32⟩
  | 40 => ⟨S_, .f32⟩
  | 41 => ⟨S_, .f32⟩
  | 42 => ⟨S_, .i32⟩
  | 43 => ⟨S_, .i32⟩
  | 44 => ⟨S_, .f32⟩
  | 45 => ⟨S1, .f32⟩
  | 46 => ⟨S1, .f32⟩
  | 47 => ⟨S_, .f32⟩
  | 48 => ⟨S1, .f32⟩
  | 49 => ⟨S1, .f32⟩
  | 50 => ⟨S1, .f32⟩
  | 51 => ⟨S1, .f32⟩
  | 52 => ⟨S1x1, .f32⟩
  | 53 => ⟨S128x100000, .f32⟩
  | 54 => ⟨S128x100000, .f32⟩
  | 55 => ⟨S_, .f32⟩
  | 56 => ⟨S1, .f32⟩
  | 57 => ⟨S1, .f32⟩
  | 58 => ⟨S1x1, .f32⟩
  | 59 => ⟨S128x1, .f32⟩
  | 60 => ⟨S128x1, .f32⟩
  | 61 => ⟨S128x100000, .f32⟩
  | 62 => ⟨S128x100000, .f32⟩
  | 63 => ⟨S_, .f32⟩
  | 64 => ⟨S_, .f32⟩
  | 65 => ⟨S128x100000, .f32⟩
  | 66 => ⟨S128x100000, .f32⟩
  | 67 => ⟨S128, .i32⟩
  | 68 => ⟨S128x1, .i32⟩
  | 69 => ⟨S_, .i32⟩
  | 70 => ⟨S128x1, .i32⟩
  | 71 => ⟨S128x1, .i1⟩
  | 72 => ⟨S_, .i32⟩
  | 73 => ⟨S128x1, .i32⟩
  | 74 => ⟨S128x1, .i32⟩
  | 75 => ⟨S128x1, .i32⟩
  | 76 => ⟨S_, .i32⟩
  | 77 => ⟨S128x1, .i32⟩
  | 78 => ⟨S128x1, .i1⟩
  | 79 => ⟨S_, .i32⟩
  | 80 => ⟨S128x1, .i32⟩
  | 81 => ⟨S128x1, .i32⟩
  | 82 => ⟨S128x1, .i32⟩
  | 83 => ⟨S128x1x1, .i32⟩
  | 84 => ⟨S128x1x1, .i32⟩
  | 85 => ⟨S128x1x2, .i32⟩
  | 86 => ⟨S_, .f32⟩
  | 87 => ⟨S128x1, .f32⟩
  | 88 => ⟨S128x100000, .f32⟩
  | 89 => ⟨S_, .f32⟩
  | 90 => ⟨S128, .f32⟩
  | 91 => ⟨S128x1, .f32⟩
  | 92 => ⟨S_, .f32⟩
  | 93 => ⟨S128x1, .f32⟩
  | 94 => ⟨S128x1, .f32⟩
  | 95 => ⟨S_, .f32⟩
  | 96 => ⟨S_, .f32⟩
  | 97 => ⟨S128x1, .f32⟩
  | 98 => ⟨S128x1, .f32⟩
  | 99 => ⟨S_, .i32⟩
  | 100 => ⟨S128x1, .i32⟩
  | 101 => ⟨S128x1, .i1⟩
  | 102 => ⟨S_, .i32⟩
  | 103 => ⟨S128x1, .i32⟩
  | 104 => ⟨S128x1, .i32⟩
  | 105 => ⟨S128x1, .i32⟩
  | 106 => ⟨S_, .i32⟩
  | 107 => ⟨S128x1, .i32⟩
  | 108 => ⟨S128x1, .i1⟩
  | 109 => ⟨S_, .i32⟩
  | 110 => ⟨S128x1, .i32⟩
  | 111 => ⟨S128x1, .i32⟩
  | 112 => ⟨S128x1, .i32⟩
  | 113 => ⟨S128x1x1, .i32⟩
  | 114 => ⟨S128x1x1, .i32⟩
  | 115 => ⟨S128x1x2, .i32⟩
  | 116 => ⟨S128x100000, .f32⟩
  | 117 => ⟨S128x100000, .f32⟩
  | 118 => ⟨S128x100000, .f32⟩
  | 119 => ⟨S128x100000, .f32⟩
  | 120 => ⟨S128x100000, .f32⟩
  | 121 => ⟨S_, .f32⟩
  | 122 => ⟨S_, .f32⟩
  | 123 => ⟨S128x100000, .f32⟩
  | 124 => ⟨S128x100000, .f32⟩
  | 125 => ⟨S128x100000, .f32⟩
  | 126 => ⟨S128x100000, .f32⟩
  | 127 => ⟨S128x100000, .i32⟩
  | _ => ⟨S128x1, .i32⟩

abbrev hbmTy0_1 (i : Nat) : BufTy := match i % 128 with
  | 0 => ⟨S_, .f32⟩
  | 1 => ⟨S_, .i32⟩
  | 2 => ⟨S128, .f32⟩
  | 3 => ⟨S128, .i32⟩
  | 4 => ⟨S128x1, .i32⟩
  | 5 => ⟨S1x100000, .i32⟩
  | 6 => ⟨S128x100000, .i32⟩
  | 7 => ⟨S128x100000, .i32⟩
  | 8 => ⟨S128x100000, .i1⟩
  | 9 => ⟨S128x100000, .f32⟩
  | _ => ⟨S128x1, .i32⟩

abbrev hbmTy (i : Nat) : BufTy := match i / 128 with
  | 0 => hbmTy0_0 i
  | 1 => hbmTy0_1 i
  | _ => ⟨S128x1, .i32⟩

abbrev bufTy : (tb : Table) → Fin (tcTables nBuf tb) → BufTy
  | .hbm, ⟨i, _⟩ => hbmTy i
  | _, _ => ⟨S128x1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_cst : Ref sig .tc := ⟨.hbm, 26, rfl⟩
abbrev main_call0_v14 : Ref sig .tc := ⟨.hbm, 27, rfl⟩
abbrev main_v0 : Ref sig .tc := ⟨.hbm, 28, rfl⟩
abbrev main_cst : Ref sig .tc := ⟨.hbm, 29, rfl⟩
abbrev main_v1 : Ref sig .tc := ⟨.hbm, 30, rfl⟩
abbrev main_v2 : Ref sig .tc := ⟨.hbm, 31, rfl⟩
abbrev main_cst_0 : Ref sig .tc := ⟨.hbm, 32, rfl⟩
abbrev main_v3 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_cst_2 : Ref sig .tc := ⟨.hbm, 40, rfl⟩
abbrev main_v7 : Ref sig .tc := ⟨.hbm, 41, rfl⟩
abbrev main_c : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_3 : Ref sig .tc := ⟨.hbm, 63, rfl⟩
abbrev main_call2_v0 : Ref sig .tc := ⟨.hbm, 64, rfl⟩
abbrev main_call2_v1 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_4 : Ref sig .tc := ⟨.hbm, 69, rfl⟩
abbrev main_v31 : Ref sig .tc := ⟨.hbm, 70, rfl⟩
abbrev main_v32 : Ref sig .tc := ⟨.hbm, 71, rfl⟩
abbrev main_c_5 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_c_6 : Ref sig .tc := ⟨.hbm, 76, rfl⟩
abbrev main_v36 : Ref sig .tc := ⟨.hbm, 77, rfl⟩
abbrev main_v37 : Ref sig .tc := ⟨.hbm, 78, rfl⟩
abbrev main_c_7 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_cst_8 : Ref sig .tc := ⟨.hbm, 86, rfl⟩
abbrev main_v44 : Ref sig .tc := ⟨.hbm, 87, rfl⟩
abbrev main_v45 : Ref sig .tc := ⟨.hbm, 88, rfl⟩
abbrev main_cst_9 : Ref sig .tc := ⟨.hbm, 89, rfl⟩
abbrev main_v46 : Ref sig .tc := ⟨.hbm, 90, rfl⟩
abbrev main_v47 : Ref sig .tc := ⟨.hbm, 91, rfl⟩
abbrev main_cst_10 : Ref sig .tc := ⟨.hbm, 92, rfl⟩
abbrev main_v48 : Ref sig .tc := ⟨.hbm, 93, rfl⟩
abbrev main_v49 : Ref sig .tc := ⟨.hbm, 94, rfl⟩
abbrev main_cst_11 : Ref sig .tc := ⟨.hbm, 95, rfl⟩
abbrev main_call3_v0 : Ref sig .tc := ⟨.hbm, 96, rfl⟩
abbrev main_call3_v1 : Ref sig .tc := ⟨.hbm, 97, rfl⟩
abbrev main_v50 : Ref sig .tc := ⟨.hbm, 98, rfl⟩
abbrev main_c_12 : Ref sig .tc := ⟨.hbm, 99, rfl⟩
abbrev main_v51 : Ref sig .tc := ⟨.hbm, 100, rfl⟩
abbrev main_v52 : Ref sig .tc := ⟨.hbm, 101, rfl⟩
abbrev main_c_13 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_c_14 : Ref sig .tc := ⟨.hbm, 106, rfl⟩
abbrev main_v56 : Ref sig .tc := ⟨.hbm, 107, rfl⟩
abbrev main_v57 : Ref sig .tc := ⟨.hbm, 108, rfl⟩
abbrev main_c_15 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_cst_16 : Ref sig .tc := ⟨.hbm, 121, rfl⟩
abbrev main_call4_v0 : Ref sig .tc := ⟨.hbm, 122, rfl⟩
abbrev main_call4_v1 : Ref sig .tc := ⟨.hbm, 123, rfl⟩
abbrev main_v69 : Ref sig .tc := ⟨.hbm, 124, rfl⟩
abbrev main_v70 : Ref sig .tc := ⟨.hbm, 125, rfl⟩
abbrev main_v71 : Ref sig .tc := ⟨.hbm, 126, rfl⟩
abbrev main_call5_v0 : Ref sig .tc := ⟨.hbm, 127, rfl⟩
abbrev main_call5_cst : Ref sig .tc := ⟨.hbm, 128, rfl⟩
abbrev main_call5_c : Ref sig .tc := ⟨.hbm, 129, rfl⟩
abbrev main_call5_v1_0 : Ref sig .tc := ⟨.hbm, 130, rfl⟩
abbrev main_v72 : Ref sig .tc := ⟨.hbm, 131, rfl⟩
abbrev main_call6_v0 : Ref sig .tc := ⟨.hbm, 132, rfl⟩
abbrev main_call6_v1 : Ref sig .tc := ⟨.hbm, 133, rfl⟩
abbrev main_call6_v2 : Ref sig .tc := ⟨.hbm, 134, rfl⟩
abbrev main_call6_v3 : Ref sig .tc := ⟨.hbm, 135, rfl⟩
abbrev main_call6_v4 : Ref sig .tc := ⟨.hbm, 136, rfl⟩
abbrev main_v73 : Ref sig .tc := ⟨.hbm, 137, rfl⟩

abbrev nD : Nat := 1
abbrev τ : Topo := Topo.v7x

variable {F : FTy → Type} [FloatOps F]
-- ==== Proof.Base.lean ====
module

public import proofs.«01_k».proof.Proof.Gen.KernelIdeal.Launch
public import Idealize.ShloMosaic.Lib.Pipeline.RegionsLoop

@[expose] public section

noncomputable section

namespace Cert.KernelIdeal.Run

open Cert.KernelIdeal.Gen
open Idealize.ShloMosaic Idealize.ShloMosaic.TcCoe
open Idealize.SL Idealize.SL.RA Idealize.SL.BI

/-- The user algebra of the run: two copies of the pipelines' component, one that the launch theorem seeds and one that
    the composed run of @main draws on. -/
abbrev URk : Type := IProdConst (Fin 2) (UR sig nD τ) × UR sig nD τ

/-- The one index of a one-element vector. -/
abbrev idx0_S1 : S1.Idx := fun i => ⟨0, by revert i; decide⟩

end Cert.KernelIdeal.Run

end
-- ==== Proof.Region0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The candidate kernel: the best of each row's candidates and its two certificates -/

/-- The resources a kernel body is proved over: the pipelines' own component of any user algebra that holds it. -/
local notation "𝕄" => MT nD τ sig Unit (Elt F) ℕ (URk) ℕ

-- The contents of the TensorCore's buffers when the region is entered.
variable (V : (c : Dev nD) → (b : Ref sig .tc) → Buf (Elt F) ((c : Thread nD τ).loc b))

/-- Window `w`'s block at point `t`, read out of the entry contents. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The whole of a buffer of shape `S128x1`. -/
abbrev r0_S128x1 : Rect S128x1 := Rect.unit (s := S128x1) ![0, 0] S128x1.size inb_S128x1_S128x1_0_0
/-- The whole of a buffer of shape `S1`. -/
abbrev r0_S1 : Rect S1 := Rect.unit (s := S1) ![0] S1.size inb_S1_S1_0
/-- The whole of a buffer of shape `S128x128`. -/
abbrev r0_S128x128 : Rect S128x128 := Rect.unit (s := S128x128) ![0, 0] S128x128.size inb_S128x128_S128x128_0_0

/-- What the body leaves in window 8's buffer, from the blocks of the operands. -/
def out0_8 (x0 : Vec F S128x1 .i32) (x1 : Vec F S128x1 .f32) (x2 : Vec F S128x1 .f32) (x3 : Vec F S128x1 .f32) (x4 : Vec F S1 .f32) (x5 : Vec F S128x128 .i32) (x6 : Vec F S128x128 .f32) (x7 : Vec F S128x128 .f32) : Vec F S128x1 .f32 :=
  View.canon [⟨r0_S128x1, k0_pay6 (x4 idx0_S1) (View.ld x5 r0_S128x128) (View.ld x6 r0_S128x128) (View.ld x0 r0_S128x1) (View.ld x7 r0_S128x128) (View.ld x1 r0_S128x1)⟩]

/-- One store of the whole buffer covers it. -/
theorem cover0_8 (p0 : Vec F S128x1 .f32) (y : S128x1.Idx) :
    ∃ pc ∈ ([⟨r0_S128x1, p0⟩] : List (View.Piece (Elt F) S128x1 .f32)), y ∈ pc.1.set :=
  View.cover_of_tiled [⟨r0_S128x1, p0⟩] S128x1.size (by rfl) y

/-- What the body leaves in window 9's buffer, from the blocks of the operands. -/
def out0_9 (x0 : Vec F S128x1 .i32) (x1 : Vec F S128x1 .f32) (x2 : Vec F S128x1 .f32) (x3 : Vec F S128x1 .f32) (x4 : Vec F S1 .f32) (x5 : Vec F S128x128 .i32) (x6 : Vec F S128x128 .f32) (x7 : Vec F S128x128 .f32) : Vec F S128x1 .i32 :=
  View.canon [⟨r0_S128x1, k0_pay7 (x4 idx0_S1) (View.ld x5 r0_S128x128) (View.ld x6 r0_S128x128) (View.ld x0 r0_S128x1) (View.ld x7 r0_S128x128) (View.ld x1 r0_S128x1)⟩]

/-- One store of the whole buffer covers it. -/
theorem cover0_9 (p0 : Vec F S128x1 .i32) (y : S128x1.Idx) :
    ∃ pc ∈ ([⟨r0_S128x1, p0⟩] : List (View.Piece (Elt F) S128x1 .i32)), y ∈ pc.1.set :=
  View.cover_of_tiled [⟨r0_S128x1, p0⟩] S128x1.size (by rfl) y

/-- What the body leaves in window 10's buffer, from the blocks of the operands. -/
def out0_10 (x0 : Vec F S128x1 .i32) (x1 : Vec F S128x1 .f32) (x2 : Vec F S128x1 .f32) (x3 : Vec F S128x1 .f32) (x4 : Vec F S1 .f32) (x5 : Vec F S128x128 .i32) (x6 : Vec F S128x128 .f32) (x7 : Vec F S128x128 .f32) : Vec F S128x1 .i32 :=
  View.canon [⟨r0_S128x1, k0_pay2 (k0_pay6 (x4 idx0_S1) (View.ld x5 r0_S128x128) (View.ld x6 r0_S128x128) (View.ld x0 r0_S128x1) (View.ld x7 r0_S128x128) (View.ld x1 r0_S128x1)) (View.ld x2 r0_S128x1) (View.ld x3 r0_S128x1)⟩]

/-- One store of the whole buffer covers it. -/
theorem cover0_10 (p0 : Vec F S128x1 .i32) (y : S128x1.Idx) :
    ∃ pc ∈ ([⟨r0_S128x1, p0⟩] : List (View.Piece (Elt F) S128x1 .i32)), y ∈ pc.1.set :=
  View.cover_of_tiled [⟨r0_S128x1, p0⟩] S128x1.size (by rfl) y

/-- What the body leaves in window 11's buffer, from the blocks of the operands. -/
def out0_11 (x0 : Vec F S128x1 .i32) (x1 : Vec F S128x1 .f32) (x2 : Vec F S128x1 .f32) (x3 : Vec F S128x1 .f32) (x4 : Vec F S1 .f32) (x5 : Vec F S128x128 .i32) (x6 : Vec F S128x128 .f32) (x7 : Vec F S128x128 .f32) : Vec F S128x1 .i32 :=
  View.canon [⟨r0_S128x1, k0_pay3 (k0_pay6 (x4 idx0_S1) (View.ld x5 r0_S128x128) (View.ld x6 r0_S128x128) (View.ld x0 r0_S128x1) (View.ld x7 r0_S128x128) (View.ld x1 r0_S128x1)) (View.ld x3 r0_S128x1)⟩]

/-- One store of the whole buffer covers it. -/
theorem cover0_11 (p0 : Vec F S128x1 .i32) (y : S128x1.Idx) :
    ∃ pc ∈ ([⟨r0_S128x1, p0⟩] : List (View.Piece (Elt F) S128x1 .i32)), y ∈ pc.1.set :=
  View.cover_of_tiled [⟨r0_S128x1, p0⟩] S128x1.size (by rfl) y

set_option maxHeartbeats 1000000 in
/-- The body on whole staging buffers runs to the continuation that holds the operands as they were and each result at
    its value. -/
theorem sound_kernel0 (c : Dev nD) (E : Set ℕ) (i : grid0.Coords) (arg1 : Memref sig .tc .vmem S128x1 .i32) (harg1 : arg1.IsWhole) (arg2 : Memref sig .tc .vmem S128x1 .f32) (harg2 : arg2.IsWhole) (arg3 : Memref sig .tc .vmem S128x1 .f32) (harg3 : arg3.IsWhole) (arg4 : Memref sig .tc .vmem S128x1 .f32) (harg4 : arg4.IsWhole) (arg5 : Memref sig .tc .smem S1 .f32) (harg5 : arg5.IsWhole) (arg6 : Memref sig .tc .vmem S128x128 .i32) (harg6 : arg6.IsWhole) (arg7 : Memref sig .tc .vmem S128x128 .f32) (harg7 : arg7.IsWhole) (arg8 : Memref sig .tc .vmem S128x128 .f32) (harg8 : arg8.IsWhole) (arg9 : Memref sig .tc .vmem S128x1 .f32) (harg9 : arg9.IsWhole) (arg10 : Memref sig .tc .vmem S128x1 .i32) (harg10 : arg10.IsWhole) (arg11 : Memref sig .tc .vmem S128x1 .i32) (harg11 : arg11.IsWhole) (arg12 : Memref sig .tc .vmem S128x1 .i32) (harg12 : arg12.IsWhole)
    (x0 : Vec F S128x1 .i32) (x1 : Vec F S128x1 .f32) (x2 : Vec F S128x1 .f32) (x3 : Vec F S128x1 .f32) (x4 : Vec F S1 .f32) (x5 : Vec F S128x128 .i32) (x6 : Vec F S128x128 .f32) (x7 : Vec F S128x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare (out0_8 x0 x1 x2 x3 x4 x5 x6 x7) ∗ owns (c : Thread nD τ) arg10 fullShare (out0_9 x0 x1 x2 x3 x4 x5 x6 x7) ∗ owns (c : Thread nD τ) arg11 fullShare (out0_10 x0 x1 x2 x3 x4 x5 x6 x7) ∗ owns (c : Thread nD τ) arg12 fullShare (out0_11 x0 x1 x2 x3 x4 x5 x6 x7)) -∗ K ⟨⟩))
      ⊢ wp frame (wpE (defs₀ (F := F)) Variants.none c none) E (cc0__cand_body i arg1 harg1 arg2 harg2 arg3 harg3 arg4 harg4 arg5 harg5 arg6 harg6 arg7 harg7 arg8 harg8 arg9 harg9 arg10 harg10 arg11 harg11 arg12 harg12) K := by
  simp only [cc0__cand_body_eq_skeleton]; unfold cc0__cand_body_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, Hk⟩
  subst hf0; subst hf1; subst hf2; subst hf3; subst hf4; subst hf5; subst hf6; subst hf7
  sl_exec
  sl_step
  have hs : sound_kernel0.sl.r c arg5 f4 = View.read (Elt F) arg5.view f4 idx0_S1 := by
    unfold sound_kernel0.sl.r
    refine congrArg (fun x => View.read (Elt F) arg5.view f4 x) ?_
    exact funext fun q => by fin_cases q; exact Fin.ext (by rfl)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    refine (View.read_writes_eq_canon _ _ _ (cover0_8 _)).trans ?_
    unfold out0_8 sound_kernel0.sl.r_1
    rw [hs]; rfl
  isplitl [H9]
  · iexists _; isplitr
    swap; · iexact H9
    ipureintro
    refine (View.read_writes_eq_canon _ _ _ (cover0_9 _)).trans ?_
    unfold out0_9 sound_kernel0.sl.r_2
    rw [hs]; rfl
  isplitl [H10]
  · iexists _; isplitr
    swap; · iexact H10
    ipureintro
    refine (View.read_writes_eq_canon _ _ _ (cover0_10 _)).trans ?_
    unfold out0_10 sound_kernel0.sl.r_1
    rw [hs]; rfl
  iexists _; isplitr
  swap; · iexact H11
  ipureintro
  refine (View.read_writes_eq_canon _ _ _ (cover0_11 _)).trans ?_
  unfold out0_11 sound_kernel0.sl.r_1
  rw [hs]; rfl

/-- The pipeline's proof data on core `c`: the arrays as entered, each operand's buffer left at its block, each
    result's at its value. -/
def dat0 (c : Dev nD) : Dat τ (Elt F) Unit ℕ (URk) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => out0_8 (iblk0 V c 0 t) (iblk0 V c 1 t) (iblk0 V c 2 t) (iblk0 V c 3 t) (iblk0 V c 4 t) (iblk0 V c 5 t) (iblk0 V c 6 t) (iblk0 V c 7 t)
    | ⟨9, _⟩ => out0_9 (iblk0 V c 0 t) (iblk0 V c 1 t) (iblk0 V c 2 t) (iblk0 V c 3 t) (iblk0 V c 4 t) (iblk0 V c 5 t) (iblk0 V c 6 t) (iblk0 V c 7 t)
    | ⟨10, _⟩ => out0_10 (iblk0 V c 0 t) (iblk0 V c 1 t) (iblk0 V c 2 t) (iblk0 V c 3 t) (iblk0 V c 4 t) (iblk0 V c 5 t) (iblk0 V c 6 t) (iblk0 V c 7 t)
    | ⟨11, _⟩ => out0_11 (iblk0 V c 0 t) (iblk0 V c 1 t) (iblk0 V c 2 t) (iblk0 V c 3 t) (iblk0 V c 4 t) (iblk0 V c 5 t) (iblk0 V c 6 t) (iblk0 V c 7 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = out0_8 (iblk0 V c 0 t) (iblk0 V c 1 t) (iblk0 V c 2 t) (iblk0 V c 3 t) (iblk0 V c 4 t) (iblk0 V c 5 t) (iblk0 V c 6 t) (iblk0 V c 7 t) := by dsimp only [dat0]
theorem after0_9 (c : Dev nD) (t : Fin cfg0.N) : (dat0 V c).after 9 t = out0_9 (iblk0 V c 0 t) (iblk0 V c 1 t) (iblk0 V c 2 t) (iblk0 V c 3 t) (iblk0 V c 4 t) (iblk0 V c 5 t) (iblk0 V c 6 t) (iblk0 V c 7 t) := by dsimp only [dat0]
theorem after0_10 (c : Dev nD) (t : Fin cfg0.N) : (dat0 V c).after 10 t = out0_10 (iblk0 V c 0 t) (iblk0 V c 1 t) (iblk0 V c 2 t) (iblk0 V c 3 t) (iblk0 V c 4 t) (iblk0 V c 5 t) (iblk0 V c 6 t) (iblk0 V c 7 t) := by dsimp only [dat0]
theorem after0_11 (c : Dev nD) (t : Fin cfg0.N) : (dat0 V c).after 11 t = out0_11 (iblk0 V c 0 t) (iblk0 V c 1 t) (iblk0 V c 2 t) (iblk0 V c 3 t) (iblk0 V c 4 t) (iblk0 V c 5 t) (iblk0 V c 6 t) (iblk0 V c 7 t) := by dsimp only [dat0]

/-- Operand 0's current buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
/-- Operand 1's current buffer holds its block at every point. -/
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
/-- Operand 2's current buffer holds its block at every point. -/
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
/-- Operand 3's current buffer holds its block at every point. -/
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
/-- Operand 4's current buffer holds its block at every point. -/
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
/-- Operand 5's current buffer holds its block at every point. -/
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
/-- Operand 6's current buffer holds its block at every point. -/
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
/-- Operand 7's current buffer holds its block at every point. -/
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)

/-- What the body is called with at point `t`, the windows one by one. -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d)))

/-- What it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel0 c Set.univ (grid0.coords t) _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  isplitl [H10]; · iexists _; iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row0 (t : Fin cfg0.N) :
    defs₀ (F := F) .tc cfg0.body (cfg0.bodyArgs t (cfg0.slots t)) = bodyAt0 t := by
  unfold defs₀; rw [Defs.onTc_tc]

/-- The body obligation of the pipeline, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- Each operand's array, and only a result's, may be written back. -/
theorem exit_of0 (c : Dev nD) (W0 : Valuation τ sig (Elt F)) (hV : ∀ b : Ref sig .tc, V c b = W0 b) (r : Ref sig .tc)
    (h : ∀ w : Fin cfg0.W, Pipeline.arrRef spec0 w = r → (cfg0.win w).isOut = false) :
    Pipeline.withArrays spec0 c W0 (fun w => (dat0 V c).arrAt w cfg0.N) (Proc.devRef .tc r) = W0 (Proc.devRef .tc r) := by
  by_cases hw : ∃ w : Fin cfg0.W, Pipeline.arrRef spec0 w = r
  · obtain ⟨w, rfl⟩ := hw
    exact (Pipeline.withArrays_arr spec0 (launch0 (F := F)).win.arr_inj c _ _ w).trans
      (((dat0 V c).arrAt_in w (h w rfl) _).trans ((A_eq0 V c w).trans (hV _)))
  · exact Pipeline.withArrays_of_ne spec0 c _ _ r fun w e => hw ⟨w, e⟩

end Cert.KernelIdeal.Run

end
-- ==== Proof.Region1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The fused kernel: a block of rows sampled from every column -/

/-- The resources a kernel body is proved over: the pipelines' own component of any user algebra that holds it. -/
local notation "𝕄" => MT nD τ sig Unit (Elt F) ℕ (URk) ℕ

-- The contents of the TensorCore's buffers when the region is entered.
variable (V : (c : Dev nD) → (b : Ref sig .tc) → Buf (Elt F) ((c : Thread nD τ).loc b))

/-- Window `w`'s block at point `t`, read out of the entry contents. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole of a buffer of shape `S16x1`. -/
abbrev r1_S16x1 : Rect S16x1 := Rect.unit (s := S16x1) ![0, 0] S16x1.size inb_S16x1_S16x1_0_0
/-- The whole of a buffer of shape `S1`. -/
abbrev r1_S1 : Rect S1 := Rect.unit (s := S1) ![0] S1.size inb_S1_S1_0
/-- The whole of a buffer of shape `S16x100000`. -/
abbrev r1_S16x100000 : Rect S16x100000 := Rect.unit (s := S16x100000) ![0, 0] S16x100000.size inb_S16x100000_S16x100000_0_0

/-- What the body leaves in window 6's buffer, from the blocks of the operands. -/
def out1_6 (x0 : Vec F S16x1 .i32) (x1 : Vec F S16x1 .f32) (x2 : Vec F S16x1 .f32) (x3 : Vec F S1 .f32) (x4 : Vec F S16x100000 .f32) (x5 : Vec F S16x100000 .f32) : Vec F S16x100000 .f32 :=
  View.canon [⟨r1_S16x100000, k1_pay1 (iota .tc S16x100000 32 [1] iota_S16x100000_d1_w32) (View.ld x0 r1_S16x1) (k1_pay4 (x3 idx0_S1) (View.ld x4 r1_S16x100000) (View.ld x0 r1_S16x1) (View.ld x1 r1_S16x1)) (k1_pay6 (x3 idx0_S1) (View.ld x4 r1_S16x100000) (View.ld x5 r1_S16x100000) (View.ld x0 r1_S16x1) (View.ld x1 r1_S16x1)) (k1_pay7 (x3 idx0_S1) (View.ld x4 r1_S16x100000) (View.ld x5 r1_S16x100000) (View.ld x0 r1_S16x1) (View.ld x1 r1_S16x1)) (View.ld x2 r1_S16x1)⟩]

/-- One store of the whole buffer covers it. -/
theorem cover1_6 (p0 : Vec F S16x100000 .f32) (y : S16x100000.Idx) :
    ∃ pc ∈ ([⟨r1_S16x100000, p0⟩] : List (View.Piece (Elt F) S16x100000 .f32)), y ∈ pc.1.set :=
  View.cover_of_tiled [⟨r1_S16x100000, p0⟩] S16x100000.size (by rfl) y

set_option maxHeartbeats 1000000 in
/-- The body on whole staging buffers runs to the continuation that holds the operands as they were and each result at
    its value. -/
theorem sound_kernel1 (c : Dev nD) (E : Set ℕ) (i : grid1.Coords) (arg1 : Memref sig .tc .vmem S16x1 .i32) (harg1 : arg1.IsWhole) (arg2 : Memref sig .tc .vmem S16x1 .f32) (harg2 : arg2.IsWhole) (arg3 : Memref sig .tc .vmem S16x1 .f32) (harg3 : arg3.IsWhole) (arg4 : Memref sig .tc .smem S1 .f32) (harg4 : arg4.IsWhole) (arg5 : Memref sig .tc .vmem S16x100000 .f32) (harg5 : arg5.IsWhole) (arg6 : Memref sig .tc .vmem S16x100000 .f32) (harg6 : arg6.IsWhole) (arg7 : Memref sig .tc .vmem S16x100000 .f32) (harg7 : arg7.IsWhole)
    (x0 : Vec F S16x1 .i32) (x1 : Vec F S16x1 .f32) (x2 : Vec F S16x1 .f32) (x3 : Vec F S1 .f32) (x4 : Vec F S16x100000 .f32) (x5 : Vec F S16x100000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (out1_6 x0 x1 x2 x3 x4 x5)) -∗ K ⟨⟩))
      ⊢ wp frame (wpE (defs₀ (F := F)) Variants.none c none) E (cc1__fused_body i arg1 harg1 arg2 harg2 arg3 harg3 arg4 harg4 arg5 harg5 arg6 harg6 arg7 harg7) K := by
  simp only [cc1__fused_body_eq_skeleton]; unfold cc1__fused_body_skel
  simp only [k1_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0; subst hf1; subst hf2; subst hf3; subst hf4; subst hf5
  sl_exec
  sl_step
  have hs : sound_kernel1.sl.r c arg4 f3 = View.read (Elt F) arg4.view f3 idx0_S1 := by
    unfold sound_kernel1.sl.r
    refine congrArg (fun x => View.read (Elt F) arg4.view f3 x) ?_
    exact funext fun q => by fin_cases q; exact Fin.ext (by rfl)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  refine (View.read_writes_eq_canon _ _ _ (cover1_6 _)).trans ?_
  unfold out1_6 sound_kernel1.sl.v9 sound_kernel1.sl.r_1 sound_kernel1.sl.r_2 sound_kernel1.sl.r_3 sound_kernel1.sl.r_4
  rw [hs]; rfl

/-- The pipeline's proof data on core `c`: the arrays as entered, each operand's buffer left at its block, each
    result's at its value. -/
def dat1 (c : Dev nD) : Dat τ (Elt F) Unit ℕ (URk) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => out1_6 (iblk1 V c 0 t) (iblk1 V c 1 t) (iblk1 V c 2 t) (iblk1 V c 3 t) (iblk1 V c 4 t) (iblk1 V c 5 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = out1_6 (iblk1 V c 0 t) (iblk1 V c 1 t) (iblk1 V c 2 t) (iblk1 V c 3 t) (iblk1 V c 4 t) (iblk1 V c 5 t) := by dsimp only [dat1]

/-- Operand 0's current buffer holds its block at every point. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
/-- Operand 1's current buffer holds its block at every point. -/
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
/-- Operand 2's current buffer holds its block at every point. -/
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)
/-- Operand 3's current buffer holds its block at every point. -/
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; unfold Dat.blockOf iblk1; rw [A_eq1]; try rfl) t d).trans
    (by unfold Dat.fetched Dat.blockOf iblk1; rw [A_eq1]; try rfl)
/-- Operand 4's current buffer holds its block at every point. -/
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; unfold Dat.blockOf iblk1; rw [A_eq1]; try rfl) t d).trans
    (by unfold Dat.fetched Dat.blockOf iblk1; rw [A_eq1]; try rfl)
/-- Operand 5's current buffer holds its block at every point. -/
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; unfold Dat.blockOf iblk1; rw [A_eq1]; try rfl) t d).trans
    (by unfold Dat.fetched Dat.blockOf iblk1; rw [A_eq1]; try rfl)

/-- What the body is called with at point `t`, the windows one by one. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t))

/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel1 c Set.univ (grid1.coords t) _ _ _ _ _ _ _ _ _ _ _ _ _ _ (iblk1 V c 0 t) (iblk1 V c 1 t) (iblk1 V c 2 t) (iblk1 V c 3 t) (iblk1 V c 4 t) (iblk1 V c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row1 (t : Fin cfg1.N) :
    defs₀ (F := F) .tc cfg1.body (cfg1.bodyArgs t (cfg1.slots t)) = bodyAt1 t := by
  unfold defs₀; rw [Defs.onTc_tc]

/-- The body obligation of the pipeline, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- Each operand's array, and only a result's, may be written back. -/
theorem exit_of1 (c : Dev nD) (W0 : Valuation τ sig (Elt F)) (hV : ∀ b : Ref sig .tc, V c b = W0 b) (r : Ref sig .tc)
    (h : ∀ w : Fin cfg1.W, Pipeline.arrRef spec1 w = r → (cfg1.win w).isOut = false) :
    Pipeline.withArrays spec1 c W0 (fun w => (dat1 V c).arrAt w cfg1.N) (Proc.devRef .tc r) = W0 (Proc.devRef .tc r) := by
  by_cases hw : ∃ w : Fin cfg1.W, Pipeline.arrRef spec1 w = r
  · obtain ⟨w, rfl⟩ := hw
    exact (Pipeline.withArrays_arr spec1 (launch1 (F := F)).win.arr_inj c _ _ w).trans
      (((dat1 V c).arrAt_in w (h w rfl) _).trans ((A_eq1 V c w).trans (hV _)))
  · exact Pipeline.withArrays_of_ne spec1 c _ _ r fun w e => hw ⟨w, e⟩

end Cert.KernelIdeal.Run

end
-- ==== Proof.Region2.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The lite kernel: the listed blocks of rows sampled from the certified best -/

/-- The resources a kernel body is proved over: the pipelines' own component of any user algebra that holds it. -/
local notation "𝕄" => MT nD τ sig Unit (Elt F) ℕ (URk) ℕ

-- The contents of the TensorCore's buffers when the region is entered.
variable (V : (c : Dev nD) → (b : Ref sig .tc) → Buf (Elt F) ((c : Thread nD τ).loc b))

/-- Window `w`'s block at point `t`, read out of the entry contents. -/
def iblk2 (a : (pcfg2 (F := F)).Adm) (c : Dev nD) (w : Fin (cfg2 a).W) (t : Fin (cfg2 a).N) : (((cfg2 a).win w).xblock ((cfg2 a).grid.coords t)).Idx → Elt F ((cfg2 a).win w).elt :=
  (((cfg2 a).win w).blk t).view.read (Elt F) (V c (Pipeline.arrRef spec2 w))

/-- The whole of a buffer of shape `S16x1`. -/
abbrev r2_S16x1 : Rect S16x1 := Rect.unit (s := S16x1) ![0, 0] S16x1.size inb_S16x1_S16x1_0_0
/-- The whole of a buffer of shape `S1`. -/
abbrev r2_S1 : Rect S1 := Rect.unit (s := S1) ![0] S1.size inb_S1_S1_0
/-- The whole of a buffer of shape `S16x100000`. -/
abbrev r2_S16x100000 : Rect S16x100000 := Rect.unit (s := S16x100000) ![0, 0] S16x100000.size inb_S16x100000_S16x100000_0_0

/-- What the body leaves in window 7's buffer, from the blocks of the operands. -/
def out2_7 (x0 : Vec F S16x1 .i32) (x1 : Vec F S16x1 .f32) (x2 : Vec F S16x1 .f32) (x3 : Vec F S16x1 .f32) (x4 : Vec F S16x1 .i32) (x5 : Vec F S1 .f32) (x6 : Vec F S16x100000 .f32) : Vec F S16x1 .i32 :=
  View.canon [⟨r2_S16x1, k2_pay1 (View.ld x0 r2_S16x1) (k2_pay4 (View.ld x4 r2_S16x1)) (k2_pay5 (x5 idx0_S1) (View.ld x6 r2_S16x100000) (View.ld x0 r2_S16x1) (View.ld x1 r2_S16x1) (View.ld x2 r2_S16x1) (View.ld x3 r2_S16x1)) (k2_pay6 (x5 idx0_S1) (View.ld x6 r2_S16x100000) (View.ld x0 r2_S16x1) (View.ld x1 r2_S16x1) (View.ld x2 r2_S16x1) (View.ld x3 r2_S16x1) (View.ld x4 r2_S16x1))⟩]

/-- One store of the whole buffer covers it. -/
theorem cover2_7 (p0 : Vec F S16x1 .i32) (y : S16x1.Idx) :
    ∃ pc ∈ ([⟨r2_S16x1, p0⟩] : List (View.Piece (Elt F) S16x1 .i32)), y ∈ pc.1.set :=
  View.cover_of_tiled [⟨r2_S16x1, p0⟩] S16x1.size (by rfl) y

set_option maxHeartbeats 1000000 in
/-- The body on whole staging buffers runs to the continuation that holds the operands as they were and each result at
    its value. -/
theorem sound_kernel2 (c : Dev nD) (E : Set ℕ) (i : grid2.Coords) (argt : Memref sig .tc .smem S2 .i32) (hargt : argt.IsWhole) (arg1 : Memref sig .tc .vmem S16x1 .i32) (harg1 : arg1.IsWhole) (arg2 : Memref sig .tc .vmem S16x1 .f32) (harg2 : arg2.IsWhole) (arg3 : Memref sig .tc .vmem S16x1 .f32) (harg3 : arg3.IsWhole) (arg4 : Memref sig .tc .vmem S16x1 .f32) (harg4 : arg4.IsWhole) (arg5 : Memref sig .tc .vmem S16x1 .i32) (harg5 : arg5.IsWhole) (arg6 : Memref sig .tc .smem S1 .f32) (harg6 : arg6.IsWhole) (arg7 : Memref sig .tc .vmem S16x100000 .f32) (harg7 : arg7.IsWhole) (arg8 : Memref sig .tc .vmem S16x1 .i32) (harg8 : arg8.IsWhole)
    (x0 : Vec F S16x1 .i32) (x1 : Vec F S16x1 .f32) (x2 : Vec F S16x1 .f32) (x3 : Vec F S16x1 .f32) (x4 : Vec F S16x1 .i32) (x5 : Vec F S1 .f32) (x6 : Vec F S16x100000 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out2_7 x0 x1 x2 x3 x4 x5 x6)) -∗ K ⟨⟩))
      ⊢ wp frame (wpE (defs₀ (F := F)) Variants.none c none) E (cc2__lite_body i argt hargt arg1 harg1 arg2 harg2 arg3 harg3 arg4 harg4 arg5 harg5 arg6 harg6 arg7 harg7 arg8 harg8) K := by
  simp only [cc2__lite_body_eq_skeleton]; unfold cc2__lite_body_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  have hs : sound_kernel2.sl.r c arg6 f5 = View.read (Elt F) arg6.view f5 idx0_S1 := by
    unfold sound_kernel2.sl.r
    refine congrArg (fun x => View.read (Elt F) arg6.view f5 x) ?_
    exact funext fun q => by fin_cases q; exact Fin.ext (by rfl)
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  refine (View.read_writes_eq_canon _ _ _ (cover2_7 _)).trans ?_
  unfold out2_7 sound_kernel2.sl.r_1 sound_kernel2.sl.r_2 sound_kernel2.sl.r_3 sound_kernel2.sl.r_4
  rw [hs]; rfl

/-- The pipeline's proof data on core `c`: the arrays as entered, each operand's buffer left at its block, each
    result's at its value. -/
def dat2 (a : (pcfg2 (F := F)).Adm) (c : Dev nD) : Dat τ (Elt F) Unit ℕ (URk) ℕ (cfg2 a) c where
  A w := V c (Pipeline.arrRef spec2 w)
  after w t := match w with
    | ⟨0, _⟩ => iblk2 V a c 0 t
    | ⟨1, _⟩ => iblk2 V a c 1 t
    | ⟨2, _⟩ => iblk2 V a c 2 t
    | ⟨3, _⟩ => iblk2 V a c 3 t
    | ⟨4, _⟩ => iblk2 V a c 4 t
    | ⟨5, _⟩ => iblk2 V a c 5 t
    | ⟨6, _⟩ => iblk2 V a c 6 t
    | ⟨7, _⟩ => out2_7 (iblk2 V a c 0 t) (iblk2 V a c 1 t) (iblk2 V a c 2 t) (iblk2 V a c 3 t) (iblk2 V a c 4 t) (iblk2 V a c 5 t) (iblk2 V a c 6 t)
  Φ _ := iprop(Pipeline.ΦA spec2 c ∗ Pipeline.prefHeld pre2 c (fun _ => fullShare) a.1)
  q _ := fullShare
  owed _ := 0

theorem A_eq2 (a : (pcfg2 (F := F)).Adm) (c : Dev nD) (w : Fin (cfg2 a).W) : (dat2 V a c).A w = V c (Pipeline.arrRef spec2 w) := by
  dsimp only [dat2]

theorem after2_0 (a : (pcfg2 (F := F)).Adm) (c : Dev nD) (t : Fin (cfg2 a).N) : (dat2 V a c).after 0 t = iblk2 V a c 0 t := by dsimp only [dat2]; try rfl
theorem after2_1 (a : (pcfg2 (F := F)).Adm) (c : Dev nD) (t : Fin (cfg2 a).N) : (dat2 V a c).after 1 t = iblk2 V a c 1 t := by dsimp only [dat2]; try rfl
theorem after2_2 (a : (pcfg2 (F := F)).Adm) (c : Dev nD) (t : Fin (cfg2 a).N) : (dat2 V a c).after 2 t = iblk2 V a c 2 t := by dsimp only [dat2]; try rfl
theorem after2_3 (a : (pcfg2 (F := F)).Adm) (c : Dev nD) (t : Fin (cfg2 a).N) : (dat2 V a c).after 3 t = iblk2 V a c 3 t := by dsimp only [dat2]; try rfl
theorem after2_4 (a : (pcfg2 (F := F)).Adm) (c : Dev nD) (t : Fin (cfg2 a).N) : (dat2 V a c).after 4 t = iblk2 V a c 4 t := by dsimp only [dat2]; try rfl
theorem after2_5 (a : (pcfg2 (F := F)).Adm) (c : Dev nD) (t : Fin (cfg2 a).N) : (dat2 V a c).after 5 t = iblk2 V a c 5 t := by dsimp only [dat2]; try rfl
theorem after2_6 (a : (pcfg2 (F := F)).Adm) (c : Dev nD) (t : Fin (cfg2 a).N) : (dat2 V a c).after 6 t = iblk2 V a c 6 t := by dsimp only [dat2]; try rfl
theorem after2_7 (a : (pcfg2 (F := F)).Adm) (c : Dev nD) (t : Fin (cfg2 a).N) : (dat2 V a c).after 7 t = out2_7 (iblk2 V a c 0 t) (iblk2 V a c 1 t) (iblk2 V a c 2 t) (iblk2 V a c 3 t) (iblk2 V a c 4 t) (iblk2 V a c 5 t) (iblk2 V a c 6 t) := by dsimp only [dat2]; try rfl

/-- Operand 0's current buffer holds its block at every point. -/
theorem before2_0 (a : (pcfg2 (F := F)).Adm) (c : Dev nD) (t : Fin (cfg2 a).N) (d) : (dat2 V a c).before 0 t d = iblk2 V a c 0 t :=
  ((dat2 V a c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
/-- Operand 1's current buffer holds its block at every point. -/
theorem before2_1 (a : (pcfg2 (F := F)).Adm) (c : Dev nD) (t : Fin (cfg2 a).N) (d) : (dat2 V a c).before 1 t d = iblk2 V a c 1 t :=
  ((dat2 V a c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)
/-- Operand 2's current buffer holds its block at every point. -/
theorem before2_2 (a : (pcfg2 (F := F)).Adm) (c : Dev nD) (t : Fin (cfg2 a).N) (d) : (dat2 V a c).before 2 t d = iblk2 V a c 2 t :=
  ((dat2 V a c).before_in_eq_fetched 2 rfl (fun _ => rfl) (fun _ _ _ => rfl) (fun t => by rw [after2_2]; unfold Dat.blockOf iblk2; rw [A_eq2]; try rfl) t d).trans
    (by unfold Dat.fetched Dat.blockOf iblk2; rw [A_eq2]; try rfl)
/-- Operand 3's current buffer holds its block at every point. -/
theorem before2_3 (a : (pcfg2 (F := F)).Adm) (c : Dev nD) (t : Fin (cfg2 a).N) (d) : (dat2 V a c).before 3 t d = iblk2 V a c 3 t :=
  ((dat2 V a c).before_in_eq_fetched 3 rfl (fun _ => rfl) (fun _ _ _ => rfl) (fun t => by rw [after2_3]; unfold Dat.blockOf iblk2; rw [A_eq2]; try rfl) t d).trans
    (by unfold Dat.fetched Dat.blockOf iblk2; rw [A_eq2]; try rfl)
/-- Operand 4's current buffer holds its block at every point. -/
theorem before2_4 (a : (pcfg2 (F := F)).Adm) (c : Dev nD) (t : Fin (cfg2 a).N) (d) : (dat2 V a c).before 4 t d = iblk2 V a c 4 t :=
  ((dat2 V a c).before_in_eq_fetched 4 rfl (fun _ => rfl) (fun _ _ _ => rfl) (fun t => by rw [after2_4]; unfold Dat.blockOf iblk2; rw [A_eq2]; try rfl) t d).trans
    (by unfold Dat.fetched Dat.blockOf iblk2; rw [A_eq2]; try rfl)
/-- Operand 5's current buffer holds its block at every point. -/
theorem before2_5 (a : (pcfg2 (F := F)).Adm) (c : Dev nD) (t : Fin (cfg2 a).N) (d) : (dat2 V a c).before 5 t d = iblk2 V a c 5 t :=
  ((dat2 V a c).before_in_eq_fetched 5 rfl (fun _ => rfl) (fun _ _ _ => rfl) (fun t => by rw [after2_5]; unfold Dat.blockOf iblk2; rw [A_eq2]; try rfl) t d).trans
    (by unfold Dat.fetched Dat.blockOf iblk2; rw [A_eq2]; try rfl)
/-- Operand 6's current buffer holds its block at every point. -/
theorem before2_6 (a : (pcfg2 (F := F)).Adm) (c : Dev nD) (t : Fin (cfg2 a).N) (d) : (dat2 V a c).before 6 t d = iblk2 V a c 6 t :=
  ((dat2 V a c).before_in_eq_fetched 6 rfl (fun _ => rfl) (fun _ _ _ => rfl) (fun t => by rw [after2_6]; unfold Dat.blockOf iblk2; rw [A_eq2]; try rfl) t d).trans
    (by unfold Dat.fetched Dat.blockOf iblk2; rw [A_eq2]; try rfl)

/-- Window 0's current staging buffer at point `t`. -/
abbrev st2_0 (a : (pcfg2 (F := F)).Adm) (t : Fin (cfg2 a).N) := spec2_0.stage ((cfg2 a).slots t 0)
/-- Window 1's current staging buffer at point `t`. -/
abbrev st2_1 (a : (pcfg2 (F := F)).Adm) (t : Fin (cfg2 a).N) := spec2_1.stage ((cfg2 a).slots t 1)
/-- Window 2's current staging buffer at point `t`. -/
abbrev st2_2 (a : (pcfg2 (F := F)).Adm) (t : Fin (cfg2 a).N) := spec2_2.stage ((cfg2 a).slots t 2)
/-- Window 3's current staging buffer at point `t`. -/
abbrev st2_3 (a : (pcfg2 (F := F)).Adm) (t : Fin (cfg2 a).N) := spec2_3.stage ((cfg2 a).slots t 3)
/-- Window 4's current staging buffer at point `t`. -/
abbrev st2_4 (a : (pcfg2 (F := F)).Adm) (t : Fin (cfg2 a).N) := spec2_4.stage ((cfg2 a).slots t 4)
/-- Window 5's current staging buffer at point `t`. -/
abbrev st2_5 (a : (pcfg2 (F := F)).Adm) (t : Fin (cfg2 a).N) := spec2_5.stage ((cfg2 a).slots t 5)
/-- Window 6's current staging buffer at point `t`. -/
abbrev st2_6 (a : (pcfg2 (F := F)).Adm) (t : Fin (cfg2 a).N) := spec2_6.stage ((cfg2 a).slots t 6)
/-- Window 7's current staging buffer at point `t`. -/
abbrev st2_7 (a : (pcfg2 (F := F)).Adm) (t : Fin (cfg2 a).N) := spec2_7.stage ((cfg2 a).slots t 7)
/-- The body at point `t`, called with the table and the current staging buffers. -/
def bodyAt2 (a : (pcfg2 (F := F)).Adm) (t : Fin (cfg2 a).N) : Prog (TpuEff nD τ sig (Elt F) Λ₀ .tc) PUnit :=
  cc2__lite_body (grid2.coords t) (Memref.whole main_v41) (Memref.isWhole_whole _) (st2_0 a t) (hstage2_0 (((cfg2 a).slots t 0).cast nbuf2_0)) (st2_1 a t) (hstage2_1 (((cfg2 a).slots t 1).cast nbuf2_1)) (st2_2 a t) (hstage2_2 (((cfg2 a).slots t 2).cast nbuf2_2)) (st2_3 a t) (hstage2_3 (((cfg2 a).slots t 3).cast nbuf2_3)) (st2_4 a t) (hstage2_4 (((cfg2 a).slots t 4).cast nbuf2_4)) (st2_5 a t) (hstage2_5 (((cfg2 a).slots t 5).cast nbuf2_5)) (st2_6 a t) (hstage2_6 (((cfg2 a).slots t 6).cast nbuf2_6)) (st2_7 a t) (hstage2_7 (((cfg2 a).slots t 7).cast nbuf2_7))

/-- What the body is called with at point `t`, the windows one by one. -/
def bodyPre2 (a : (pcfg2 (F := F)).Adm) (c : Dev nD) (t : Fin (cfg2 a).N) : sProp 𝕄 :=
  iprop((dat2 V a c).Φ t.castSucc ∗ (dat2 V a c).owesAt () t.castSucc
    ∗ (∃ d, owns (c : Thread nD τ) (st2_0 a t) fullShare ((dat2 V a c).before 0 t d))
    ∗ (∃ d, owns (c : Thread nD τ) (st2_1 a t) fullShare ((dat2 V a c).before 1 t d))
    ∗ (∃ d, owns (c : Thread nD τ) (st2_2 a t) fullShare ((dat2 V a c).before 2 t d))
    ∗ (∃ d, owns (c : Thread nD τ) (st2_3 a t) fullShare ((dat2 V a c).before 3 t d))
    ∗ (∃ d, owns (c : Thread nD τ) (st2_4 a t) fullShare ((dat2 V a c).before 4 t d))
    ∗ (∃ d, owns (c : Thread nD τ) (st2_5 a t) fullShare ((dat2 V a c).before 5 t d))
    ∗ (∃ d, owns (c : Thread nD τ) (st2_6 a t) fullShare ((dat2 V a c).before 6 t d))
    ∗ (∃ d, owns (c : Thread nD τ) (st2_7 a t) fullShare ((dat2 V a c).before 7 t d)))

/-- What it returns. -/
def bodyPost2 (a : (pcfg2 (F := F)).Adm) (c : Dev nD) (t : Fin (cfg2 a).N) : sProp 𝕄 :=
  iprop((dat2 V a c).Φ t.succ ∗ (dat2 V a c).owesAt () t.succ
    ∗ owns (c : Thread nD τ) (st2_0 a t) fullShare ((dat2 V a c).after 0 t)
    ∗ owns (c : Thread nD τ) (st2_1 a t) fullShare ((dat2 V a c).after 1 t)
    ∗ owns (c : Thread nD τ) (st2_2 a t) fullShare ((dat2 V a c).after 2 t)
    ∗ owns (c : Thread nD τ) (st2_3 a t) fullShare ((dat2 V a c).after 3 t)
    ∗ owns (c : Thread nD τ) (st2_4 a t) fullShare ((dat2 V a c).after 4 t)
    ∗ owns (c : Thread nD τ) (st2_5 a t) fullShare ((dat2 V a c).after 5 t)
    ∗ owns (c : Thread nD τ) (st2_6 a t) fullShare ((dat2 V a c).after 6 t)
    ∗ owns (c : Thread nD τ) (st2_7 a t) fullShare ((dat2 V a c).after 7 t))

/-- The body at any point. -/
theorem sound_body2 (a : (pcfg2 (F := F)).Adm) (c : Dev nD) (t : Fin (cfg2 a).N) :
    bodyPre2 V a c t ⊢ wp frame (wpE (defs₀ (F := F)) Variants.none c none) Set.univ (bodyAt2 a t) (fun _ => bodyPost2 V a c t) := by
  unfold bodyPre2 bodyPost2 bodyAt2
  simp only [before2_0, before2_1, before2_2, before2_3, before2_4, before2_5, before2_6]
  rw [show (dat2 V a c).Φ t.succ = (dat2 V a c).Φ t.castSucc from rfl,
    show (dat2 V a c).owesAt () t.succ = (dat2 V a c).owesAt () t.castSucc from rfl,
    after2_0, after2_1, after2_2, after2_3, after2_4, after2_5, after2_6, after2_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel2 c Set.univ (grid2.coords t) _ _ _ _ _ _ _ _ _ _ _ _ _ _ _ _ _ _ (iblk2 V a c 0 t) (iblk2 V a c 1 t) (iblk2 V a c 2 t) (iblk2 V a c 3 t) (iblk2 V a c 4 t) (iblk2 V a c 5 t) (iblk2 V a c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row2 (a : (pcfg2 (F := F)).Adm) (t : Fin (cfg2 a).N) :
    defs₀ (F := F) .tc (cfg2 a).body ((cfg2 a).bodyArgs t ((cfg2 a).slots t)) = bodyAt2 a t := by
  unfold defs₀; rw [Defs.onTc_tc]; rfl

/-- The body obligation of the pipeline, at every point. -/
theorem body_obligation2 (a : (pcfg2 (F := F)).Adm) (c : Dev nD) : BodyObligation (dat2 (F := F) V a c) (defs₀ (F := F)) Variants.none () Set.univ := fun t => by
  rw [bigSep_W2, bigSep_W2, defs₀_row2]
  exact triple_restated (sound_body2 V a c t) rfl .rfl fun _ => .rfl

/-- Each operand's array, and only a result's, may be written back. -/
theorem exit_of2 (a : (pcfg2 (F := F)).Adm) (c : Dev nD) (W0 : Valuation τ sig (Elt F)) (hV : ∀ b : Ref sig .tc, V c b = W0 b) (r : Ref sig .tc)
    (h : ∀ w : Fin (cfg2 a).W, Pipeline.arrRef spec2 w = r → ((cfg2 a).win w).isOut = false) :
    Pipeline.withArrays spec2 c W0 (fun w => (dat2 V a c).arrAt w (cfg2 a).N) (Proc.devRef .tc r) = W0 (Proc.devRef .tc r) := by
  by_cases hw : ∃ w : Fin (cfg2 a).W, Pipeline.arrRef spec2 w = r
  · obtain ⟨w, rfl⟩ := hw
    exact (Pipeline.withArrays_arr spec2 (launch2 (F := F)).win.arr_inj c _ _ w).trans
      (((dat2 V a c).arrAt_in w (h w rfl) _).trans ((A_eq2 V a c w).trans (hV _)))
  · exact Pipeline.withArrays_of_ne spec2 c _ _ r fun w e => hw ⟨w, e⟩

end Cert.KernelIdeal.Run

end
-- ==== Proof.Region3.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The one-hot kernel: the indicator of each row's index -/

/-- The resources a kernel body is proved over: the pipelines' own component of any user algebra that holds it. -/
local notation "𝕄" => MT nD τ sig Unit (Elt F) ℕ (URk) ℕ

-- The contents of the TensorCore's buffers when the region is entered.
variable (V : (c : Dev nD) → (b : Ref sig .tc) → Buf (Elt F) ((c : Thread nD τ).loc b))

/-- Window `w`'s block at point `t`, read out of the entry contents. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The whole of a buffer of shape `S16x1`. -/
abbrev r3_S16x1 : Rect S16x1 := Rect.unit (s := S16x1) ![0, 0] S16x1.size inb_S16x1_S16x1_0_0
/-- The whole of a buffer of shape `S16x100000`. -/
abbrev r3_S16x100000 : Rect S16x100000 := Rect.unit (s := S16x100000) ![0, 0] S16x100000.size inb_S16x100000_S16x100000_0_0

/-- What the body leaves in window 1's buffer, from the blocks of the operands. -/
def out3_1 (x0 : Vec F S16x1 .i32) : Vec F S16x100000 .f32 :=
  View.canon [⟨r3_S16x100000, k3_pay1 (View.ld x0 r3_S16x1)⟩]

/-- One store of the whole buffer covers it. -/
theorem cover3_1 (p0 : Vec F S16x100000 .f32) (y : S16x100000.Idx) :
    ∃ pc ∈ ([⟨r3_S16x100000, p0⟩] : List (View.Piece (Elt F) S16x100000 .f32)), y ∈ pc.1.set :=
  View.cover_of_tiled [⟨r3_S16x100000, p0⟩] S16x100000.size (by rfl) y

set_option maxHeartbeats 1000000 in
/-- The body on whole staging buffers runs to the continuation that holds the operands as they were and each result at
    its value. -/
theorem sound_kernel3 (c : Dev nD) (E : Set ℕ) (i : grid3.Coords) (arg1 : Memref sig .tc .vmem S16x1 .i32) (harg1 : arg1.IsWhole) (arg2 : Memref sig .tc .vmem S16x100000 .f32) (harg2 : arg2.IsWhole)
    (x0 : Vec F S16x1 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out3_1 x0)) -∗ K ⟨⟩))
      ⊢ wp frame (wpE (defs₀ (F := F)) Variants.none c none) E (cc3__onehot_body i arg1 harg1 arg2 harg2) K := by
  simp only [cc3__onehot_body_eq_skeleton]; unfold cc3__onehot_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover3_1 _)

/-- The pipeline's proof data on core `c`: the arrays as entered, each operand's buffer left at its block, each
    result's at its value. -/
def dat3 (c : Dev nD) : Dat τ (Elt F) Unit ℕ (URk) ℕ cfg3 c where
  A w := V c (Pipeline.arrRef spec3 w)
  after w t := match w with
    | ⟨0, _⟩ => iblk3 V c 0 t
    | ⟨1, _⟩ => out3_1 (iblk3 V c 0 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = out3_1 (iblk3 V c 0 t) := by dsimp only [dat3]

/-- Operand 0's current buffer holds its block at every point. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)

/-- What the body is called with at point `t`, the windows one by one. -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d)))

/-- What it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t))

/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0]
  rw [show (dat3 V c).Φ t.succ = (dat3 V c).Φ t.castSucc from rfl,
    show (dat3 V c).owesAt () t.succ = (dat3 V c).owesAt () t.castSucc from rfl,
    after3_0, after3_1]
  iintro ⟨HΦ, Ho, ⟨%d0, H0⟩, ⟨%d1, H1⟩⟩
  iapply (sound_kernel3 c Set.univ (grid3.coords t) _ _ _ _ (iblk3 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row3 (t : Fin cfg3.N) :
    defs₀ (F := F) .tc cfg3.body (cfg3.bodyArgs t (cfg3.slots t)) = bodyAt3 t := by
  unfold defs₀; rw [Defs.onTc_tc]

/-- The body obligation of the pipeline, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- Each operand's array, and only a result's, may be written back. -/
theorem exit_of3 (c : Dev nD) (W0 : Valuation τ sig (Elt F)) (hV : ∀ b : Ref sig .tc, V c b = W0 b) (r : Ref sig .tc)
    (h : ∀ w : Fin cfg3.W, Pipeline.arrRef spec3 w = r → (cfg3.win w).isOut = false) :
    Pipeline.withArrays spec3 c W0 (fun w => (dat3 V c).arrAt w cfg3.N) (Proc.devRef .tc r) = W0 (Proc.devRef .tc r) := by
  by_cases hw : ∃ w : Fin cfg3.W, Pipeline.arrRef spec3 w = r
  · obtain ⟨w, rfl⟩ := hw
    exact (Pipeline.withArrays_arr spec3 (launch3 (F := F)).win.arr_inj c _ _ w).trans
      (((dat3 V c).arrAt_in w (h w rfl) _).trans ((A_eq3 V c w).trans (hV _)))
  · exact Pipeline.withArrays_of_ne spec3 c _ _ r fun w e => hw ⟨w, e⟩

end Cert.KernelIdeal.Run

end
-- ==== Proof.Region4.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp
public import proofs.«01_k».proof.Proof.Base

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The one-hot kernel: the indicator of each row's index -/

/-- The resources a kernel body is proved over: the pipelines' own component of any user algebra that holds it. -/
local notation "𝕄" => MT nD τ sig Unit (Elt F) ℕ (URk) ℕ

-- The contents of the TensorCore's buffers when the region is entered.
variable (V : (c : Dev nD) → (b : Ref sig .tc) → Buf (Elt F) ((c : Thread nD τ).loc b))

/-- Window `w`'s block at point `t`, read out of the entry contents. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The whole of a buffer of shape `S16x1`. -/
abbrev r4_S16x1 : Rect S16x1 := Rect.unit (s := S16x1) ![0, 0] S16x1.size inb_S16x1_S16x1_0_0
/-- The whole of a buffer of shape `S16x100000`. -/
abbrev r4_S16x100000 : Rect S16x100000 := Rect.unit (s := S16x100000) ![0, 0] S16x100000.size inb_S16x100000_S16x100000_0_0

/-- What the body leaves in window 1's buffer, from the blocks of the operands. -/
def out4_1 (x0 : Vec F S16x1 .i32) : Vec F S16x100000 .f32 :=
  View.canon [⟨r4_S16x100000, k4_pay1 (View.ld x0 r4_S16x1)⟩]

/-- One store of the whole buffer covers it. -/
theorem cover4_1 (p0 : Vec F S16x100000 .f32) (y : S16x100000.Idx) :
    ∃ pc ∈ ([⟨r4_S16x100000, p0⟩] : List (View.Piece (Elt F) S16x100000 .f32)), y ∈ pc.1.set :=
  View.cover_of_tiled [⟨r4_S16x100000, p0⟩] S16x100000.size (by rfl) y

set_option maxHeartbeats 1000000 in
/-- The body on whole staging buffers runs to the continuation that holds the operands as they were and each result at
    its value. -/
theorem sound_kernel4 (c : Dev nD) (E : Set ℕ) (i : grid4.Coords) (arg1 : Memref sig .tc .vmem S16x1 .i32) (harg1 : arg1.IsWhole) (arg2 : Memref sig .tc .vmem S16x100000 .f32) (harg2 : arg2.IsWhole)
    (x0 : Vec F S16x1 .i32) (K : PUnit → sProp 𝕄) :
    iprop(owns (c : Thread nD τ) arg1 fullShare x0 ∗ (∃ d, owns (c : Thread nD τ) arg2 fullShare d)
        ∗ (iprop(owns (c : Thread nD τ) arg1 fullShare x0 ∗ owns (c : Thread nD τ) arg2 fullShare (out4_1 x0)) -∗ K ⟨⟩))
      ⊢ wp frame (wpE (defs₀ (F := F)) Variants.none c none) E (cc4__onehot_body i arg1 harg1 arg2 harg2) K := by
  simp only [cc4__onehot_body_eq_skeleton]; unfold cc4__onehot_body_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  exact View.read_writes_eq_canon _ _ _ (cover4_1 _)

/-- The pipeline's proof data on core `c`: the arrays as entered, each operand's buffer left at its block, each
    result's at its value. -/
def dat4 (c : Dev nD) : Dat τ (Elt F) Unit ℕ (URk) ℕ cfg4 c where
  A w := V c (Pipeline.arrRef spec4 w)
  after w t := match w with
    | ⟨0, _⟩ => iblk4 V c 0 t
    | ⟨1, _⟩ => out4_1 (iblk4 V c 0 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = out4_1 (iblk4 V c 0 t) := by dsimp only [dat4]

/-- Operand 0's current buffer holds its block at every point. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)

/-- What the body is called with at point `t`, the windows one by one. -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d)))

/-- What it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t))

/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0]
  rw [show (dat4 V c).Φ t.succ = (dat4 V c).Φ t.castSucc from rfl,
    show (dat4 V c).owesAt () t.succ = (dat4 V c).owesAt () t.castSucc from rfl,
    after4_0, after4_1]
  iintro ⟨HΦ, Ho, ⟨%d0, H0⟩, ⟨%d1, H1⟩⟩
  iapply (sound_kernel4 c Set.univ (grid4.coords t) _ _ _ _ (iblk4 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

theorem defs₀_row4 (t : Fin cfg4.N) :
    defs₀ (F := F) .tc cfg4.body (cfg4.bodyArgs t (cfg4.slots t)) = bodyAt4 t := by
  unfold defs₀; rw [Defs.onTc_tc]

/-- The body obligation of the pipeline, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-- Each operand's array, and only a result's, may be written back. -/
theorem exit_of4 (c : Dev nD) (W0 : Valuation τ sig (Elt F)) (hV : ∀ b : Ref sig .tc, V c b = W0 b) (r : Ref sig .tc)
    (h : ∀ w : Fin cfg4.W, Pipeline.arrRef spec4 w = r → (cfg4.win w).isOut = false) :
    Pipeline.withArrays spec4 c W0 (fun w => (dat4 V c).arrAt w cfg4.N) (Proc.devRef .tc r) = W0 (Proc.devRef .tc r) := by
  by_cases hw : ∃ w : Fin cfg4.W, Pipeline.arrRef spec4 w = r
  · obtain ⟨w, rfl⟩ := hw
    exact (Pipeline.withArrays_arr spec4 (launch4 (F := F)).win.arr_inj c _ _ w).trans
      (((dat4 V c).arrAt_in w (h w rfl) _).trans ((A_eq4 V c w).trans (hV _)))
  · exact Pipeline.withArrays_of_ne spec4 c _ _ r fun w e => hw ⟨w, e⟩

end Cert.KernelIdeal.Run

end
-- ==== Proof.Host.lean ====
module

public import proofs.«01_k».proof.Proof.Region0
public import proofs.«01_k».proof.Proof.Region1
public import proofs.«01_k».proof.Proof.Region2
public import proofs.«01_k».proof.Proof.Region3
public import proofs.«01_k».proof.Proof.Region4

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The host operations: what each stretch writes -/

/-- The arrays @main takes. -/
abbrev argRefs : List (Ref sig .tc) := [main_arg0, main_arg1, main_arg2, main_arg3, main_arg4, main_arg5, main_arg6]

/-- No operation of `hostOps0` allocates a buffer. -/
theorem hostOps0_fresh : (hostOps0 : List (HloOp τ sig (Elt F))).Forall fun op => op.fresh = ∅ := by
  simp only [List.Forall]; repeat' constructor
/-- What `hostOps0` writes, in order. -/
abbrev hostOps0_W : List (Ref sig .tc) := [main_cst, main_v0, main_v1, main_cst_0, main_v2, main_cst_1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- What `hostOps0_1` writes, in order. -/
abbrev hostOps0_1_W : List (Ref sig .tc) := [main_call0_v0, main_call0_v1, main_v3]
theorem hostOps0_1_writes : (hostOps0_1 : List (HloOp τ sig (Elt F))).Forall fun op => op.writes ⊆ (hostOps0_1_W.map (Proc.devRef (τ := τ) .tc)).toFinset :=
  StableHlo.forall_writes_sub_of_map rfl
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- What `hostOps0_2` writes, in order. -/
abbrev hostOps0_2_W : List (Ref sig .tc) := [main_v4, main_v5, main_cst_2, main_v6, main_c, main_v7, main_v8, main_v9, main_v10, main_v11, main_v12, main_v13, main_v14, main_v15]
theorem hostOps0_2_writes : (hostOps0_2 : List (HloOp τ sig (Elt F))).Forall fun op => op.writes ⊆ (hostOps0_2_W.map (Proc.devRef (τ := τ) .tc)).toFinset :=
  StableHlo.forall_writes_sub_of_map rfl
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- What `hostOps0_3` writes, in order. -/
abbrev hostOps0_3_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v16]
theorem hostOps0_3_writes : (hostOps0_3 : List (HloOp τ sig (Elt F))).Forall fun op => op.writes ⊆ (hostOps0_3_W.map (Proc.devRef (τ := τ) .tc)).toFinset :=
  StableHlo.forall_writes_sub_of_map rfl
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- What `hostOps0_4` writes, in order. -/
abbrev hostOps0_4_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_cst, main_call2_v14, main_v17]
theorem hostOps0_4_writes : (hostOps0_4 : List (HloOp τ sig (Elt F))).Forall fun op => op.writes ⊆ (hostOps0_4_W.map (Proc.devRef (τ := τ) .tc)).toFinset :=
  StableHlo.forall_writes_sub_of_map rfl
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- What `hostOps0_5` writes, in order. -/
abbrev hostOps0_5_W : List (Ref sig .tc) := [main_v18, main_v19, main_v20, main_v21, main_v22, main_v23, main_v24, main_v25, main_v26, main_v27, main_values, main_indices, main_v28, main_v29, main_v30]
theorem hostOps0_5_writes : (hostOps0_5 : List (HloOp τ sig (Elt F))).Forall fun op => op.writes ⊆ (hostOps0_5_W.map (Proc.devRef (τ := τ) .tc)).toFinset :=
  StableHlo.forall_writes_sub_of_map rfl
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- What `hostOps0_6` writes, in order. -/
abbrev hostOps0_6_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_cst, main_call3_v14, main_v31]
theorem hostOps0_6_writes : (hostOps0_6 : List (HloOp τ sig (Elt F))).Forall fun op => op.writes ⊆ (hostOps0_6_W.map (Proc.devRef (τ := τ) .tc)).toFinset :=
  StableHlo.forall_writes_sub_of_map rfl
theorem hostOps0_6_args : ∀ a ∈ argRefs, a ∉ hostOps0_6_W := ListAll.forall_mem_of_all_decide (by decide +kernel)

/-- No operation of `hostOps1` allocates a buffer. -/
theorem hostOps1_fresh : (hostOps1 : List (HloOp τ sig (Elt F))).Forall fun op => op.fresh = ∅ := by
  simp only [List.Forall]; repeat' constructor
/-- What `hostOps1` writes, in order. -/
abbrev hostOps1_W : List (Ref sig .tc) := [main_c_3, main_v33, main_v34, main_v35, main_c_4, main_v36, main_v37, main_c_5, main_v38, main_v39]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

/-- No operation of `hostOps1_1` allocates a buffer. -/
theorem hostOps1_1_fresh : (hostOps1_1 : List (HloOp τ sig (Elt F))).Forall fun op => op.fresh = ∅ := by
  simp only [List.Forall]; repeat' constructor
/-- What `hostOps1_1` writes, in order. -/
abbrev hostOps1_1_W : List (Ref sig .tc) := [main_call5_v0, main_call5_v1_0, main_v40]
theorem hostOps1_1_writes : (hostOps1_1 : List (HloOp τ sig (Elt F))).Forall fun op => op.writes ⊆ (hostOps1_1_W.map (Proc.devRef (τ := τ) .tc)).toFinset :=
  StableHlo.forall_writes_sub_of_map rfl
theorem hostOps1_1_args : ∀ a ∈ argRefs, a ∉ hostOps1_1_W := ListAll.forall_mem_of_all_decide (by decide +kernel)

/-- No operation of `hostOps1_2` allocates a buffer. -/
theorem hostOps1_2_fresh : (hostOps1_2 : List (HloOp τ sig (Elt F))).Forall fun op => op.fresh = ∅ := by
  simp only [List.Forall]; repeat' constructor
/-- What `hostOps1_2` writes, in order. -/
abbrev hostOps1_2_W : List (Ref sig .tc) := [main_v41, main_c_6, main_v42, main_v43, main_c_7, main_v44]
theorem hostOps1_2_writes : (hostOps1_2 : List (HloOp τ sig (Elt F))).Forall fun op => op.writes ⊆ (hostOps1_2_W.map (Proc.devRef (τ := τ) .tc)).toFinset :=
  StableHlo.forall_writes_sub_of_map rfl
theorem hostOps1_2_args : ∀ a ∈ argRefs, a ∉ hostOps1_2_W := ListAll.forall_mem_of_all_decide (by decide +kernel)

/-- Host operations of @main: the first branch word: every candidate's index is certain. -/
abbrev opsW1 : List (HloOp τ sig (Elt F)) :=
  [ StableHlo.unary main_v44 main_v45 ((extui 32 · natLt_1_32) : (⟨S_, .i1⟩ : BufTy).Contents (Elt F) → (⟨S_, .i32⟩ : BufTy).Contents (Elt F)) ]
theorem opsW1_sub : (opsW1 : List (HloOp τ sig (Elt F))).Forall fun op => op.bufs ⊆ StableHlo.tcRefs τ sig :=
  StableHlo.unary_bufs_sub ..
/-- No operation of `opsW1` allocates a buffer. -/
theorem opsW1_fresh : (opsW1 : List (HloOp τ sig (Elt F))).Forall fun op => op.fresh = ∅ := by
  simp only [List.Forall]; repeat' constructor
/-- What `opsW1` writes, in order. -/
abbrev opsW1_W : List (Ref sig .tc) := [main_v45]
theorem opsW1_writes : (opsW1 : List (HloOp τ sig (Elt F))).Forall fun op => op.writes ⊆ (opsW1_W.map (Proc.devRef (τ := τ) .tc)).toFinset :=
  StableHlo.forall_writes_sub_of_map rfl
theorem opsW1_args : ∀ a ∈ argRefs, a ∉ opsW1_W := ListAll.forall_mem_of_all_decide (by decide +kernel)

/-- Host operations of @main: the first arm's conditions. -/
abbrev opsA : List (HloOp τ sig (Elt F)) :=
  [ StableHlo.nullary main_case0b0_c_8 (constantI S_ 32 1#32),
    StableHlo.unary main_case0b0_c_8 main_case0b0_v47 (broadcastInDim S128x1 ![] bcast_S_S128x1 : (⟨S_, .i32⟩ : BufTy).Contents (Elt F) → (⟨S128x1, .i32⟩ : BufTy).Contents (Elt F)),
    StableHlo.binary main_v32_3 main_case0b0_v47 main_case0b0_v48 (cmpi .eq : (⟨S128x1, .i32⟩ : BufTy).Contents (Elt F) → (⟨S128x1, .i32⟩ : BufTy).Contents (Elt F) → (⟨S128x1, .i1⟩ : BufTy).Contents (Elt F)),
    StableHlo.nullary main_case0b0_c_9 (constantI S_ 1 1#1),
    StableHlo.binary main_case0b0_v48 main_case0b0_c_9 main_case0b0_v49 ((fun x v => Host.reduce IntOp.andi x v reducesTo_S128x1_S_d0_1 h_S_) : (⟨S128x1, .i1⟩ : BufTy).Contents (Elt F) → (⟨S_, .i1⟩ : BufTy).Contents (Elt F) → (⟨S_, .i1⟩ : BufTy).Contents (Elt F)),
    StableHlo.nullary main_case0b0_c_10 (constantI S_ 32 2#32),
    StableHlo.binary main_v38 main_case0b0_c_10 main_case0b0_v50 (cmpi .sle : (⟨S_, .i32⟩ : BufTy).Contents (Elt F) → (⟨S_, .i32⟩ : BufTy).Contents (Elt F) → (⟨S_, .i1⟩ : BufTy).Contents (Elt F)),
    StableHlo.binary main_case0b0_v49 main_case0b0_v50 main_case0b0_v51 (andi : (⟨S_, .i1⟩ : BufTy).Contents (Elt F) → (⟨S_, .i1⟩ : BufTy).Contents (Elt F) → (⟨S_, .i1⟩ : BufTy).Contents (Elt F)) ]
theorem opsA_sub : (opsA : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.binary_bufs_sub .., StableHlo.nullary_bufs_sub .., StableHlo.binary_bufs_sub .., StableHlo.binary_bufs_sub ..⟩
/-- No operation of `opsA` allocates a buffer. -/
theorem opsA_fresh : (opsA : List (HloOp τ sig (Elt F))).Forall fun op => op.fresh = ∅ := by
  simp only [List.Forall]; repeat' constructor
/-- What `opsA` writes, in order. -/
abbrev opsA_W : List (Ref sig .tc) := [main_case0b0_c_8, main_case0b0_v47, main_case0b0_v48, main_case0b0_c_9, main_case0b0_v49, main_case0b0_c_10, main_case0b0_v50, main_case0b0_v51]
theorem opsA_writes : (opsA : List (HloOp τ sig (Elt F))).Forall fun op => op.writes ⊆ (opsA_W.map (Proc.devRef (τ := τ) .tc)).toFinset :=
  StableHlo.forall_writes_sub_of_map rfl
theorem opsA_args : ∀ a ∈ argRefs, a ∉ opsA_W := ListAll.forall_mem_of_all_decide (by decide +kernel)

/-- Host operations of @main: the second branch word: the bad blocks fit. -/
abbrev opsW2 : List (HloOp τ sig (Elt F)) :=
  [ StableHlo.unary main_case0b0_v51 main_case0b0_v52 ((extui 32 · natLt_1_32) : (⟨S_, .i1⟩ : BufTy).Contents (Elt F) → (⟨S_, .i32⟩ : BufTy).Contents (Elt F)) ]
theorem opsW2_sub : (opsW2 : List (HloOp τ sig (Elt F))).Forall fun op => op.bufs ⊆ StableHlo.tcRefs τ sig :=
  StableHlo.unary_bufs_sub ..
/-- No operation of `opsW2` allocates a buffer. -/
theorem opsW2_fresh : (opsW2 : List (HloOp τ sig (Elt F))).Forall fun op => op.fresh = ∅ := by
  simp only [List.Forall]; repeat' constructor
/-- What `opsW2` writes, in order. -/
abbrev opsW2_W : List (Ref sig .tc) := [main_case0b0_v52]
theorem opsW2_writes : (opsW2 : List (HloOp τ sig (Elt F))).Forall fun op => op.writes ⊆ (opsW2_W.map (Proc.devRef (τ := τ) .tc)).toFinset :=
  StableHlo.forall_writes_sub_of_map rfl
theorem opsW2_args : ∀ a ∈ argRefs, a ∉ opsW2_W := ListAll.forall_mem_of_all_decide (by decide +kernel)

/-- Host operations of @main: the recomputed rows put in their places. -/
abbrev opsL : List (HloOp τ sig (Elt F)) :=
  [ StableHlo.unary main_v41 main_case0b0_case1b1_v55 (broadcastInDim S2x1 ![0] bcast_S2_S2x1_0 : (⟨S2, .i32⟩ : BufTy).Contents (Elt F) → (⟨S2x1, .i32⟩ : BufTy).Contents (Elt F)),
    StableHlo.nullary main_case0b0_case1b1_c_11 (constantI S_ 32 16#32),
    StableHlo.unary main_case0b0_case1b1_c_11 main_case0b0_case1b1_v56 (broadcastInDim S2x1 ![] bcast_S_S2x1 : (⟨S_, .i32⟩ : BufTy).Contents (Elt F) → (⟨S2x1, .i32⟩ : BufTy).Contents (Elt F)),
    StableHlo.binary main_case0b0_case1b1_v55 main_case0b0_case1b1_v56 main_case0b0_case1b1_v57 (muli : (⟨S2x1, .i32⟩ : BufTy).Contents (Elt F) → (⟨S2x1, .i32⟩ : BufTy).Contents (Elt F) → (⟨S2x1, .i32⟩ : BufTy).Contents (Elt F)),
    StableHlo.nullary main_case0b0_case1b1_v58 (iotaInDim S16 32 0),
    StableHlo.unary main_case0b0_case1b1_v58 main_case0b0_case1b1_v59 (broadcastInDim S1x16 ![1] bcast_S16_S1x16_1 : (⟨S16, .i32⟩ : BufTy).Contents (Elt F) → (⟨S1x16, .i32⟩ : BufTy).Contents (Elt F)),
    StableHlo.unary main_case0b0_case1b1_v57 main_case0b0_case1b1_v60 (broadcastInDim S2x16 ![0, 1] bcast_S2x1_S2x16_0_1 : (⟨S2x1, .i32⟩ : BufTy).Contents (Elt F) → (⟨S2x16, .i32⟩ : BufTy).Contents (Elt F)),
    StableHlo.unary main_case0b0_case1b1_v59 main_case0b0_case1b1_v61 (broadcastInDim S2x16 ![0, 1] bcast_S1x16_S2x16_0_1 : (⟨S1x16, .i32⟩ : BufTy).Contents (Elt F) → (⟨S2x16, .i32⟩ : BufTy).Contents (Elt F)),
    StableHlo.binary main_case0b0_case1b1_v60 main_case0b0_case1b1_v61 main_case0b0_case1b1_v62 (addi : (⟨S2x16, .i32⟩ : BufTy).Contents (Elt F) → (⟨S2x16, .i32⟩ : BufTy).Contents (Elt F) → (⟨S2x16, .i32⟩ : BufTy).Contents (Elt F)),
    StableHlo.reshape main_case0b0_case1b1_v62 main_case0b0_case1b1_v63 (rfl : (.i32 : EltTy) = .i32) shapeCasts_S2x16_S32,
    StableHlo.reshape main_case0b0_case1b1_v54 main_case0b0_case1b1_v64 (rfl : (.i32 : EltTy) = .i32) shapeCasts_S32x1_S32,
    StableHlo.nullary main_case0b0_case1b1_c_12 (constantI S_ 32 0#32),
    StableHlo.unary main_case0b0_case1b1_c_12 main_case0b0_case1b1_v65 (broadcastInDim S32 ![] bcast_S_S32 : (⟨S_, .i32⟩ : BufTy).Contents (Elt F) → (⟨S32, .i32⟩ : BufTy).Contents (Elt F)),
    StableHlo.binary main_case0b0_case1b1_v63 main_case0b0_case1b1_v65 main_case0b0_case1b1_v66 (cmpi .slt : (⟨S32, .i32⟩ : BufTy).Contents (Elt F) → (⟨S32, .i32⟩ : BufTy).Contents (Elt F) → (⟨S32, .i1⟩ : BufTy).Contents (Elt F)),
    StableHlo.nullary main_case0b0_case1b1_c_13 (constantI S_ 32 128#32),
    StableHlo.unary main_case0b0_case1b1_c_13 main_case0b0_case1b1_v67 (broadcastInDim S32 ![] bcast_S_S32 : (⟨S_, .i32⟩ : BufTy).Contents (Elt F) → (⟨S32, .i32⟩ : BufTy).Contents (Elt F)),
    StableHlo.binary main_case0b0_case1b1_v63 main_case0b0_case1b1_v67 main_case0b0_case1b1_v68 (addi : (⟨S32, .i32⟩ : BufTy).Contents (Elt F) → (⟨S32, .i32⟩ : BufTy).Contents (Elt F) → (⟨S32, .i32⟩ : BufTy).Contents (Elt F)),
    StableHlo.ternary main_case0b0_case1b1_v66 main_case0b0_case1b1_v68 main_case0b0_case1b1_v63 main_case0b0_case1b1_v69 (select : (⟨S32, .i1⟩ : BufTy).Contents (Elt F) → (⟨S32, .i32⟩ : BufTy).Contents (Elt F) → (⟨S32, .i32⟩ : BufTy).Contents (Elt F) → (⟨S32, .i32⟩ : BufTy).Contents (Elt F)),
    StableHlo.nullary main_case0b0_case1b1_c_14 (constantI S_ 32 0#32),
    StableHlo.unary main_case0b0_case1b1_c_14 main_case0b0_case1b1_v70 (broadcastInDim S32 ![] bcast_S_S32 : (⟨S_, .i32⟩ : BufTy).Contents (Elt F) → (⟨S32, .i32⟩ : BufTy).Contents (Elt F)),
    StableHlo.unary main_case0b0_case1b1_v70 main_case0b0_case1b1_v71 (id : (⟨S32, .i32⟩ : BufTy).Contents (Elt F) → (⟨S32, .i32⟩ : BufTy).Contents (Elt F)),
    StableHlo.unary main_case0b0_case1b1_v69 main_case0b0_case1b1_v72 (broadcastInDim S32x1 ![0] bcast_S32_S32x1_0 : (⟨S32, .i32⟩ : BufTy).Contents (Elt F) → (⟨S32x1, .i32⟩ : BufTy).Contents (Elt F)),
    StableHlo.unary main_case0b0_case1b1_v71 main_case0b0_case1b1_v73 (broadcastInDim S32x1 ![0] bcast_S32_S32x1_0 : (⟨S32, .i32⟩ : BufTy).Contents (Elt F) → (⟨S32x1, .i32⟩ : BufTy).Contents (Elt F)),
    StableHlo.binary main_case0b0_case1b1_v72 main_case0b0_case1b1_v73 main_case0b0_case1b1_v74 ((fun a b => concatenate S32x2 1 [⟨S32x1, a⟩, ⟨S32x1, b⟩] concatenates_S32x1_S32x1_S32x2_d1) : (⟨S32x1, .i32⟩ : BufTy).Contents (Elt F) → (⟨S32x1, .i32⟩ : BufTy).Contents (Elt F) → (⟨S32x2, .i32⟩ : BufTy).Contents (Elt F)),
    StableHlo.ternary main_v32_1 main_case0b0_case1b1_v74 main_case0b0_case1b1_v64 main_case0b0_case1b1_v75 ((fun x i u => Host.scatter scatter_S128x1_S32x2_S32_n_01_01_1 (fun _ b => b) x i u) : (⟨S128x1, .i32⟩ : BufTy).Contents (Elt F) → (⟨S32x2, .i32⟩ : BufTy).Contents (Elt F) → (⟨S32, .i32⟩ : BufTy).Contents (Elt F) → (⟨S128x1, .i32⟩ : BufTy).Contents (Elt F)) ]
theorem opsL_sub : (opsL : List (HloOp τ sig (Elt F))).Forall fun op => op.bufs ⊆ StableHlo.tcRefs τ sig :=
  ⟨StableHlo.unary_bufs_sub .., StableHlo.nullary_bufs_sub .., StableHlo.unary_bufs_sub .., StableHlo.binary_bufs_sub .., StableHlo.nullary_bufs_sub .., StableHlo.unary_bufs_sub .., StableHlo.unary_bufs_sub .., StableHlo.unary_bufs_sub .., StableHlo.binary_bufs_sub .., StableHlo.reshape_bufs_sub .., StableHlo.reshape_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.unary_bufs_sub .., StableHlo.unary_bufs_sub .., StableHlo.unary_bufs_sub .., StableHlo.binary_bufs_sub .., StableHlo.ternary_bufs_sub ..⟩
/-- No operation of `opsL` allocates a buffer. -/
theorem opsL_fresh : (opsL : List (HloOp τ sig (Elt F))).Forall fun op => op.fresh = ∅ := by
  simp only [List.Forall]; repeat' constructor
/-- What `opsL` writes, in order. -/
abbrev opsL_W : List (Ref sig .tc) := [main_case0b0_case1b1_v55, main_case0b0_case1b1_c_11, main_case0b0_case1b1_v56, main_case0b0_case1b1_v57, main_case0b0_case1b1_v58, main_case0b0_case1b1_v59, main_case0b0_case1b1_v60, main_case0b0_case1b1_v61, main_case0b0_case1b1_v62, main_case0b0_case1b1_v63, main_case0b0_case1b1_v64, main_case0b0_case1b1_c_12, main_case0b0_case1b1_v65, main_case0b0_case1b1_v66, main_case0b0_case1b1_c_13, main_case0b0_case1b1_v67, main_case0b0_case1b1_v68, main_case0b0_case1b1_v69, main_case0b0_case1b1_c_14, main_case0b0_case1b1_v70, main_case0b0_case1b1_v71, main_case0b0_case1b1_v72, main_case0b0_case1b1_v73, main_case0b0_case1b1_v74, main_case0b0_case1b1_v75]
theorem opsL_writes : (opsL : List (HloOp τ sig (Elt F))).Forall fun op => op.writes ⊆ (opsL_W.map (Proc.devRef (τ := τ) .tc)).toFinset :=
  StableHlo.forall_writes_sub_of_map rfl
theorem opsL_args : ∀ a ∈ argRefs, a ∉ opsL_W := ListAll.forall_mem_of_all_decide (by decide +kernel)

/-- Host operations of @main: the fused arm's result. -/
abbrev cpF : List (HloOp τ sig (Elt F)) :=
  [ StableHlo.unary main_case0b0_case1b0_v54 main_case0b0_v53 id ]
theorem cpF_sub : (cpF : List (HloOp τ sig (Elt F))).Forall fun op => op.bufs ⊆ StableHlo.tcRefs τ sig :=
  StableHlo.unary_bufs_sub ..
/-- No operation of `cpF` allocates a buffer. -/
theorem cpF_fresh : (cpF : List (HloOp τ sig (Elt F))).Forall fun op => op.fresh = ∅ := by
  simp only [List.Forall]; repeat' constructor
/-- What `cpF` writes, in order. -/
abbrev cpF_W : List (Ref sig .tc) := [main_case0b0_v53]
theorem cpF_writes : (cpF : List (HloOp τ sig (Elt F))).Forall fun op => op.writes ⊆ (cpF_W.map (Proc.devRef (τ := τ) .tc)).toFinset :=
  StableHlo.forall_writes_sub_of_map rfl
theorem cpF_args : ∀ a ∈ argRefs, a ∉ cpF_W := ListAll.forall_mem_of_all_decide (by decide +kernel)

/-- Host operations of @main: the short arm's result. -/
abbrev cpL : List (HloOp τ sig (Elt F)) :=
  [ StableHlo.unary main_case0b0_case1b1_v76 main_case0b0_v53 id ]
theorem cpL_sub : (cpL : List (HloOp τ sig (Elt F))).Forall fun op => op.bufs ⊆ StableHlo.tcRefs τ sig :=
  StableHlo.unary_bufs_sub ..
/-- No operation of `cpL` allocates a buffer. -/
theorem cpL_fresh : (cpL : List (HloOp τ sig (Elt F))).Forall fun op => op.fresh = ∅ := by
  simp only [List.Forall]; repeat' constructor
/-- What `cpL` writes, in order. -/
abbrev cpL_W : List (Ref sig .tc) := [main_case0b0_v53]
theorem cpL_writes : (cpL : List (HloOp τ sig (Elt F))).Forall fun op => op.writes ⊆ (cpL_W.map (Proc.devRef (τ := τ) .tc)).toFinset :=
  StableHlo.forall_writes_sub_of_map rfl
theorem cpL_args : ∀ a ∈ argRefs, a ∉ cpL_W := ListAll.forall_mem_of_all_decide (by decide +kernel)

/-- Host operations of @main: the first arm's result. -/
abbrev cp0 : List (HloOp τ sig (Elt F)) :=
  [ StableHlo.unary main_case0b0_v53 main_v46 id ]
theorem cp0_sub : (cp0 : List (HloOp τ sig (Elt F))).Forall fun op => op.bufs ⊆ StableHlo.tcRefs τ sig :=
  StableHlo.unary_bufs_sub ..
/-- No operation of `cp0` allocates a buffer. -/
theorem cp0_fresh : (cp0 : List (HloOp τ sig (Elt F))).Forall fun op => op.fresh = ∅ := by
  simp only [List.Forall]; repeat' constructor
/-- What `cp0` writes, in order. -/
abbrev cp0_W : List (Ref sig .tc) := [main_v46]
theorem cp0_writes : (cp0 : List (HloOp τ sig (Elt F))).Forall fun op => op.writes ⊆ (cp0_W.map (Proc.devRef (τ := τ) .tc)).toFinset :=
  StableHlo.forall_writes_sub_of_map rfl
theorem cp0_args : ∀ a ∈ argRefs, a ∉ cp0_W := ListAll.forall_mem_of_all_decide (by decide +kernel)

/-- Host operations of @main: the second arm's result. -/
abbrev cp1 : List (HloOp τ sig (Elt F)) :=
  [ StableHlo.unary main_case0b1_v47 main_v46 id ]
theorem cp1_sub : (cp1 : List (HloOp τ sig (Elt F))).Forall fun op => op.bufs ⊆ StableHlo.tcRefs τ sig :=
  StableHlo.unary_bufs_sub ..
/-- No operation of `cp1` allocates a buffer. -/
theorem cp1_fresh : (cp1 : List (HloOp τ sig (Elt F))).Forall fun op => op.fresh = ∅ := by
  simp only [List.Forall]; repeat' constructor
/-- What `cp1` writes, in order. -/
abbrev cp1_W : List (Ref sig .tc) := [main_v46]
theorem cp1_writes : (cp1 : List (HloOp τ sig (Elt F))).Forall fun op => op.writes ⊆ (cp1_W.map (Proc.devRef (τ := τ) .tc)).toFinset :=
  StableHlo.forall_writes_sub_of_map rfl
theorem cp1_args : ∀ a ∈ argRefs, a ∉ cp1_W := ListAll.forall_mem_of_all_decide (by decide +kernel)

end Cert.KernelIdeal.Run

end
-- ==== Proof.Vals.lean ====
module

public import proofs.«01_k».proof.Proof.Host
public import Idealize.ShloMosaic.Lib.StableHlo.RunRead

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The buffers at every boundary of @main -/

-- The memory at launch.
variable (m : (ℓ : Loc nD τ sig) → Buf (Elt F) ℓ)

/-- A core's buffers, at the references of the core that runs the host. -/
abbrev tcOf (W : Dev nD → Valuation τ sig (Elt F)) : (c : Dev nD) → (b : Ref sig .tc) → Buf (Elt F) ((c : Thread nD τ).loc b) := fun c b => W c b

/-- At launch. -/
def W0 (c : Dev nD) : Valuation τ sig (Elt F) := fun b => m ((c : Dev nD), b)
theorem W0_args (c : Dev nD) : ∀ a ∈ argRefs, W0 m c (Proc.devRef .tc a) = m ((c : Thread nD τ).loc a) := fun _ _ => rfl

/-- After `hostOps0`. -/
def W1 (c : Dev nD) : Valuation τ sig (Elt F) := StableHlo.after hostOps0 (W0 m c)
theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_args (c : Dev nD) : ∀ a ∈ argRefs, W1 m c (Proc.devRef .tc a) = m ((c : Thread nD τ).loc a) :=
  fun a ha => (W1_of m c a (hostOps0_args a ha)).trans (W0_args m c a ha)

/-- After `hostOps0_1`. -/
def W2 (c : Dev nD) : Valuation τ sig (Elt F) := StableHlo.after hostOps0_1 (W1 m c)
theorem W2_of (c : Dev nD) (r : Ref sig .tc) (h : r ∉ hostOps0_1_W) : W2 m c (Proc.devRef .tc r) = W1 m c (Proc.devRef .tc r) :=
  StableHlo.after_of_writes_sub hostOps0_1 _ hostOps0_1_writes h
theorem W2_args (c : Dev nD) : ∀ a ∈ argRefs, W2 m c (Proc.devRef .tc a) = m ((c : Thread nD τ).loc a) :=
  fun a ha => (W2_of m c a (hostOps0_1_args a ha)).trans (W1_args m c a ha)

/-- After `hostOps0_2`. -/
def W3 (c : Dev nD) : Valuation τ sig (Elt F) := StableHlo.after hostOps0_2 (W2 m c)
theorem W3_of (c : Dev nD) (r : Ref sig .tc) (h : r ∉ hostOps0_2_W) : W3 m c (Proc.devRef .tc r) = W2 m c (Proc.devRef .tc r) :=
  StableHlo.after_of_writes_sub hostOps0_2 _ hostOps0_2_writes h
theorem W3_args (c : Dev nD) : ∀ a ∈ argRefs, W3 m c (Proc.devRef .tc a) = m ((c : Thread nD τ).loc a) :=
  fun a ha => (W3_of m c a (hostOps0_2_args a ha)).trans (W2_args m c a ha)

/-- After `hostOps0_3`. -/
def W4 (c : Dev nD) : Valuation τ sig (Elt F) := StableHlo.after hostOps0_3 (W3 m c)
theorem W4_of (c : Dev nD) (r : Ref sig .tc) (h : r ∉ hostOps0_3_W) : W4 m c (Proc.devRef .tc r) = W3 m c (Proc.devRef .tc r) :=
  StableHlo.after_of_writes_sub hostOps0_3 _ hostOps0_3_writes h
theorem W4_args (c : Dev nD) : ∀ a ∈ argRefs, W4 m c (Proc.devRef .tc a) = m ((c : Thread nD τ).loc a) :=
  fun a ha => (W4_of m c a (hostOps0_3_args a ha)).trans (W3_args m c a ha)

/-- After `hostOps0_4`. -/
def W5 (c : Dev nD) : Valuation τ sig (Elt F) := StableHlo.after hostOps0_4 (W4 m c)
theorem W5_of (c : Dev nD) (r : Ref sig .tc) (h : r ∉ hostOps0_4_W) : W5 m c (Proc.devRef .tc r) = W4 m c (Proc.devRef .tc r) :=
  StableHlo.after_of_writes_sub hostOps0_4 _ hostOps0_4_writes h
theorem W5_args (c : Dev nD) : ∀ a ∈ argRefs, W5 m c (Proc.devRef .tc a) = m ((c : Thread nD τ).loc a) :=
  fun a ha => (W5_of m c a (hostOps0_4_args a ha)).trans (W4_args m c a ha)

/-- After `hostOps0_5`. -/
def W6 (c : Dev nD) : Valuation τ sig (Elt F) := StableHlo.after hostOps0_5 (W5 m c)
theorem W6_of (c : Dev nD) (r : Ref sig .tc) (h : r ∉ hostOps0_5_W) : W6 m c (Proc.devRef .tc r) = W5 m c (Proc.devRef .tc r) :=
  StableHlo.after_of_writes_sub hostOps0_5 _ hostOps0_5_writes h
theorem W6_args (c : Dev nD) : ∀ a ∈ argRefs, W6 m c (Proc.devRef .tc a) = m ((c : Thread nD τ).loc a) :=
  fun a ha => (W6_of m c a (hostOps0_5_args a ha)).trans (W5_args m c a ha)

/-- After `hostOps0_6`. -/
def W7 (c : Dev nD) : Valuation τ sig (Elt F) := StableHlo.after hostOps0_6 (W6 m c)
theorem W7_of (c : Dev nD) (r : Ref sig .tc) (h : r ∉ hostOps0_6_W) : W7 m c (Proc.devRef .tc r) = W6 m c (Proc.devRef .tc r) :=
  StableHlo.after_of_writes_sub hostOps0_6 _ hostOps0_6_writes h
theorem W7_args (c : Dev nD) : ∀ a ∈ argRefs, W7 m c (Proc.devRef .tc a) = m ((c : Thread nD τ).loc a) :=
  fun a ha => (W7_of m c a (hostOps0_6_args a ha)).trans (W6_args m c a ha)

/-- At kernel call 0's exit: its arrays as the pipeline leaves them, every other buffer as entered. -/
def W8 (c : Dev nD) : Valuation τ sig (Elt F) :=
  Pipeline.withArrays spec0 c (W7 m c) fun w => (dat0 (tcOf (W7 m)) c).arrAt w cfg0.N
theorem W8_arr (c : Dev nD) (w : Fin cfg0.W) :
    W8 m c (Proc.devRef .tc (Pipeline.arrRef spec0 w)) = (dat0 (tcOf (W7 m)) c).arrAt w cfg0.N := by
  unfold W8; exact Pipeline.withArrays_arr spec0 (launch0 (F := F)).win.arr_inj c _ _ w
theorem W8_of_ne (c : Dev nD) (b : Ref sig .tc) (hb : ∀ w, Pipeline.arrRef spec0 w ≠ b) :
    W8 m c (Proc.devRef .tc b) = W7 m c (Proc.devRef .tc b) := by
  unfold W8; exact Pipeline.withArrays_of_ne spec0 c _ _ b hb
theorem W8_of (c : Dev nD) (r : Ref sig .tc) (h : ∀ w : Fin cfg0.W, Pipeline.arrRef spec0 w = r → (cfg0.win w).isOut = false) :
    W8 m c (Proc.devRef .tc r) = W7 m c (Proc.devRef .tc r) :=
  exit_of0 (tcOf (W7 m)) c (W7 m c) (fun _ => rfl) r h
theorem argsIn8 : ∀ a ∈ argRefs, ∀ w : Fin cfg0.W, Pipeline.arrRef spec0 w = a → (cfg0.win w).isOut = false :=
  ListAll.forall_mem_of_all_decide (by decide +kernel)
theorem W8_args (c : Dev nD) : ∀ a ∈ argRefs, W8 m c (Proc.devRef .tc a) = m ((c : Thread nD τ).loc a) :=
  fun a ha => (W8_of m c a (argsIn8 a ha)).trans (W7_args m c a ha)
theorem hF8 (c : Dev nD) (w : Fin cfg0.W) : (dat0 (tcOf (W7 m)) c).arrAt w cfg0.N = tcOf (W8 m) c (Pipeline.arrRef spec0 w) :=
  (W8_arr m c w).symm
theorem hrest8 (c : Dev nD) : ∀ b, b ∉ Finset.univ.image (Pipeline.arrRef spec0) → tcOf (W8 m) c b = tcOf (W7 m) c b :=
  fun b hb => W8_of_ne m c b fun w e => hb (Finset.mem_image.mpr ⟨w, Finset.mem_univ _, e⟩)

/-- After `hostOps1`. -/
def W9 (c : Dev nD) : Valuation τ sig (Elt F) := StableHlo.after hostOps1 (W8 m c)
theorem W9_of (c : Dev nD) (r : Ref sig .tc) (h : r ∉ hostOps1_W) : W9 m c (Proc.devRef .tc r) = W8 m c (Proc.devRef .tc r) :=
  StableHlo.after_of_writes_sub hostOps1 _ hostOps1_writes h
theorem W9_args (c : Dev nD) : ∀ a ∈ argRefs, W9 m c (Proc.devRef .tc a) = m ((c : Thread nD τ).loc a) :=
  fun a ha => (W9_of m c a (hostOps1_args a ha)).trans (W8_args m c a ha)

/-- After `hostOps1_1`. -/
def W10 (c : Dev nD) : Valuation τ sig (Elt F) := StableHlo.after hostOps1_1 (W9 m c)
theorem W10_of (c : Dev nD) (r : Ref sig .tc) (h : r ∉ hostOps1_1_W) : W10 m c (Proc.devRef .tc r) = W9 m c (Proc.devRef .tc r) :=
  StableHlo.after_of_writes_sub hostOps1_1 _ hostOps1_1_writes h
theorem W10_args (c : Dev nD) : ∀ a ∈ argRefs, W10 m c (Proc.devRef .tc a) = m ((c : Thread nD τ).loc a) :=
  fun a ha => (W10_of m c a (hostOps1_1_args a ha)).trans (W9_args m c a ha)

/-- After `hostOps1_2`. -/
def W11 (c : Dev nD) : Valuation τ sig (Elt F) := StableHlo.after hostOps1_2 (W10 m c)
theorem W11_of (c : Dev nD) (r : Ref sig .tc) (h : r ∉ hostOps1_2_W) : W11 m c (Proc.devRef .tc r) = W10 m c (Proc.devRef .tc r) :=
  StableHlo.after_of_writes_sub hostOps1_2 _ hostOps1_2_writes h
theorem W11_args (c : Dev nD) : ∀ a ∈ argRefs, W11 m c (Proc.devRef .tc a) = m ((c : Thread nD τ).loc a) :=
  fun a ha => (W11_of m c a (hostOps1_2_args a ha)).trans (W10_args m c a ha)

/-- After `opsW1`. -/
def W12 (c : Dev nD) : Valuation τ sig (Elt F) := StableHlo.after opsW1 (W11 m c)
theorem W12_of (c : Dev nD) (r : Ref sig .tc) (h : r ∉ opsW1_W) : W12 m c (Proc.devRef .tc r) = W11 m c (Proc.devRef .tc r) :=
  StableHlo.after_of_writes_sub opsW1 _ opsW1_writes h
theorem W12_args (c : Dev nD) : ∀ a ∈ argRefs, W12 m c (Proc.devRef .tc a) = m ((c : Thread nD τ).loc a) :=
  fun a ha => (W12_of m c a (opsW1_args a ha)).trans (W11_args m c a ha)

/-! ## The second arm: every row is certain -/

/-- At kernel call 4's exit: its arrays as the pipeline leaves them, every other buffer as entered. -/
def WB1 (c : Dev nD) : Valuation τ sig (Elt F) :=
  Pipeline.withArrays spec4 c (W12 m c) fun w => (dat4 (tcOf (W12 m)) c).arrAt w cfg4.N
theorem WB1_arr (c : Dev nD) (w : Fin cfg4.W) :
    WB1 m c (Proc.devRef .tc (Pipeline.arrRef spec4 w)) = (dat4 (tcOf (W12 m)) c).arrAt w cfg4.N := by
  unfold WB1; exact Pipeline.withArrays_arr spec4 (launch4 (F := F)).win.arr_inj c _ _ w
theorem WB1_of_ne (c : Dev nD) (b : Ref sig .tc) (hb : ∀ w, Pipeline.arrRef spec4 w ≠ b) :
    WB1 m c (Proc.devRef .tc b) = W12 m c (Proc.devRef .tc b) := by
  unfold WB1; exact Pipeline.withArrays_of_ne spec4 c _ _ b hb
theorem WB1_of (c : Dev nD) (r : Ref sig .tc) (h : ∀ w : Fin cfg4.W, Pipeline.arrRef spec4 w = r → (cfg4.win w).isOut = false) :
    WB1 m c (Proc.devRef .tc r) = W12 m c (Proc.devRef .tc r) :=
  exit_of4 (tcOf (W12 m)) c (W12 m c) (fun _ => rfl) r h
theorem argsInB1 : ∀ a ∈ argRefs, ∀ w : Fin cfg4.W, Pipeline.arrRef spec4 w = a → (cfg4.win w).isOut = false :=
  ListAll.forall_mem_of_all_decide (by decide +kernel)
theorem WB1_args (c : Dev nD) : ∀ a ∈ argRefs, WB1 m c (Proc.devRef .tc a) = m ((c : Thread nD τ).loc a) :=
  fun a ha => (WB1_of m c a (argsInB1 a ha)).trans (W12_args m c a ha)
theorem hFB1 (c : Dev nD) (w : Fin cfg4.W) : (dat4 (tcOf (W12 m)) c).arrAt w cfg4.N = tcOf (WB1 m) c (Pipeline.arrRef spec4 w) :=
  (WB1_arr m c w).symm
theorem hrestB1 (c : Dev nD) : ∀ b, b ∉ Finset.univ.image (Pipeline.arrRef spec4) → tcOf (WB1 m) c b = tcOf (W12 m) c b :=
  fun b hb => WB1_of_ne m c b fun w e => hb (Finset.mem_image.mpr ⟨w, Finset.mem_univ _, e⟩)

/-- After `cp1`. -/
def WB2 (c : Dev nD) : Valuation τ sig (Elt F) := StableHlo.after cp1 (WB1 m c)
theorem WB2_of (c : Dev nD) (r : Ref sig .tc) (h : r ∉ cp1_W) : WB2 m c (Proc.devRef .tc r) = WB1 m c (Proc.devRef .tc r) :=
  StableHlo.after_of_writes_sub cp1 _ cp1_writes h
theorem WB2_args (c : Dev nD) : ∀ a ∈ argRefs, WB2 m c (Proc.devRef .tc a) = m ((c : Thread nD τ).loc a) :=
  fun a ha => (WB2_of m c a (cp1_args a ha)).trans (WB1_args m c a ha)

/-! ## The first arm -/

/-- After `opsA`. -/
def W13 (c : Dev nD) : Valuation τ sig (Elt F) := StableHlo.after opsA (W12 m c)
theorem W13_of (c : Dev nD) (r : Ref sig .tc) (h : r ∉ opsA_W) : W13 m c (Proc.devRef .tc r) = W12 m c (Proc.devRef .tc r) :=
  StableHlo.after_of_writes_sub opsA _ opsA_writes h
theorem W13_args (c : Dev nD) : ∀ a ∈ argRefs, W13 m c (Proc.devRef .tc a) = m ((c : Thread nD τ).loc a) :=
  fun a ha => (W13_of m c a (opsA_args a ha)).trans (W12_args m c a ha)

/-- After `opsW2`. -/
def W14 (c : Dev nD) : Valuation τ sig (Elt F) := StableHlo.after opsW2 (W13 m c)
theorem W14_of (c : Dev nD) (r : Ref sig .tc) (h : r ∉ opsW2_W) : W14 m c (Proc.devRef .tc r) = W13 m c (Proc.devRef .tc r) :=
  StableHlo.after_of_writes_sub opsW2 _ opsW2_writes h
theorem W14_args (c : Dev nD) : ∀ a ∈ argRefs, W14 m c (Proc.devRef .tc a) = m ((c : Thread nD τ).loc a) :=
  fun a ha => (W14_of m c a (opsW2_args a ha)).trans (W13_args m c a ha)

/-! ### Every row recomputed -/

/-- At kernel call 1's exit: its arrays as the pipeline leaves them, every other buffer as entered. -/
def WF1 (c : Dev nD) : Valuation τ sig (Elt F) :=
  Pipeline.withArrays spec1 c (W14 m c) fun w => (dat1 (tcOf (W14 m)) c).arrAt w cfg1.N
theorem WF1_arr (c : Dev nD) (w : Fin cfg1.W) :
    WF1 m c (Proc.devRef .tc (Pipeline.arrRef spec1 w)) = (dat1 (tcOf (W14 m)) c).arrAt w cfg1.N := by
  unfold WF1; exact Pipeline.withArrays_arr spec1 (launch1 (F := F)).win.arr_inj c _ _ w
theorem WF1_of_ne (c : Dev nD) (b : Ref sig .tc) (hb : ∀ w, Pipeline.arrRef spec1 w ≠ b) :
    WF1 m c (Proc.devRef .tc b) = W14 m c (Proc.devRef .tc b) := by
  unfold WF1; exact Pipeline.withArrays_of_ne spec1 c _ _ b hb
theorem WF1_of (c : Dev nD) (r : Ref sig .tc) (h : ∀ w : Fin cfg1.W, Pipeline.arrRef spec1 w = r → (cfg1.win w).isOut = false) :
    WF1 m c (Proc.devRef .tc r) = W14 m c (Proc.devRef .tc r) :=
  exit_of1 (tcOf (W14 m)) c (W14 m c) (fun _ => rfl) r h
theorem argsInF1 : ∀ a ∈ argRefs, ∀ w : Fin cfg1.W, Pipeline.arrRef spec1 w = a → (cfg1.win w).isOut = false :=
  ListAll.forall_mem_of_all_decide (by decide +kernel)
theorem WF1_args (c : Dev nD) : ∀ a ∈ argRefs, WF1 m c (Proc.devRef .tc a) = m ((c : Thread nD τ).loc a) :=
  fun a ha => (WF1_of m c a (argsInF1 a ha)).trans (W14_args m c a ha)
theorem hFF1 (c : Dev nD) (w : Fin cfg1.W) : (dat1 (tcOf (W14 m)) c).arrAt w cfg1.N = tcOf (WF1 m) c (Pipeline.arrRef spec1 w) :=
  (WF1_arr m c w).symm
theorem hrestF1 (c : Dev nD) : ∀ b, b ∉ Finset.univ.image (Pipeline.arrRef spec1) → tcOf (WF1 m) c b = tcOf (W14 m) c b :=
  fun b hb => WF1_of_ne m c b fun w e => hb (Finset.mem_image.mpr ⟨w, Finset.mem_univ _, e⟩)

/-- After `cpF`. -/
def WF2 (c : Dev nD) : Valuation τ sig (Elt F) := StableHlo.after cpF (WF1 m c)
theorem WF2_of (c : Dev nD) (r : Ref sig .tc) (h : r ∉ cpF_W) : WF2 m c (Proc.devRef .tc r) = WF1 m c (Proc.devRef .tc r) :=
  StableHlo.after_of_writes_sub cpF _ cpF_writes h
theorem WF2_args (c : Dev nD) : ∀ a ∈ argRefs, WF2 m c (Proc.devRef .tc a) = m ((c : Thread nD τ).loc a) :=
  fun a ha => (WF2_of m c a (cpF_args a ha)).trans (WF1_args m c a ha)

/-- After `cp0`. -/
def WF3 (c : Dev nD) : Valuation τ sig (Elt F) := StableHlo.after cp0 (WF2 m c)
theorem WF3_of (c : Dev nD) (r : Ref sig .tc) (h : r ∉ cp0_W) : WF3 m c (Proc.devRef .tc r) = WF2 m c (Proc.devRef .tc r) :=
  StableHlo.after_of_writes_sub cp0 _ cp0_writes h
theorem WF3_args (c : Dev nD) : ∀ a ∈ argRefs, WF3 m c (Proc.devRef .tc a) = m ((c : Thread nD τ).loc a) :=
  fun a ha => (WF3_of m c a (cp0_args a ha)).trans (WF2_args m c a ha)

end Cert.KernelIdeal.Run

end
-- ==== Proof.TableOk.lean ====
module

public import proofs.«01_k».proof.Proof.Vals
public import Idealize.ShloMosaic.Lib.Pointwise
public import Idealize.ShloMosaic.Lib.SortFacts

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The table of the short arm: two entries of a permutation of the eight blocks -/

-- The memory at launch.
variable (m : (ℓ : Loc nD τ sig) → Buf (Elt F) ℓ)

/-- The flags the blocks are ordered by: set where no row of the block is bad. -/
abbrev goodBlk (c : Dev nD) : IVec S8 1 := W9 m c (Proc.devRef .tc main_v39)
/-- The block a place of the ordered blocks comes from. -/
def ordFrom (v : IVec S8 1) : Fin 8 → Fin 8 :=
  sortedFrom fun k k' => IntOp.cmpi .ult (v (ix1 k)) (v (ix1 k')) == 1#1

theorem W10_v40 (c : Dev nD) : W10 m c (Proc.devRef .tc main_v40)
    = (Host.sort2 S8 0 comparator_i1_i32_d0 (goodBlk m c) (iotaInDim S8 32 0)).2 := by
  unfold W10 goodBlk; after_reads_simp; rfl
theorem W11_v41 (c : Dev nD) : W11 m c (Proc.devRef .tc main_v41)
    = extractStridedSlice S2 ![0] (W10 m c (Proc.devRef .tc main_v40)) slices_S8_S2_0 := by
  unfold W11; after_reads_simp
theorem W14_v41 (c : Dev nD) : W14 m c (Proc.devRef .tc main_v41) = W11 m c (Proc.devRef .tc main_v41) :=
  (W14_of m c main_v41 (by decide)).trans ((W13_of m c main_v41 (by decide)).trans (W12_of m c main_v41 (by decide)))

theorem sort2_iota (v : IVec S8 1) (j : S8.Idx) :
    (Host.sort2 S8 0 comparator_i1_i32_d0 v (iotaInDim S8 32 0)).2 j = BitVec.ofNat 32 (ordFrom v (j 0)).val := by
  have hj : ∀ k : Fin 8, j.along (0 : Fin S8.rank) k = (ix1 k : S8.Idx) := fun k => funext fun a => by
    fin_cases a; rfl
  unfold Host.sort2
  rw [dif_pos (show (0 : Nat) < S8.rank from by decide)]
  have e : ∀ k : Fin 8, iotaInDim S8 32 0 (j.along (0 : Fin S8.rank) k) = BitVec.ofNat 32 k.val := fun k => by rw [hj]; rfl
  refine (e _).trans ?_
  unfold ordFrom
  have hf : (fun k k' : Fin 8 => comparator_i1_i32_d0 (v (j.along (0 : Fin S8.rank) k), iotaInDim S8 32 0 (j.along (0 : Fin S8.rank) k))
      (v (j.along (0 : Fin S8.rank) k'), iotaInDim S8 32 0 (j.along (0 : Fin S8.rank) k')) == 1#1)
      = fun k k' => IntOp.cmpi .ult (v (ix1 k)) (v (ix1 k')) == 1#1 := by
    funext k k'; rw [hj, hj]; rfl
  rw [← hf]; rfl

/-- The table's entry `j`: the block at place `j` of the ordered blocks. -/
theorem W14_v41_at (c : Dev nD) (j : S2.Idx) :
    W14 m c (Proc.devRef .tc main_v41) j = BitVec.ofNat 32 (ordFrom (goodBlk m c) ⟨(j 0).val, lt_of_lt_of_le (j 0).isLt (by decide)⟩).val := by
  rw [W14_v41, W11_v41, W10_v40]
  refine (sort2_iota _ _).trans ?_
  congr 3
  apply Fin.ext
  simp [extractStridedSlice]

theorem ok2_of_lt (pf : pre2.Contents (Elt F)) (h : ∀ j : S2.Idx, (pf 0 j : BitVec 32).toNat < 8) : ok2 pf := by
  have hat : ∀ (R : Rect S2) (e : R.shape.numel = 1), (pf.at 0 R e : BitVec 32).toNat < 8 := fun R e => h _
  refine ⟨fun i => ⟨fun a => ?_, Or.inl rfl⟩, fun i => ⟨fun a => ?_, Or.inl rfl⟩, fun i => ⟨fun a => ?_, Or.inl rfl⟩,
    fun i => ⟨fun a => ?_, Or.inl rfl⟩, fun i => ⟨fun a => ?_, Or.inl rfl⟩, fun i => ⟨fun a => ?_, Or.inl rfl⟩⟩
  all_goals
    have h0 := hat (Rect.unit (s := S2) ![(Scalar.indexCast (BitVec.ofNat 32 (i 0).val)).toNat] S1.size (k2_off1_inb i)) numel1_S1
    fin_cases a
    · refine le_trans (Nat.mul_le_mul_right _ (Nat.succ_le_of_lt h0)) ?_; decide
    · first | exact (show (0 + 1) * 1 ≤ 1 from by decide) | exact (show (0 + 1) * 100000 ≤ 100000 from by decide)

/-- The table the short arm's kernel is launched with: admissible. -/
theorem table_ok : ok2 (F := F) (fun k => W14 m 0 (Proc.devRef .tc (pre2.ref k))) :=
  ok2_of_lt _ fun j => by
    refine lt_of_eq_of_lt (congrArg BitVec.toNat (W14_v41_at m 0 j)) ?_
    rw [BitVec.toNat_ofNat]
    exact lt_of_le_of_lt (Nat.mod_le _ _) (Fin.isLt _)
/-- It, as the pipeline's. -/
def a2 : (pcfg2 (F := F)).Adm := ⟨fun k => W14 m 0 (Proc.devRef .tc (pre2.ref k)), table_ok m⟩

end Cert.KernelIdeal.Run

end
-- ==== Proof.Vals2.lean ====
module

public import proofs.«01_k».proof.Proof.TableOk

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The buffers along the arm that recomputes two blocks of rows -/

-- The memory at launch.
variable (m : (ℓ : Loc nD τ sig) → Buf (Elt F) ℓ)

/-- At kernel call 2's exit: its arrays as the pipeline leaves them, every other buffer as entered. -/
def WL1 (c : Dev nD) : Valuation τ sig (Elt F) :=
  Pipeline.withArrays spec2 c (W14 m c) fun w => (dat2 (tcOf (W14 m)) (a2 m) c).arrAt w (cfg2 (a2 m)).N
theorem WL1_arr (c : Dev nD) (w : Fin (cfg2 (a2 m)).W) :
    WL1 m c (Proc.devRef .tc (Pipeline.arrRef spec2 w)) = (dat2 (tcOf (W14 m)) (a2 m) c).arrAt w (cfg2 (a2 m)).N := by
  unfold WL1; exact Pipeline.withArrays_arr spec2 (launch2 (F := F)).win.arr_inj c _ _ w
theorem WL1_of_ne (c : Dev nD) (b : Ref sig .tc) (hb : ∀ w, Pipeline.arrRef spec2 w ≠ b) :
    WL1 m c (Proc.devRef .tc b) = W14 m c (Proc.devRef .tc b) := by
  unfold WL1; exact Pipeline.withArrays_of_ne spec2 c _ _ b hb
theorem WL1_of (c : Dev nD) (r : Ref sig .tc) (h : ∀ w : Fin (cfg2 (a2 m)).W, Pipeline.arrRef spec2 w = r → ((cfg2 (a2 m)).win w).isOut = false) :
    WL1 m c (Proc.devRef .tc r) = W14 m c (Proc.devRef .tc r) :=
  exit_of2 (tcOf (W14 m)) (a2 m) c (W14 m c) (fun _ => rfl) r h
theorem argsInL1 : ∀ a ∈ argRefs, ∀ w : Fin (cfg2 (a2 m)).W, Pipeline.arrRef spec2 w = a → ((cfg2 (a2 m)).win w).isOut = false :=
  fun a ha => (show ∀ a ∈ argRefs, ∀ w : Fin 8, Pipeline.arrRef spec2 w = a → (spec2 w).isOut = false from ListAll.forall_mem_of_all_decide (by decide +kernel)) a ha
theorem WL1_args (c : Dev nD) : ∀ a ∈ argRefs, WL1 m c (Proc.devRef .tc a) = m ((c : Thread nD τ).loc a) :=
  fun a ha => (WL1_of m c a (argsInL1 m a ha)).trans (W14_args m c a ha)
theorem hFL1 (c : Dev nD) (w : Fin (cfg2 (a2 m)).W) : (dat2 (tcOf (W14 m)) (a2 m) c).arrAt w (cfg2 (a2 m)).N = tcOf (WL1 m) c (Pipeline.arrRef spec2 w) :=
  (WL1_arr m c w).symm
theorem hrestL1 (c : Dev nD) : ∀ b, b ∉ Finset.univ.image (Pipeline.arrRef spec2) → tcOf (WL1 m) c b = tcOf (W14 m) c b :=
  fun b hb => WL1_of_ne m c b fun w e => hb (Finset.mem_image.mpr ⟨w, Finset.mem_univ _, e⟩)

/-- After `opsL`. -/
def WL2 (c : Dev nD) : Valuation τ sig (Elt F) := StableHlo.after opsL (WL1 m c)
theorem WL2_of (c : Dev nD) (r : Ref sig .tc) (h : r ∉ opsL_W) : WL2 m c (Proc.devRef .tc r) = WL1 m c (Proc.devRef .tc r) :=
  StableHlo.after_of_writes_sub opsL _ opsL_writes h
theorem WL2_args (c : Dev nD) : ∀ a ∈ argRefs, WL2 m c (Proc.devRef .tc a) = m ((c : Thread nD τ).loc a) :=
  fun a ha => (WL2_of m c a (opsL_args a ha)).trans (WL1_args m c a ha)

/-- At kernel call 3's exit: its arrays as the pipeline leaves them, every other buffer as entered. -/
def WL3 (c : Dev nD) : Valuation τ sig (Elt F) :=
  Pipeline.withArrays spec3 c (WL2 m c) fun w => (dat3 (tcOf (WL2 m)) c).arrAt w cfg3.N
theorem WL3_arr (c : Dev nD) (w : Fin cfg3.W) :
    WL3 m c (Proc.devRef .tc (Pipeline.arrRef spec3 w)) = (dat3 (tcOf (WL2 m)) c).arrAt w cfg3.N := by
  unfold WL3; exact Pipeline.withArrays_arr spec3 (launch3 (F := F)).win.arr_inj c _ _ w
theorem WL3_of_ne (c : Dev nD) (b : Ref sig .tc) (hb : ∀ w, Pipeline.arrRef spec3 w ≠ b) :
    WL3 m c (Proc.devRef .tc b) = WL2 m c (Proc.devRef .tc b) := by
  unfold WL3; exact Pipeline.withArrays_of_ne spec3 c _ _ b hb
theorem WL3_of (c : Dev nD) (r : Ref sig .tc) (h : ∀ w : Fin cfg3.W, Pipeline.arrRef spec3 w = r → (cfg3.win w).isOut = false) :
    WL3 m c (Proc.devRef .tc r) = WL2 m c (Proc.devRef .tc r) :=
  exit_of3 (tcOf (WL2 m)) c (WL2 m c) (fun _ => rfl) r h
theorem argsInL3 : ∀ a ∈ argRefs, ∀ w : Fin cfg3.W, Pipeline.arrRef spec3 w = a → (cfg3.win w).isOut = false :=
  ListAll.forall_mem_of_all_decide (by decide +kernel)
theorem WL3_args (c : Dev nD) : ∀ a ∈ argRefs, WL3 m c (Proc.devRef .tc a) = m ((c : Thread nD τ).loc a) :=
  fun a ha => (WL3_of m c a (argsInL3 a ha)).trans (WL2_args m c a ha)
theorem hFL3 (c : Dev nD) (w : Fin cfg3.W) : (dat3 (tcOf (WL2 m)) c).arrAt w cfg3.N = tcOf (WL3 m) c (Pipeline.arrRef spec3 w) :=
  (WL3_arr m c w).symm
theorem hrestL3 (c : Dev nD) : ∀ b, b ∉ Finset.univ.image (Pipeline.arrRef spec3) → tcOf (WL3 m) c b = tcOf (WL2 m) c b :=
  fun b hb => WL3_of_ne m c b fun w e => hb (Finset.mem_image.mpr ⟨w, Finset.mem_univ _, e⟩)

/-- After `cpL`. -/
def WL4 (c : Dev nD) : Valuation τ sig (Elt F) := StableHlo.after cpL (WL3 m c)
theorem WL4_of (c : Dev nD) (r : Ref sig .tc) (h : r ∉ cpL_W) : WL4 m c (Proc.devRef .tc r) = WL3 m c (Proc.devRef .tc r) :=
  StableHlo.after_of_writes_sub cpL _ cpL_writes h
theorem WL4_args (c : Dev nD) : ∀ a ∈ argRefs, WL4 m c (Proc.devRef .tc a) = m ((c : Thread nD τ).loc a) :=
  fun a ha => (WL4_of m c a (cpL_args a ha)).trans (WL3_args m c a ha)

/-- After `cp0`. -/
def WL5 (c : Dev nD) : Valuation τ sig (Elt F) := StableHlo.after cp0 (WL4 m c)
theorem WL5_of (c : Dev nD) (r : Ref sig .tc) (h : r ∉ cp0_W) : WL5 m c (Proc.devRef .tc r) = WL4 m c (Proc.devRef .tc r) :=
  StableHlo.after_of_writes_sub cp0 _ cp0_writes h
theorem WL5_args (c : Dev nD) : ∀ a ∈ argRefs, WL5 m c (Proc.devRef .tc a) = m ((c : Thread nD τ).loc a) :=
  fun a ha => (WL5_of m c a (cp0_args a ha)).trans (WL4_args m c a ha)

/-! ## The end -/

/-- The first branch word. -/
def word1 (c : Dev nD) : BitVec 32 := W12 m c (Proc.devRef .tc main_v45) HostLoop.idx0
/-- The second. -/
def word2 (c : Dev nD) : BitVec 32 := W14 m c (Proc.devRef .tc main_case0b0_v52) HostLoop.idx0

/-- The buffers when @main returns. -/
def Wend (c : Dev nD) : Valuation τ sig (Elt F) :=
  if HostLoop.branch (word1 m c) 1 = 0 then
    if HostLoop.branch (word2 m c) 1 = 0 then WF3 m c else WL5 m c
  else WB2 m c
theorem Wend_args (c : Dev nD) : ∀ a ∈ argRefs, Wend m c (Proc.devRef .tc a) = m ((c : Thread nD τ).loc a) := fun a ha => by
  unfold Wend
  split
  · split
    · exact WF3_args m c a ha
    · exact WL5_args m c a ha
  · exact WB2_args m c a ha

end Cert.KernelIdeal.Run

end
-- ==== Proof.Segs.lean ====
module

public import proofs.«01_k».proof.Proof.Vals2

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The kernel calls as steps of @main -/

/-- The resources the run is proved over. -/
local notation "𝕄" => MT nD τ sig Unit (Elt F) ℕ (URk) ℕ

-- The memory at launch.
variable (m : (ℓ : Loc nD τ sig) → Buf (Elt F) ℓ)

/-- The prefetched tables' contents: the short arm's kernel reads two blocks' numbers, no other has a table. -/
def adm : (p : Fin 5) → (pcfgs (F := F) p).Adm
  | ⟨0, _⟩ => (cfg0).toPCfg_adm
  | ⟨1, _⟩ => (cfg1).toPCfg_adm
  | ⟨2, _⟩ => a2 m
  | ⟨3, _⟩ => (cfg3).toPCfg_adm
  | ⟨4, _⟩ => (cfg4).toPCfg_adm
/-- Every pipeline's proof data, each at the contents its call is entered with. -/
def pdats : (p : Fin 5) → (c : Dev nD) → Dat τ (Elt F) Unit ℕ (URk) ℕ (Pipeline.pin (pcfgs (F := F)) (adm m) p) c
  | ⟨0, _⟩ => fun c => dat0 (tcOf (W7 m)) c
  | ⟨1, _⟩ => fun c => dat1 (tcOf (W14 m)) c
  | ⟨2, _⟩ => fun c => dat2 (tcOf (W14 m)) (a2 m) c
  | ⟨3, _⟩ => fun c => dat3 (tcOf (WL2 m)) c
  | ⟨4, _⟩ => fun c => dat4 (tcOf (W12 m)) c
abbrev 𝒱₀ : Variants := Variants.none
/-- No core owes another anything. -/
abbrev L : GSem nD τ sig → Finset Unit := fun _ => ∅
abbrev lv : GSem nD τ sig → Unit → ℕ := fun _ _ => 0
/-- What rides beside the buffers: the generator register at some state and the core's debts, none. -/
abbrev R (c : Dev nD) : sProp 𝕄 := iprop((∃ r, prngReg c r) ∗ ∃ W, owes (c : Thread nD τ) (0 : CellTallies nD τ sig Unit) W)
/-- A point between two steps: every unscoped buffer at `W`. -/
abbrev St (W : Valuation τ sig (Elt F)) (c : Dev nD) : sProp 𝕄 :=
  iprop(StableHlo.held (c : Thread nD τ) (Pipeline.ucRefs τ sig) W ∗ R c)

-- the pipeline library's statements are over the pinned configuration, which unification must unfold
set_option backward.isDefEq.respectTransparency.types false in
/-- Kernel call 0: from the buffers at `W7` to the buffers at `W8`. -/
def reg0 : Pipeline.RegionSeg (pcfgs (F := F)) (adm m) (pdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (body_obligation0 (tcOf (W7 m)) c).loose
  hwaits := Pipeline.hwaits_of_owed_zero _ _ _ _ L lv 0 fun _ _ => rfl
  pre c := St (W7 m c) c
  post c := St (W8 m c) c
  X c := iprop(∃ r, prngReg c r)
  Y c := iprop(∃ r, prngReg c r)
  Z c := Pipeline.unscopedRest (Ix := Unit) (Name := ℕ) (U := URk) (Lvl := ℕ) spec0 c (tcOf (W7 m) c)
  hentry c := by
    rw [Pipeline.ownSems0_none]
    have hsplit := Pipeline.arrays_of_unscopedBufs (p := 0) (pcfgs (F := F)) (adm m) (pdats m) (launch0 (F := F)).win (launch0 (F := F)).arr_whole c
      ((pdats m 0 c).share_full fun _ => rfl) (tcOf (W7 m) c) (A_eq0 (tcOf (W7 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) (adm m) (Ix := Unit) (Name := ℕ) (U := URk) (Lvl := ℕ)
      (launch0 (F := F)).win (launch0 (F := F)).arr_whole c (pdats m) ((pdats m 0 c).share_full fun _ => rfl)
      (tcOf (W7 m) c) (tcOf (W8 m) c) ((pdats m 0 c).arrAt · cfg0.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pipeline library's statements are over the pinned configuration, which unification must unfold
set_option backward.isDefEq.respectTransparency.types false in
/-- Kernel call 1: from the buffers at `W14` to the buffers at `WF1`. -/
def reg1 : Pipeline.RegionSeg (pcfgs (F := F)) (adm m) (pdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 (tcOf (W14 m)) c).loose
  hwaits := Pipeline.hwaits_of_owed_zero _ _ _ _ L lv 1 fun _ _ => rfl
  pre c := St (W14 m c) c
  post c := St (WF1 m c) c
  X c := iprop(∃ r, prngReg c r)
  Y c := iprop(∃ r, prngReg c r)
  Z c := Pipeline.unscopedRest (Ix := Unit) (Name := ℕ) (U := URk) (Lvl := ℕ) spec1 c (tcOf (W14 m) c)
  hentry c := by
    rw [Pipeline.ownSems0_none]
    have hsplit := Pipeline.arrays_of_unscopedBufs (p := 1) (pcfgs (F := F)) (adm m) (pdats m) (launch1 (F := F)).win (launch1 (F := F)).arr_whole c
      ((pdats m 1 c).share_full fun _ => rfl) (tcOf (W14 m) c) (A_eq1 (tcOf (W14 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) (adm m) (Ix := Unit) (Name := ℕ) (U := URk) (Lvl := ℕ)
      (launch1 (F := F)).win (launch1 (F := F)).arr_whole c (pdats m) ((pdats m 1 c).share_full fun _ => rfl)
      (tcOf (W14 m) c) (tcOf (WF1 m) c) ((pdats m 1 c).arrAt · cfg1.N) (hFF1 m c) (hrestF1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The short arm's table, held whole, split out of the buffers its kernel leaves alone. -/
theorem tableEq (c : Dev nD) :
    (Pipeline.unscopedRest (Ix := Unit) (Name := ℕ) (U := URk) (Lvl := ℕ) spec2 c (tcOf (W14 m) c) : sProp 𝕄)
      = iprop(Pipeline.prefHeld pre2 c (fun _ => fullShare) (a2 m).1
          ∗ Pipeline.unscopedRestP (Ix := Unit) (Name := ℕ) (U := URk) (Lvl := ℕ) pre2 spec2 c (tcOf (W14 m) c)) := by
  obtain rfl : c = 0 := Subsingleton.elim _ _
  exact Pipeline.unscopedRest_split preFacts2 0 (tcOf (W14 m) 0)
theorem tableSplit (c : Dev nD) :
    (Pipeline.unscopedRest (Ix := Unit) (Name := ℕ) (U := URk) (Lvl := ℕ) spec2 c (tcOf (W14 m) c) : sProp 𝕄)
      ⊢ iprop(Pipeline.prefHeld pre2 c (fun _ => fullShare) (a2 m).1
          ∗ Pipeline.unscopedRestP (Ix := Unit) (Name := ℕ) (U := URk) (Lvl := ℕ) pre2 spec2 c (tcOf (W14 m) c)) := by
  rw [tableEq]
theorem tableJoin (c : Dev nD) :
    iprop(Pipeline.prefHeld pre2 c (fun _ => fullShare) (a2 m).1
          ∗ Pipeline.unscopedRestP (Ix := Unit) (Name := ℕ) (U := URk) (Lvl := ℕ) pre2 spec2 c (tcOf (W14 m) c))
      ⊢ (Pipeline.unscopedRest (Ix := Unit) (Name := ℕ) (U := URk) (Lvl := ℕ) spec2 c (tcOf (W14 m) c) : sProp 𝕄) := by
  rw [tableEq]

-- the pipeline library's statements are over the pinned configuration, which unification must unfold
set_option backward.isDefEq.respectTransparency.types false in
/-- Kernel call 2: from the buffers at `W14` to the buffers at `WL1`. -/
def reg2 : Pipeline.RegionSeg (pcfgs (F := F)) (adm m) (pdats m) () defs₀ 𝒱₀ L lv 2 where
  win := (launch2 (F := F)).win.to₀
  block_pos := (launch2 (F := F)).block_pos
  stage_whole := (launch2 (F := F)).stage_whole
  K := PEmpty
  osem k := k.elim
  ho := Pipeline.OwnSemFacts.none _
  hbody c := (body_obligation2 (tcOf (W14 m)) (a2 m) c).loose
  hwaits := Pipeline.hwaits_of_owed_zero _ _ _ _ L lv 2 fun _ _ => rfl
  pre c := St (W14 m c) c
  post c := St (WL1 m c) c
  X c := iprop(∃ r, prngReg c r)
  Y c := iprop((∃ r, prngReg c r) ∗ Pipeline.prefHeld pre2 c (fun _ => fullShare) (a2 m).1)
  Z c := Pipeline.unscopedRestP (Ix := Unit) (Name := ℕ) (U := URk) (Lvl := ℕ) pre2 spec2 c (tcOf (W14 m) c)
  hentry c := by
    rw [Pipeline.ownSems0_none]
    have hsplit := Pipeline.arrays_of_unscopedBufs (p := 2) (pcfgs (F := F)) (adm m) (pdats m) (launch2 (F := F)).win (launch2 (F := F)).arr_whole c
      ((pdats m 2 c).share_full fun _ => rfl) (tcOf (W14 m) c) (A_eq2 (tcOf (W14 m)) (a2 m) c)
    rw [Pipeline.unscopedBufs_held] at hsplit
    iintro ⟨⟨Hub, Hp, HO⟩, -, -⟩
    ihave H := hsplit $$ Hub
    icases H with ⟨Ha, Hrest⟩
    ihave H := tableSplit m c $$ Hrest
    icases H with ⟨Ht, Hrest⟩
    imodintro
    isplitl [Ha]; · iexact Ha
    isplitl [Ht]; · iexact Ht
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = iprop(Pipeline.ΦA spec2 c ∗ Pipeline.prefHeld pre2 c (fun _ => fullShare) (a2 m).1) from rfl]; unfold Pipeline.ΦA
    iintro ⟨Hp, Ht, Hr⟩
    isplitr [Ht]
    · isplitl [Hr]; · iexact Hr
      iexact Hp
    iexact Ht
  hout c := by
    rw [Pipeline.ownSems0_none, show (pdats m 2 c).Φ (Fin.last _) = iprop(Pipeline.ΦA spec2 c ∗ Pipeline.prefHeld pre2 c (fun _ => fullShare) (a2 m).1) from rfl]; unfold Pipeline.ΦA
    iintro ⟨⟨Hr, Hp⟩, Ht⟩
    isplitl [Hp Ht]
    · isplitl [Hp]; · iexact Hp
      iexact Ht
    isplitr; · iempintro
    iexact Hr
  hexit c := by
    have hjoin := Pipeline.unscopedBufs_of_arrays (p := 2) (pcfgs (F := F)) (adm m) (Ix := Unit) (Name := ℕ) (U := URk) (Lvl := ℕ)
      (launch2 (F := F)).win (launch2 (F := F)).arr_whole c (pdats m) ((pdats m 2 c).share_full fun _ => rfl)
      (tcOf (W14 m) c) (tcOf (WL1 m) c) ((pdats m 2 c).arrAt · (cfg2 (a2 m)).N) (hFL1 m c) (hrestL1 m c)
    rw [Pipeline.unscopedBufs_held] at hjoin
    iintro ⟨Ha, HO, ⟨HY, Ht⟩, Hrest⟩
    ihave Hrest := tableJoin m c $$ [Ht Hrest]
    · isplitl [Ht] <;> iassumption
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pipeline library's statements are over the pinned configuration, which unification must unfold
set_option backward.isDefEq.respectTransparency.types false in
/-- Kernel call 3: from the buffers at `WL2` to the buffers at `WL3`. -/
def reg3 : Pipeline.RegionSeg (pcfgs (F := F)) (adm m) (pdats m) () defs₀ 𝒱₀ L lv 3 where
  win := (launch3 (F := F)).win.to₀
  block_pos := (launch3 (F := F)).block_pos
  stage_whole := (launch3 (F := F)).stage_whole
  K := PEmpty
  osem k := k.elim
  ho := Pipeline.OwnSemFacts.none _
  hbody c := (body_obligation3 (tcOf (WL2 m)) c).loose
  hwaits := Pipeline.hwaits_of_owed_zero _ _ _ _ L lv 3 fun _ _ => rfl
  pre c := St (WL2 m c) c
  post c := St (WL3 m c) c
  X c := iprop(∃ r, prngReg c r)
  Y c := iprop(∃ r, prngReg c r)
  Z c := Pipeline.unscopedRest (Ix := Unit) (Name := ℕ) (U := URk) (Lvl := ℕ) spec3 c (tcOf (WL2 m) c)
  hentry c := by
    rw [Pipeline.ownSems0_none]
    have hsplit := Pipeline.arrays_of_unscopedBufs (p := 3) (pcfgs (F := F)) (adm m) (pdats m) (launch3 (F := F)).win (launch3 (F := F)).arr_whole c
      ((pdats m 3 c).share_full fun _ => rfl) (tcOf (WL2 m) c) (A_eq3 (tcOf (WL2 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) (adm m) (Ix := Unit) (Name := ℕ) (U := URk) (Lvl := ℕ)
      (launch3 (F := F)).win (launch3 (F := F)).arr_whole c (pdats m) ((pdats m 3 c).share_full fun _ => rfl)
      (tcOf (WL2 m) c) (tcOf (WL3 m) c) ((pdats m 3 c).arrAt · cfg3.N) (hFL3 m c) (hrestL3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- the pipeline library's statements are over the pinned configuration, which unification must unfold
set_option backward.isDefEq.respectTransparency.types false in
/-- Kernel call 4: from the buffers at `W12` to the buffers at `WB1`. -/
def reg4 : Pipeline.RegionSeg (pcfgs (F := F)) (adm m) (pdats m) () defs₀ 𝒱₀ L lv 4 where
  win := (launch4 (F := F)).win.to₀
  block_pos := (launch4 (F := F)).block_pos
  stage_whole := (launch4 (F := F)).stage_whole
  K := PEmpty
  osem k := k.elim
  ho := Pipeline.OwnSemFacts.none _
  hbody c := (body_obligation4 (tcOf (W12 m)) c).loose
  hwaits := Pipeline.hwaits_of_owed_zero _ _ _ _ L lv 4 fun _ _ => rfl
  pre c := St (W12 m c) c
  post c := St (WB1 m c) c
  X c := iprop(∃ r, prngReg c r)
  Y c := iprop(∃ r, prngReg c r)
  Z c := Pipeline.unscopedRest (Ix := Unit) (Name := ℕ) (U := URk) (Lvl := ℕ) spec4 c (tcOf (W12 m) c)
  hentry c := by
    rw [Pipeline.ownSems0_none]
    have hsplit := Pipeline.arrays_of_unscopedBufs (p := 4) (pcfgs (F := F)) (adm m) (pdats m) (launch4 (F := F)).win (launch4 (F := F)).arr_whole c
      ((pdats m 4 c).share_full fun _ => rfl) (tcOf (W12 m) c) (A_eq4 (tcOf (W12 m)) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) (adm m) (Ix := Unit) (Name := ℕ) (U := URk) (Lvl := ℕ)
      (launch4 (F := F)).win (launch4 (F := F)).arr_whole c (pdats m) ((pdats m 4 c).share_full fun _ => rfl)
      (tcOf (W12 m) c) (tcOf (WB1 m) c) ((pdats m 4 c).arrAt · cfg4.N) (hFB1 m c) (hrestB1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Run

end
-- ==== Proof.Arms.lean ====
module

public import proofs.«01_k».proof.Proof.Segs

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The run of @main -/

/-- The resources the run is proved over. -/
local notation "𝕄" => MT nD τ sig Unit (Elt F) ℕ (URk) ℕ
/-- The programs of the core that runs the host. -/
abbrev TcProg (F : FTy → Type) [FloatOps F] : Type 1 := Prog (TpuEff nD τ sig (Elt F) (Pipeline.Sig Λ₀ (Fin 5) fun p => (pcfgs (F := F) p).Adm) .tc) PUnit

/-! ## @main, its arms by name -/

/-- Every row recomputed. -/
def armF : TcProg F := Pipeline.chain [Prog.lift (.customCall (Pipeline.entry 1) ()), StableHlo.seq cpF]
/-- Two blocks of rows recomputed. -/
def armL : TcProg F := Pipeline.chain [Prog.lift (.customCall (Pipeline.entry 2) ()), StableHlo.seq opsL,
  Prog.lift (.customCall (Pipeline.entry 3) ()), StableHlo.seq cpL]
/-- Some row is not certain: recompute what must be. -/
def arm0 : TcProg F := Pipeline.chain [StableHlo.seq opsA,
  (do
    let x ← hlo rfl (StableHlo.unary main_case0b0_v51 main_case0b0_v52 ((extui 32 · natLt_1_32) : (⟨S_, .i1⟩ : BufTy).Contents (Elt F) → (⟨S_, .i32⟩ : BufTy).Contents (Elt F))) (HostLoop.elt main_case0b0_v52)
    HostLoop.case 2 x fun
      | 0 => armF
      | 1 => armL
      | ⟨_ + 2, h⟩ => absurd h (Nat.not_lt.2 (Nat.le_add_left _ _))),
  StableHlo.seq cp0]
/-- Every row is certain. -/
def arm1 : TcProg F := Pipeline.chain [Prog.lift (.customCall (Pipeline.entry 4) ()), StableHlo.seq cp1]
/-- What follows the shared prefix. -/
def armsP : TcProg F := do
    let x ← hlo rfl (StableHlo.unary main_v44 main_v45 ((extui 32 · natLt_1_32) : (⟨S_, .i1⟩ : BufTy).Contents (Elt F) → (⟨S_, .i32⟩ : BufTy).Contents (Elt F))) (HostLoop.elt main_v45)
    HostLoop.case 2 x fun
      | 0 => arm0
      | 1 => arm1
      | ⟨_ + 2, h⟩ => absurd h (Nat.not_lt.2 (Nat.le_add_left _ _))

theorem main_arms (c : Dev nD) : main (F := F) c = Pipeline.chain
  [ StableHlo.seq hostOps0, StableHlo.seq hostOps0_1, StableHlo.seq hostOps0_2, StableHlo.seq hostOps0_3,
    StableHlo.seq hostOps0_4, StableHlo.seq hostOps0_5, StableHlo.seq hostOps0_6,
    Prog.lift (.customCall (Pipeline.entry 0) ()),
    StableHlo.seq hostOps1, StableHlo.seq hostOps1_1, StableHlo.seq hostOps1_2, armsP ] :=
  (main_chain c).trans (by chain_rfl)

end Cert.KernelIdeal.Run

end
-- ==== Proof.Steps.lean ====
module

public import proofs.«01_k».proof.Proof.Arms

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The run of @main, step by step -/

/-- The resources the run is proved over. -/
local notation "𝕄" => MT nD τ sig Unit (Elt F) ℕ (URk) ℕ

-- The memory at launch.
variable (m : (ℓ : Loc nD τ sig) → Buf (Elt F) ℓ)

/-- A program's run on core `c`, nothing bounding it. -/
abbrev WP {α : Type} (c : Dev nD) (p : Prog (TpuEff nD τ sig (Elt F) (Pipeline.Sig Λ₀ (Fin 5) fun p => (pcfgs (F := F) p).Adm) .tc) α) (K : α → sProp 𝕄) : sProp 𝕄 :=
  wp frame (wpE (Pipeline.defs (pcfgs (F := F)) defs₀) (Variants.lift 𝒱₀) (c : Thread nD τ) none) Set.univ p K
/-- The copy of the pipelines' ghost state that @main's calls use. -/
abbrev EP₁ : Emb (UR sig nD τ) 𝕄 := embAt (B := UR sig nD τ) (1 : Fin 2)
/-- What kernel call `p` needs of it. -/
abbrev gh (p : Fin 5) (c : Dev nD) : sProp 𝕄 :=
  iprop(Pipeline.cellsGhost (Pipeline.pin (pcfgs (F := F)) (adm m)) EP₁ p c ∗ Pipeline.toksInit (Pipeline.pin (pcfgs (F := F)) (adm m)) EP₁ p c)

theorem levEmp : (BI.emp : sProp 𝕄) ⊢ levAts L lv := by
  unfold levAts
  rw [show (fun g : GSem nD τ sig => bigSep (L g) fun ι => (levAt g ι (lv g ι) : sProp 𝕄)) = fun _ => BI.emp from
    funext fun g => BI.bigSep_empty, BI.bigSep_emp_const]

/-- A stretch of host operations, then the rest. -/
theorem step_host (ops : List (HloOp τ sig (Elt F))) (hsub : ops.Forall fun op => op.bufs ⊆ StableHlo.tcRefs τ sig)
    (hfresh : ops.Forall fun op => op.fresh = ∅) (W : Valuation τ sig (Elt F)) (c : Dev nD) (rest : List (TcProg F))
    {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (StableHlo.after ops W) c) -∗ WP c (Pipeline.chain rest >>= k) K)
      ∗ boundary (c : Thread nD τ) ∗ St W c) ⊢ WP c (Pipeline.chain (StableHlo.seq ops :: rest) >>= k) K := by
  rw [Pipeline.chain_cons, bind_assoc]
  iintro ⟨Hk, Hb, Hh, HR⟩
  iapply (StableHlo.wp_seq (Variants.lift 𝒱₀) none Set.univ c (Pipeline.ucRefs τ sig) _ ops
    (fun op h => Pipeline.sub_ucRefs op ((List.forall_iff_forall_mem.mp hsub) op h))
    (fun op h => (List.forall_iff_forall_mem.mp hfresh) op h) W) $$ [Hb Hh]
  · isplitl [Hb] <;> iassumption
  iintro ⟨Hb, Hh⟩
  iapply Hk
  isplitl [Hb]; · iexact Hb
  isplitl [Hh]; · iexact Hh
  iexact HR

set_option backward.isDefEq.respectTransparency.types false in
/-- A kernel call, then the rest. -/
theorem step_region (p : Fin 5) (G : Pipeline.RegionSeg (pcfgs (F := F)) (adm m) (pdats m) () defs₀ 𝒱₀ L lv p) (c : Dev nD) (rest : List (TcProg F))
    {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ G.post c) -∗ WP c (Pipeline.chain rest >>= k) K)
      ∗ boundary (c : Thread nD τ) ∗ G.pre c ∗ gh m p c)
      ⊢ WP c (Pipeline.chain (Prog.lift (.customCall (Pipeline.entry p) ()) :: rest) >>= k) K := by
  have h := Pipeline.RegionSeg.wp (pcfgs (F := F)) (adm m) (pdats m) () (cellOf_inj _) EP₁ defs₀ 𝒱₀ L lv G c none
    (fun u hu => nomatch hu) (fun _ => Pipeline.chain rest >>= k) K
  iintro ⟨Hk, Hb, Hp, Hg, Ht⟩
  iapply h
  isplitl [Hk]; · iexact Hk
  isplitl [Hb]; · iexact Hb
  isplitl [Hp]; · iexact Hp
  isplitr; · iapply levEmp; iempintro
  isplitl [Hg] <;> iassumption

set_option backward.isDefEq.respectTransparency.types false in
/-- A branch: the operation that computes the word, then the arm the word names. -/
theorem step_case {x y : Ref sig .tc} (f : x.ty.Contents (Elt F) → y.ty.Contents (Elt F)) (hx) (hy)
    (hty : y.ty = ⟨⟨0, ![]⟩, .i32⟩) (brs : Fin 2 → TcProg F) (W : Valuation τ sig (Elt F)) (c : Dev nD)
    {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (StableHlo.after [StableHlo.unary x y f hx hy] W) c)
          -∗ WP c (brs (HostLoop.branch (cast (congrArg (BufTy.Contents (Elt F)) hty) ((StableHlo.after [StableHlo.unary x y f hx hy] W) (Proc.devRef .tc y)) HostLoop.idx0) 1) >>= k) K)
      ∗ boundary (c : Thread nD τ) ∗ St W c)
      ⊢ WP c ((hlo rfl (StableHlo.unary x y f hx hy) (HostLoop.elt y hty) >>= fun v => HostLoop.case 2 v brs) >>= k) K := by
  have e : (StableHlo.after [StableHlo.unary x y f hx hy] W) (Proc.devRef .tc y) = (StableHlo.unary x y f hx hy).fn (fun b => W b.1) ⟨Proc.devRef .tc y, Finset.mem_singleton_self _⟩ := by
    rw [StableHlo.after_cons, StableHlo.after_nil, StableHlo.unary_result']; rfl
  rw [e]
  show _ ⊢ WP c (hlo rfl (StableHlo.unary x y f hx hy) fun w => brs (HostLoop.branch (cast (congrArg (BufTy.Contents (Elt F)) hty) (w ⟨Proc.devRef .tc y, Finset.mem_singleton_self _⟩) HostLoop.idx0) 1) >>= k) K
  iintro ⟨Hk, Hb, Hh, HR⟩
  iapply (StableHlo.wp_hlo_within (Variants.lift 𝒱₀) (c : Thread nD τ) none Set.univ (Pipeline.sub_ucRefs _ (StableHlo.unary_bufs_sub ..))) $$ [Hb Hh]
  · isplitl [Hb]; · iexact Hb
    iexact Hh
  iintro ⟨Hb, Hh⟩
  iapply Hk
  isplitl [Hb]; · iexact Hb
  isplitl [Hh]; · rw [StableHlo.after_cons, StableHlo.after_nil]; iexact Hh
  iexact HR

end Cert.KernelIdeal.Run

end
-- ==== Proof.ArmRuns.lean ====
module

public import proofs.«01_k».proof.Proof.Steps

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The arms' runs -/

/-- The resources the run is proved over. -/
local notation "𝕄" => MT nD τ sig Unit (Elt F) ℕ (URk) ℕ

-- The memory at launch.
variable (m : (ℓ : Loc nD τ sig) → Buf (Elt F) ℓ)

/-- A stretch of host operations, its end named. -/
theorem step_host' (ops : List (HloOp τ sig (Elt F))) (hsub : ops.Forall fun op => op.bufs ⊆ StableHlo.tcRefs τ sig)
    (hfresh : ops.Forall fun op => op.fresh = ∅) (W W' : Valuation τ sig (Elt F)) (hW : StableHlo.after ops W = W') (c : Dev nD) (rest : List (TcProg F))
    {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St W' c) -∗ WP c (Pipeline.chain rest >>= k) K)
      ∗ boundary (c : Thread nD τ) ∗ St W c) ⊢ WP c (Pipeline.chain (StableHlo.seq ops :: rest) >>= k) K := by
  subst hW; exact step_host ops hsub hfresh W c rest k K

set_option backward.isDefEq.respectTransparency.types false in
/-- A kernel call, its ends named. -/
theorem step_region' (p : Fin 5) (G : Pipeline.RegionSeg (pcfgs (F := F)) (adm m) (pdats m) () defs₀ 𝒱₀ L lv p) (c : Dev nD) (W W' : Valuation τ sig (Elt F))
    (hW : G.pre c = St W c) (hW' : G.post c = St W' c) (rest : List (TcProg F))
    {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St W' c) -∗ WP c (Pipeline.chain rest >>= k) K)
      ∗ boundary (c : Thread nD τ) ∗ St W c ∗ gh m p c)
      ⊢ WP c (Pipeline.chain (Prog.lift (.customCall (Pipeline.entry p) ()) :: rest) >>= k) K := by
  have h := step_region m p G c rest k K
  rw [hW, hW'] at h
  exact h

set_option backward.isDefEq.respectTransparency.types false in
/-- The second branch. -/
theorem case2_wp (brs : Fin 2 → TcProg F) (c : Dev nD) (i : Fin 2) (hi : HostLoop.branch (word2 m c) 1 = i) {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (W14 m c) c) -∗ WP c (brs i >>= k) K)
      ∗ boundary (c : Thread nD τ) ∗ St (W13 m c) c)
      ⊢ WP c ((hlo rfl (StableHlo.unary main_case0b0_v51 main_case0b0_v52 ((extui 32 · natLt_1_32) : (⟨S_, .i1⟩ : BufTy).Contents (Elt F) → (⟨S_, .i32⟩ : BufTy).Contents (Elt F))) (HostLoop.elt main_case0b0_v52) >>= fun v => HostLoop.case 2 v brs) >>= k) K := by
  subst hi
  unfold word2 W14
  exact step_case (x := main_case0b0_v51) (y := main_case0b0_v52) ((extui 32 · natLt_1_32) : (⟨S_, .i1⟩ : BufTy).Contents (Elt F) → (⟨S_, .i32⟩ : BufTy).Contents (Elt F)) _ _ rfl brs (W13 m c) c k K

set_option backward.isDefEq.respectTransparency.types false in
/-- The first branch. -/
theorem case1_wp (brs : Fin 2 → TcProg F) (c : Dev nD) (i : Fin 2) (hi : HostLoop.branch (word1 m c) 1 = i) {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (W12 m c) c) -∗ WP c (brs i >>= k) K)
      ∗ boundary (c : Thread nD τ) ∗ St (W11 m c) c)
      ⊢ WP c ((hlo rfl (StableHlo.unary main_v44 main_v45 ((extui 32 · natLt_1_32) : (⟨S_, .i1⟩ : BufTy).Contents (Elt F) → (⟨S_, .i32⟩ : BufTy).Contents (Elt F))) (HostLoop.elt main_v45) >>= fun v => HostLoop.case 2 v brs) >>= k) K := by
  subst hi
  unfold word1 W12
  exact step_case (x := main_v44) (y := main_v45) ((extui 32 · natLt_1_32) : (⟨S_, .i1⟩ : BufTy).Contents (Elt F) → (⟨S_, .i32⟩ : BufTy).Contents (Elt F)) _ _ rfl brs (W11 m c) c k K

set_option backward.isDefEq.respectTransparency.types false in
/-- Every row recomputed: one kernel call and a copy. -/
theorem armF_wp (c : Dev nD) {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (WF2 m c) c) -∗ WP c (k ⟨⟩) K)
      ∗ boundary (c : Thread nD τ) ∗ St (W14 m c) c ∗ gh m 1 c) ⊢ WP c (armF (F := F) >>= k) K := by
  unfold armF
  iintro ⟨Hk, Hb, HS, Hg⟩
  iapply (step_region' m 1 (reg1 m) c (W14 m c) (WF1 m c) rfl rfl _ k K)
  isplitl [Hk]
  · iintro ⟨Hb, HS⟩
    iapply (step_host' cpF cpF_sub cpF_fresh (WF1 m c) (WF2 m c) rfl c _ k K)
    isplitl [Hk]; · iexact Hk
    isplitl [Hb] <;> iassumption
  isplitl [Hb]; · iexact Hb
  isplitl [HS] <;> iassumption
set_option backward.isDefEq.respectTransparency.types false in
/-- Two blocks of rows recomputed: a kernel call, the scatter, a kernel call and a copy. -/
theorem armL_wp (c : Dev nD) {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (WL4 m c) c) -∗ WP c (k ⟨⟩) K)
      ∗ boundary (c : Thread nD τ) ∗ St (W14 m c) c ∗ gh m 2 c ∗ gh m 3 c) ⊢ WP c (armL (F := F) >>= k) K := by
  unfold armL
  iintro ⟨Hk, Hb, HS, Hg, Hg3⟩
  iapply (step_region' m 2 (reg2 m) c (W14 m c) (WL1 m c) rfl rfl _ k K)
  isplitl [Hk Hg3]
  · iintro ⟨Hb, HS⟩
    iapply (step_host' opsL opsL_sub opsL_fresh (WL1 m c) (WL2 m c) rfl c _ k K)
    isplitl [Hk Hg3]
    · iintro ⟨Hb, HS⟩
      iapply (step_region' m 3 (reg3 m) c (WL2 m c) (WL3 m c) rfl rfl _ k K)
      isplitl [Hk]
      · iintro ⟨Hb, HS⟩
        iapply (step_host' cpL cpL_sub cpL_fresh (WL3 m c) (WL4 m c) rfl c _ k K)
        isplitl [Hk]; · iexact Hk
        isplitl [Hb] <;> iassumption
      isplitl [Hb]; · iexact Hb
      isplitl [HS] <;> iassumption
    isplitl [Hb] <;> iassumption
  isplitl [Hb]; · iexact Hb
  isplitl [HS] <;> iassumption
set_option backward.isDefEq.respectTransparency.types false in
/-- Every row certain: a kernel call and a copy. -/
theorem arm1_wp (c : Dev nD) {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (WB2 m c) c) -∗ WP c (k ⟨⟩) K)
      ∗ boundary (c : Thread nD τ) ∗ St (W12 m c) c ∗ gh m 4 c) ⊢ WP c (arm1 (F := F) >>= k) K := by
  unfold arm1
  iintro ⟨Hk, Hb, HS, Hg⟩
  iapply (step_region' m 4 (reg4 m) c (W12 m c) (WB1 m c) rfl rfl _ k K)
  isplitl [Hk]
  · iintro ⟨Hb, HS⟩
    iapply (step_host' cp1 cp1_sub cp1_fresh (WB1 m c) (WB2 m c) rfl c _ k K)
    isplitl [Hk]; · iexact Hk
    isplitl [Hb] <;> iassumption
  isplitl [Hb]; · iexact Hb
  isplitl [HS] <;> iassumption
/-- The buffers after the arm taken when some row is not certain. -/
def WE0 (c : Dev nD) : Valuation τ sig (Elt F) :=
  if HostLoop.branch (word2 m c) 1 = 0 then WF3 m c else WL5 m c

theorem fin2_cases (i : Fin 2) : i = 0 ∨ i = 1 := by omega

set_option backward.isDefEq.respectTransparency.types false in
/-- The arm taken when some row is not certain: its own branch word names the arm within. -/
theorem arm0_wp (c : Dev nD) {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (WE0 m c) c) -∗ WP c (k ⟨⟩) K)
      ∗ boundary (c : Thread nD τ) ∗ St (W12 m c) c ∗ gh m 1 c ∗ gh m 2 c ∗ gh m 3 c) ⊢ WP c (arm0 (F := F) >>= k) K := by
  unfold arm0
  iintro ⟨Hk, Hb, HS, Hg1, Hg2, Hg3⟩
  iapply (step_host' opsA opsA_sub opsA_fresh (W12 m c) (W13 m c) rfl c _ k K)
  isplitr [Hb HS]
  · iintro ⟨Hb, HS⟩
    rw [Pipeline.chain_cons, bind_assoc]
    rcases fin2_cases (HostLoop.branch (word2 m c) 1) with h | h
    · iapply (case2_wp m _ c 0 h (fun _ => Pipeline.chain [StableHlo.seq cp0] >>= k) K)
      isplitr [Hb HS]
      · iintro ⟨Hb, HS⟩
        iapply (armF_wp m c (fun _ => Pipeline.chain [StableHlo.seq cp0] >>= k) K)
        isplitr [Hb HS Hg1]
        · iintro ⟨Hb, HS⟩
          iapply (step_host' cp0 cp0_sub cp0_fresh (WF2 m c) (WF3 m c) rfl c _ k K)
          isplitl [Hk]
          · rw [show WE0 m c = WF3 m c from if_pos h]; iexact Hk
          isplitl [Hb] <;> iassumption
        isplitl [Hb]; · iexact Hb
        isplitl [HS] <;> iassumption
      isplitl [Hb] <;> iassumption
    · iapply (case2_wp m _ c 1 h (fun _ => Pipeline.chain [StableHlo.seq cp0] >>= k) K)
      isplitr [Hb HS]
      · iintro ⟨Hb, HS⟩
        iapply (armL_wp m c (fun _ => Pipeline.chain [StableHlo.seq cp0] >>= k) K)
        isplitr [Hb HS Hg2 Hg3]
        · iintro ⟨Hb, HS⟩
          iapply (step_host' cp0 cp0_sub cp0_fresh (WL4 m c) (WL5 m c) rfl c _ k K)
          isplitl [Hk]
          · rw [show WE0 m c = WL5 m c from if_neg (by rw [h]; decide)]; iexact Hk
          isplitl [Hb] <;> iassumption
        isplitl [Hb]; · iexact Hb
        isplitl [HS]; · iexact HS
        isplitl [Hg2] <;> iassumption
      isplitl [Hb] <;> iassumption
  isplitl [Hb] <;> iassumption
set_option backward.isDefEq.respectTransparency.types false in
/-- The two arms: the branch word names the one taken. -/
theorem arms_wp (c : Dev nD) {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (Wend m c) c) -∗ WP c (k ⟨⟩) K)
      ∗ boundary (c : Thread nD τ) ∗ St (W11 m c) c ∗ gh m 1 c ∗ gh m 2 c ∗ gh m 3 c ∗ gh m 4 c) ⊢ WP c (armsP (F := F) >>= k) K := by
  unfold armsP
  iintro ⟨Hk, Hb, HS, Hg1, Hg2, Hg3, Hg4⟩
  rcases fin2_cases (HostLoop.branch (word1 m c) 1) with h | h
  · iapply (case1_wp m _ c 0 h k K)
    isplitr [Hb HS]
    · iintro ⟨Hb, HS⟩
      iapply (arm0_wp m c k K)
      isplitl [Hk]
      · rw [show Wend m c = WE0 m c from if_pos h]; iexact Hk
      isplitl [Hb]; · iexact Hb
      isplitl [HS]; · iexact HS
      isplitl [Hg1]; · iexact Hg1
      isplitl [Hg2] <;> iassumption
    isplitl [Hb] <;> iassumption
  · iapply (case1_wp m _ c 1 h k K)
    isplitr [Hb HS]
    · iintro ⟨Hb, HS⟩
      iapply (arm1_wp m c k K)
      isplitl [Hk]
      · rw [show Wend m c = WB2 m c from if_neg (by rw [h]; decide)]; iexact Hk
      isplitl [Hb]; · iexact Hb
      isplitl [HS] <;> iassumption
    isplitl [Hb] <;> iassumption

end Cert.KernelIdeal.Run

end
-- ==== Proof.Whole.lean ====
module

public import proofs.«01_k».proof.Proof.ArmRuns

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The whole run -/

/-- The resources the run is proved over. -/
local notation "𝕄" => MT nD τ sig Unit (Elt F) ℕ (URk) ℕ

-- The memory at launch.
variable (m : (ℓ : Loc nD τ sig) → Buf (Elt F) ℓ)

set_option backward.isDefEq.respectTransparency.types false in
/-- @main's run, from the launch's buffers to those it returns with. -/
theorem main_wp (c : Dev nD) {β : Type} (k : PUnit → Prog (TpuEff nD τ sig (Elt F) (Pipeline.Sig Λ₀ (Fin 5) fun p => (pcfgs (F := F) p).Adm) .tc) β) (K : β → sProp 𝕄) :
    iprop((iprop(boundary (c : Thread nD τ) ∗ St (Wend m c) c) -∗ WP c (k ⟨⟩) K)
      ∗ boundary (c : Thread nD τ) ∗ St (W0 m c) c ∗ gh m 0 c ∗ gh m 1 c ∗ gh m 2 c ∗ gh m 3 c ∗ gh m 4 c) ⊢ WP c (main (F := F) c >>= k) K := by
  rw [show main (F := F) c = _ from main_arms c]
  iintro ⟨Hk, Hb, HS, Hg0, Hg⟩
  iapply (step_host' hostOps0 hostOps0_sub hostOps0_fresh (W0 m c) (W1 m c) rfl c _ k K)
  isplitr [Hb HS]
  · iintro ⟨Hb, HS⟩
    iapply (step_host' hostOps0_1 hostOps0_1_sub hostOps0_1_fresh (W1 m c) (W2 m c) rfl c _ k K)
    isplitr [Hb HS]
    · iintro ⟨Hb, HS⟩
      iapply (step_host' hostOps0_2 hostOps0_2_sub hostOps0_2_fresh (W2 m c) (W3 m c) rfl c _ k K)
      isplitr [Hb HS]
      · iintro ⟨Hb, HS⟩
        iapply (step_host' hostOps0_3 hostOps0_3_sub hostOps0_3_fresh (W3 m c) (W4 m c) rfl c _ k K)
        isplitr [Hb HS]
        · iintro ⟨Hb, HS⟩
          iapply (step_host' hostOps0_4 hostOps0_4_sub hostOps0_4_fresh (W4 m c) (W5 m c) rfl c _ k K)
          isplitr [Hb HS]
          · iintro ⟨Hb, HS⟩
            iapply (step_host' hostOps0_5 hostOps0_5_sub hostOps0_5_fresh (W5 m c) (W6 m c) rfl c _ k K)
            isplitr [Hb HS]
            · iintro ⟨Hb, HS⟩
              iapply (step_host' hostOps0_6 hostOps0_6_sub hostOps0_6_fresh (W6 m c) (W7 m c) rfl c _ k K)
              isplitr [Hb HS]
              · iintro ⟨Hb, HS⟩
                iapply (step_region' m 0 (reg0 m) c (W7 m c) (W8 m c) rfl rfl _ k K)
                isplitr [Hb HS Hg0]
                · iintro ⟨Hb, HS⟩
                  iapply (step_host' hostOps1 hostOps1_sub hostOps1_fresh (W8 m c) (W9 m c) rfl c _ k K)
                  isplitr [Hb HS]
                  · iintro ⟨Hb, HS⟩
                    iapply (step_host' hostOps1_1 hostOps1_1_sub hostOps1_1_fresh (W9 m c) (W10 m c) rfl c _ k K)
                    isplitr [Hb HS]
                    · iintro ⟨Hb, HS⟩
                      iapply (step_host' hostOps1_2 hostOps1_2_sub hostOps1_2_fresh (W10 m c) (W11 m c) rfl c _ k K)
                      isplitr [Hb HS]
                      · iintro ⟨Hb, HS⟩
                        rw [Pipeline.chain_cons, bind_assoc]
                        iapply (arms_wp m c (fun _ => Pipeline.chain [] >>= k) K)
                        isplitl [Hk]; · iexact Hk
                        isplitl [Hb]; · iexact Hb
                        isplitl [HS] <;> iassumption
                      isplitl [Hb] <;> iassumption
                    isplitl [Hb] <;> iassumption
                  isplitl [Hb] <;> iassumption
                isplitl [Hb]; · iexact Hb
                isplitl [HS] <;> iassumption
              isplitl [Hb] <;> iassumption
            isplitl [Hb] <;> iassumption
          isplitl [Hb] <;> iassumption
        isplitl [Hb] <;> iassumption
      isplitl [Hb] <;> iassumption
    isplitl [Hb] <;> iassumption
  isplitl [Hb] <;> iassumption
/-- @main as one step of the launch, with the ghost state its kernel calls use. -/
def whole : Pipeline.HostSeg (Name := ℕ) (U := URk) (pcfgs (F := F)) defs₀ 𝒱₀ L lv where
  prog := main (F := F) 0
  pre c := iprop(St (W0 m c) c ∗ gh m 0 c ∗ gh m 1 c ∗ gh m 2 c ∗ gh m 3 c ∗ gh m 4 c)
  post c := St (Wend m c) c
  run c {β} k K := by
    obtain rfl : c = 0 := Subsingleton.elim _ _
    iintro ⟨Hk, Hb, ⟨HS, Hg⟩, -⟩
    iapply (main_wp m 0 k K)
    isplitl [Hk]; · iexact Hk
    isplitl [Hb]; · iexact Hb
    isplitl [HS] <;> iassumption

end Cert.KernelIdeal.Run

end
-- ==== Proof.Run.lean ====
module

public import proofs.«01_k».proof.Proof.Whole

@[expose] public section

set_option maxRecDepth 16384

noncomputable section

namespace Cert.KernelIdeal.Run

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The launch -/

/-- The resources the run is proved over. -/
local notation "𝕄" => MT nD τ sig Unit (Elt F) ℕ (URk) ℕ

-- The memory at launch.
variable (m : (ℓ : Loc nD τ sig) → Buf (Elt F) ℓ)

theorem no_unscoped : ∀ sm : SemLoc sig, sm.isScoped .tc = true := by decide
/-- An unscoped buffer is one of those the run's states hold. -/
theorem mem_uc (b : Ref sig .tc) (h : ¬ (Proc.devRef (τ := τ) .tc b).isScoped = true) : Proc.devRef .tc b ∈ Pipeline.ucRefs τ sig :=
  Finset.mem_filter.mpr ⟨StableHlo.devRef_mem_tcRefs b, h⟩

/-- What the launch hands a core beside its buffers: the ghost state of every kernel call. -/
abbrev gAll (c : Dev nD) : sProp 𝕄 := iprop(gh m 0 c ∗ gh m 1 c ∗ gh m 2 c ∗ gh m 3 c ∗ gh m 4 c)

/-- The launch element: one copy of the pipelines' algebra for the launch theorem, one for @main's calls. -/
def u0 : URk :=
  ((fun _ : Fin 2 => initOf (Pipeline.cells (Pipeline.pin (pcfgs (F := F)) (adm m)) (cellOf_inj _)) (Pipeline.launchToks (Pipeline.pin (pcfgs (F := F)) (adm m)) (cellOf_inj _)) : IProdConst (Fin 2) (UR sig nD τ)), 1)

theorem bigSep_fin1 (Φ : Dev nD → sProp 𝕄) : bigSep Finset.univ Φ = Φ 0 :=
  BI.bigSep_univ_eq_bigSepL [(0 : Fin 1)] (by decide) (by decide) Φ
theorem bigSep_fin2 (Φ : Fin 2 → sProp 𝕄) : bigSep Finset.univ Φ = iprop(Φ 0 ∗ Φ 1) :=
  BI.bigSep_univ_eq_bigSepL [(0 : Fin 2), 1] (by decide) (by decide) Φ
theorem bigSep_fin5 (Φ : Fin 5 → sProp 𝕄) : bigSep Finset.univ Φ = iprop(Φ 0 ∗ Φ 1 ∗ Φ 2 ∗ Φ 3 ∗ Φ 4) :=
  BI.bigSep_univ_eq_bigSepL [(0 : Fin 5), 1, 2, 3, 4] (by decide) (by decide) Φ

theorem deal_pure : iprop((bigSep Finset.univ fun c : Dev nD => bigSep Finset.univ fun p => Pipeline.cellsGhost (Pipeline.pin (pcfgs (F := F)) (adm m)) EP₁ p c)
      ∗ (bigSep Finset.univ fun c : Dev nD => bigSep Finset.univ fun p => Pipeline.toksInit (Pipeline.pin (pcfgs (F := F)) (adm m)) EP₁ p c)) ⊢ (bigSep Finset.univ (gAll m) : sProp 𝕄) := by
  rw [bigSep_fin1, bigSep_fin1, bigSep_fin1, bigSep_fin5, bigSep_fin5]
  iintro ⟨⟨H0, H1, H2, H3, H4⟩, G0, G1, G2, G3, G4⟩
  isplitl [H0 G0]; · isplitl [H0] <;> iassumption
  isplitl [H1 G1]; · isplitl [H1] <;> iassumption
  isplitl [H2 G2]; · isplitl [H2] <;> iassumption
  isplitl [H3 G3]; · isplitl [H3] <;> iassumption
  isplitl [H4] <;> iassumption

set_option backward.isDefEq.respectTransparency.types false in
theorem deal : (BI.own (EP₁ (F := F) (initOf (Pipeline.cells (Pipeline.pin (pcfgs (F := F)) (adm m)) (cellOf_inj _)) (Pipeline.launchToks (Pipeline.pin (pcfgs (F := F)) (adm m)) (cellOf_inj _)))) : sProp 𝕄)
    ⊢ |==> bigSep Finset.univ (gAll m) := by
  iintro H
  imod (Pipeline.fund_ghost (Pipeline.pin (pcfgs (F := F)) (adm m)) (EP₁ (F := F)) (cellOf_inj _)) $$ H with H
  imodintro
  iapply (deal_pure m)
  iexact H

set_option backward.isDefEq.respectTransparency.types false in
/-- The launch element is the two copies, the second dealt to the calls. -/
theorem fund : (ownU (u0 m) : sProp 𝕄)
    ⊢ |={Set.univ}=> iprop(BI.own ((embAt (B := UR sig nD τ) (0 : Fin 2) : Emb (UR sig nD τ) 𝕄) (initOf (Pipeline.cells (Pipeline.pin (pcfgs (F := F)) (adm m)) (cellOf_inj _)) (Pipeline.launchToks (Pipeline.pin (pcfgs (F := F)) (adm m)) (cellOf_inj _))))
        ∗ bigSep Finset.univ (gAll m)) := by
  have h : (ownU (u0 m) : sProp 𝕄) ⊢ iprop(BI.own ((embAt (B := UR sig nD τ) (0 : Fin 2) : Emb (UR sig nD τ) 𝕄) (initOf (Pipeline.cells (Pipeline.pin (pcfgs (F := F)) (adm m)) (cellOf_inj _)) (Pipeline.launchToks (Pipeline.pin (pcfgs (F := F)) (adm m)) (cellOf_inj _)))) ∗ BI.own (EP₁ (F := F) (initOf (Pipeline.cells (Pipeline.pin (pcfgs (F := F)) (adm m)) (cellOf_inj _)) (Pipeline.launchToks (Pipeline.pin (pcfgs (F := F)) (adm m)) (cellOf_inj _))))) := by
   have h := own_iprod (nD := nD) (τ := τ) (sig := sig) (Ix := Unit) (Val := Elt F) (Name := ℕ) (Lvl := ℕ) (B := UR sig nD τ) (u0 m).1
   rw [bigSep_fin2] at h
   exact h
  iintro Hu
  ihave H := h $$ Hu
  icases H with ⟨H0, H1⟩
  imod (deal m) $$ H1 with HG
  imodintro
  isplitl [H0]; · iexact H0
  iexact HG

/-- @main as the launch's one step. -/
abbrev segs : List (Pipeline.Seg (pcfgs (F := F)) (adm m) (pdats m) () defs₀ 𝒱₀ L lv) := [.host (whole m)]
theorem main_segs (c : Dev nD) : main (F := F) c = Pipeline.Seg.run (segs m) := by
  show main (F := F) 0 = (main (F := F) 0 >>= fun _ => .ret ⟨⟩)
  exact (bind_pure _).symm

set_option backward.isDefEq.respectTransparency.types false in
/-- From any memory with zero counters every weakly fair run of @main ends, nothing faulting, every buffer @main
    can name as `Wend` has it and every counter at zero. -/
theorem run_end (ρ : Dev nD → PrngReg) : θ_run defs (onTc (τ := τ) (main (F := F))) ⟨m, fun _ => 0, ρ⟩ (fun r =>
      (∀ c : Dev nD, ∀ b ∈ Pipeline.ucRefs τ sig, r.2.mem (((c : Thread nD τ)).1, b) = Wend m c b) ∧ r.2.sem = fun _ => 0) :=
  Pipeline.θ_run_regions_kit_sems (pcfgs (F := F)) (adm m) (pdats m) () (cellOf_inj _) (embAt (B := UR sig nD τ) (0 : Fin 2)) defs₀ 𝒱₀ L lv m ρ main (segs m)
    (fun c Q => by rw [main_segs m c])
    (by simp only [segs, Pipeline.Seg.pipes_host, Pipeline.Seg.pipes_nil]; decide)
    (O₀ := 0) (hL := fun _ _ => rfl) (G := gAll m) (u₀ := u0 m) (hu₀ := fund m)
    (T₀ := fun c => iprop(St (W0 m c) c ∗ gAll m c)) (Tₙ := fun c => iprop(StableHlo.held (c : Thread nD τ) (Pipeline.ucRefs τ sig) (Wend m c) ∗ ∃ r, prngReg c r))
    (hch := ⟨fun _ => .rfl, fun c => by
      show iprop(St (Wend m c) c) ⊢ _
      iintro ⟨H, Hp, HO⟩
      isplitr [HO]
      · isplitl [H] <;> iassumption
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, HG⟩, -⟩
      imodintro
      isplitr [HG]
      · isplitl [Hh]; · iexact Hh
        isplitl [Hp]; · iexists _; iexact Hp
        iexists ∅; iexact HO
      iexact HG)
    (QY := fun c s => ∀ b ∈ Pipeline.ucRefs τ sig, s.mem (((c : Thread nD τ)).1, b) = Wend m c b)
    (hfin := fun c s' => by
      iintro ⟨⟨Hh, -⟩, HSI⟩
      unfold StableHlo.held
      imodintro
      iapply (pointsTo_read_all (Pipeline.ucRefs τ sig) (fun b => (((c : Thread nD τ)).1, b)) (Wend m c) s')
      isplitl [Hh] <;> iassumption)
    (hQ := fun s h hz => ⟨h, funext fun g => hz g (.inr (no_unscoped g.2))⟩)

theorem run_arg (c : Dev nD) (a : Ref sig .tc) (ha : a ∈ argRefs) (hs : ¬ (Proc.devRef (τ := τ) .tc a).isScoped = true) {s : MemSt nD τ sig (Elt F)}
    (h : ∀ b ∈ Pipeline.ucRefs τ sig, s.mem (((c : Thread nD τ)).1, b) = Wend m c b) :
    s.mem ((c.tc : Thread nD τ).loc a) = m ((c.tc : Thread nD τ).loc a) :=
  (h _ (mem_uc a hs)).trans (Wend_args m c a ha)

set_option backward.isDefEq.respectTransparency.types false in
/-- The run leaves the arrays @main takes as they were. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨run_arg m c main_arg0 (by decide) (by decide) (h.1 c), run_arg m c main_arg1 (by decide) (by decide) (h.1 c), run_arg m c main_arg2 (by decide) (by decide) (h.1 c), run_arg m c main_arg3 (by decide) (by decide) (h.1 c), run_arg m c main_arg4 (by decide) (by decide) (h.1 c), run_arg m c main_arg5 (by decide) (by decide) (h.1 c), run_arg m c main_arg6 (by decide) (by decide) (h.1 c)⟩, h.2⟩) (run_end m ρ)

end Cert.KernelIdeal.Run

end
-- ==== Proof.K.Base.lean ====
module

public import proofs.«01_k».proof.Proof.Gen.Kernel.Launch
public import Idealize.ShloMosaic.Lib.Pipeline.RegionsLoop

@[expose] public section

noncomputable section

namespace Cert.Kernel.Run

open Cert.Kernel.Gen
open Idealize.ShloMosaic Idealize.ShloMosaic.TcCoe
open Idealize.SL Idealize.SL.RA Idealize.SL.BI

/-- The user algebra of the run: two copies of the pipelines' component, one that the launch theorem seeds and one that
    the composed run of @main draws on. -/
abbrev URk : Type := IProdConst (Fin 2) (UR sig nD τ) × UR sig nD τ

/-- The one index of a one-element vector. -/
abbrev idx0_S1 : S1.Idx := fun i => ⟨0, by revert i; decide⟩

end Cert.Kernel.Run

end
-- ==== Proof.RefOps.lean ====
module

public import proofs.«01_k».proof.Proof.Gen.ReferenceIdeal
public import Idealize.ShloMosaic.Lib.StableHlo.RunRead
public import Idealize.ShloMosaic.Lib.Ring
public import Idealize.ShloMosaic.Lib.Pipeline.FrameBody
public import Idealize.ShloMosaic.Lib.Pipeline.Regions

@[expose] public section

set_option maxRecDepth 16384

noncomputable section

namespace Cert.ReferenceIdeal.Run

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The reference's host operations -/

/-- The arrays @main takes. -/
abbrev argRefs : List (Ref sig .tc) := [main_arg0, main_arg1, main_arg2, main_arg3, main_arg4, main_arg5, main_arg6]

/-- @take_along_axis (main_call0)'s operations, in order. -/
abbrev ops0 : List (HloOp τ sig (Elt F)) :=
  [ StableHlo.TRef.nullary (.of main_call0_c : StableHlo.TRef sig ⟨S_, .i32⟩) (constantI S_ 32 0#32),
    StableHlo.TRef.unary (.of main_call0_c : StableHlo.TRef sig ⟨S_, .i32⟩) (.of main_call0_v0 : StableHlo.TRef sig ⟨S128x1, .i32⟩) (broadcastInDim S128x1 ![] bcast_S_S128x1),
    StableHlo.TRef.binary (.of main_arg0 : StableHlo.TRef sig ⟨S128x1, .i32⟩) (.of main_call0_v0 : StableHlo.TRef sig ⟨S128x1, .i32⟩) (.of main_call0_v1 : StableHlo.TRef sig ⟨S128x1, .i1⟩) (cmpi .slt),
    StableHlo.TRef.nullary (.of main_call0_c_0 : StableHlo.TRef sig ⟨S_, .i32⟩) (constantI S_ 32 100000#32),
    StableHlo.TRef.unary (.of main_call0_c_0 : StableHlo.TRef sig ⟨S_, .i32⟩) (.of main_call0_v2 : StableHlo.TRef sig ⟨S128x1, .i32⟩) (broadcastInDim S128x1 ![] bcast_S_S128x1),
    StableHlo.TRef.binary (.of main_arg0 : StableHlo.TRef sig ⟨S128x1, .i32⟩) (.of main_call0_v2 : StableHlo.TRef sig ⟨S128x1, .i32⟩) (.of main_call0_v3 : StableHlo.TRef sig ⟨S128x1, .i32⟩) addi,
    StableHlo.TRef.ternary (.of main_call0_v1 : StableHlo.TRef sig ⟨S128x1, .i1⟩) (.of main_call0_v3 : StableHlo.TRef sig ⟨S128x1, .i32⟩) (.of main_arg0 : StableHlo.TRef sig ⟨S128x1, .i32⟩) (.of main_call0_v4 : StableHlo.TRef sig ⟨S128x1, .i32⟩) select,
    StableHlo.TRef.reshape (.of main_call0_v4 : StableHlo.TRef sig ⟨S128x1, .i32⟩) (.of main_call0_v5 : StableHlo.TRef sig ⟨S128x1x1, .i32⟩) (rfl : (.i32 : EltTy) = .i32) shapeCasts_S128x1_S128x1x1,
    StableHlo.TRef.nullary (.of main_call0_c_1 : StableHlo.TRef sig ⟨S1, .i32⟩) (constantI S1 32 99999#32),
    StableHlo.TRef.nullary (.of main_call0_c_2 : StableHlo.TRef sig ⟨S_, .i32⟩) (constantI S_ 32 0#32),
    StableHlo.TRef.unary (.of main_call0_c_2 : StableHlo.TRef sig ⟨S_, .i32⟩) (.of main_call0_v6 : StableHlo.TRef sig ⟨S128x1x1, .i32⟩) (broadcastInDim S128x1x1 ![] bcast_S_S128x1x1),
    StableHlo.TRef.binary (.of main_call0_v5 : StableHlo.TRef sig ⟨S128x1x1, .i32⟩) (.of main_call0_v6 : StableHlo.TRef sig ⟨S128x1x1, .i32⟩) (.of main_call0_v7 : StableHlo.TRef sig ⟨S128x1x1, .i1⟩) (cmpi .sge),
    StableHlo.TRef.unary (.of main_call0_c_1 : StableHlo.TRef sig ⟨S1, .i32⟩) (.of main_call0_v8 : StableHlo.TRef sig ⟨S1x1x1, .i32⟩) (broadcastInDim S1x1x1 ![2] bcast_S1_S1x1x1_2),
    StableHlo.TRef.unary (.of main_call0_v8 : StableHlo.TRef sig ⟨S1x1x1, .i32⟩) (.of main_call0_v9 : StableHlo.TRef sig ⟨S128x1x1, .i32⟩) (broadcastInDim S128x1x1 ![0, 1, 2] bcast_S1x1x1_S128x1x1_0_1_2),
    StableHlo.TRef.binary (.of main_call0_v5 : StableHlo.TRef sig ⟨S128x1x1, .i32⟩) (.of main_call0_v9 : StableHlo.TRef sig ⟨S128x1x1, .i32⟩) (.of main_call0_v10 : StableHlo.TRef sig ⟨S128x1x1, .i1⟩) (cmpi .sle),
    StableHlo.TRef.binary (.of main_call0_v7 : StableHlo.TRef sig ⟨S128x1x1, .i1⟩) (.of main_call0_v10 : StableHlo.TRef sig ⟨S128x1x1, .i1⟩) (.of main_call0_v11 : StableHlo.TRef sig ⟨S128x1x1, .i1⟩) andi,
    StableHlo.TRef.nullary (.of main_call0_c_3 : StableHlo.TRef sig ⟨S_, .i1⟩) (constantI S_ 1 1#1),
    StableHlo.TRef.binary (.of main_call0_v11 : StableHlo.TRef sig ⟨S128x1x1, .i1⟩) (.of main_call0_c_3 : StableHlo.TRef sig ⟨S_, .i1⟩) (.of main_call0_v12 : StableHlo.TRef sig ⟨S128x1, .i1⟩) (fun x v => Host.reduce IntOp.andi x v reducesTo_S128x1x1_S128x1_d2 h_S_),
    StableHlo.TRef.binary (.of main_arg1 : StableHlo.TRef sig ⟨S128x100000, .f32⟩) (.of main_call0_v5 : StableHlo.TRef sig ⟨S128x1x1, .i32⟩) (.of main_call0_v13 : StableHlo.TRef sig ⟨S128x1, .f32⟩) (fun x i => Host.gather gather_S128x100000_S128x1x1_S128x1_n_1_0_0_1_2_11 x i),
    StableHlo.TRef.nullary (.of main_call0_cst : StableHlo.TRef sig ⟨S_, .f32⟩) (constant S_ .f32 0x7FC00000#32),
    StableHlo.TRef.unary (.of main_call0_cst : StableHlo.TRef sig ⟨S_, .f32⟩) (.of main_call0_v14 : StableHlo.TRef sig ⟨S128x1, .f32⟩) (broadcastInDim S128x1 ![] bcast_S_S128x1),
    StableHlo.TRef.ternary (.of main_call0_v12 : StableHlo.TRef sig ⟨S128x1, .i1⟩) (.of main_call0_v13 : StableHlo.TRef sig ⟨S128x1, .f32⟩) (.of main_call0_v14 : StableHlo.TRef sig ⟨S128x1, .f32⟩) (.of main_v0 : StableHlo.TRef sig ⟨S128x1, .f32⟩) select ]
theorem ops0_sub : (ops0 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩
/-- No operation of `ops0` allocates a buffer. -/
theorem ops0_fresh : (ops0 : List (HloOp τ sig (Elt F))).Forall fun op => op.fresh = ∅ := by
  simp only [List.Forall]; repeat' constructor
/-- What `ops0` writes, in order. -/
abbrev ops0_W : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v0]
theorem ops0_writes : (ops0 : List (HloOp τ sig (Elt F))).Forall fun op => op.writes ⊆ (ops0_W.map (Proc.devRef (τ := τ) .tc)).toFinset :=
  StableHlo.forall_writes_sub_of_map rfl
theorem ops0_args : ∀ a ∈ argRefs, a ∉ ops0_W := ListAll.forall_mem_of_all_decide (by decide +kernel)

/-- @main's operations, in order. -/
abbrev ops1 : List (HloOp τ sig (Elt F)) :=
  [ StableHlo.nullary main_cst (constant S_ .f32 0x3F800000#32),
    StableHlo.unary main_cst main_v1 (broadcastInDim S1 ![] bcast_S_S1 : (⟨S_, .f32⟩ : BufTy).Contents (Elt F) → (⟨S1, .f32⟩ : BufTy).Contents (Elt F)),
    StableHlo.binary main_v1 main_arg3 main_v2 (subf : (⟨S1, .f32⟩ : BufTy).Contents (Elt F) → (⟨S1, .f32⟩ : BufTy).Contents (Elt F) → (⟨S1, .f32⟩ : BufTy).Contents (Elt F)),
    StableHlo.nullary main_cst_0 (constant S_ .f32 0x3F800000#32),
    StableHlo.unary main_cst_0 main_v3 (broadcastInDim S1 ![] bcast_S_S1 : (⟨S_, .f32⟩ : BufTy).Contents (Elt F) → (⟨S1, .f32⟩ : BufTy).Contents (Elt F)),
    StableHlo.nullary main_cst_1 (constant S_ .f32 0x38D1B717#32) ]
theorem ops1_sub : (ops1 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.nullary_bufs_sub ..⟩
/-- No operation of `ops1` allocates a buffer. -/
theorem ops1_fresh : (ops1 : List (HloOp τ sig (Elt F))).Forall fun op => op.fresh = ∅ := by
  simp only [List.Forall]; repeat' constructor
/-- What `ops1` writes, in order. -/
abbrev ops1_W : List (Ref sig .tc) := [main_cst, main_v1, main_v2, main_cst_0, main_v3, main_cst_1]
theorem ops1_writes : (ops1 : List (HloOp τ sig (Elt F))).Forall fun op => op.writes ⊆ (ops1_W.map (Proc.devRef (τ := τ) .tc)).toFinset :=
  StableHlo.forall_writes_sub_of_map rfl
theorem ops1_args : ∀ a ∈ argRefs, a ∉ ops1_W := ListAll.forall_mem_of_all_decide (by decide +kernel)

/-- @clip (main_call1)'s operations, in order. -/
abbrev ops2 : List (HloOp τ sig (Elt F)) :=
  [ StableHlo.TRef.unary (.of main_cst_1 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S1, .f32⟩) (broadcastInDim S1 ![] bcast_S_S1),
    StableHlo.TRef.binary (.of main_call1_v1 : StableHlo.TRef sig ⟨S1, .f32⟩) (.of main_v2 : StableHlo.TRef sig ⟨S1, .f32⟩) (.of main_v4 : StableHlo.TRef sig ⟨S1, .f32⟩) maximumf ]
theorem ops2_sub : (ops2 : List (HloOp τ sig (Elt F))).Forall fun op => op.bufs ⊆ StableHlo.tcRefs τ sig :=
  ⟨StableHlo.unary_bufs_sub .., StableHlo.unary_bufs_sub .., StableHlo.binary_bufs_sub ..⟩
/-- No operation of `ops2` allocates a buffer. -/
theorem ops2_fresh : (ops2 : List (HloOp τ sig (Elt F))).Forall fun op => op.fresh = ∅ := by
  simp only [List.Forall]; repeat' constructor
/-- What `ops2` writes, in order. -/
abbrev ops2_W : List (Ref sig .tc) := [main_call1_v0, main_call1_v1, main_v4]
theorem ops2_writes : (ops2 : List (HloOp τ sig (Elt F))).Forall fun op => op.writes ⊆ (ops2_W.map (Proc.devRef (τ := τ) .tc)).toFinset :=
  StableHlo.forall_writes_sub_of_map rfl
theorem ops2_args : ∀ a ∈ argRefs, a ∉ ops2_W := ListAll.forall_mem_of_all_decide (by decide +kernel)

/-- @main's operations, in order. -/
abbrev ops3 : List (HloOp τ sig (Elt F)) :=
  [ StableHlo.binary main_v3 main_v4 main_v5 (Host.divf : (⟨S1, .f32⟩ : BufTy).Contents (Elt F) → (⟨S1, .f32⟩ : BufTy).Contents (Elt F) → (⟨S1, .f32⟩ : BufTy).Contents (Elt F)),
    StableHlo.unary main_arg4 main_v6 (sitofp .f32 : (⟨S_, .i32⟩ : BufTy).Contents (Elt F) → (⟨S_, .f32⟩ : BufTy).Contents (Elt F)),
    StableHlo.nullary main_cst_2 (constant S_ .f32 0x3F800000#32),
    StableHlo.binary main_cst_2 main_v6 main_v7 (addf : (⟨S_, .f32⟩ : BufTy).Contents (Elt F) → (⟨S_, .f32⟩ : BufTy).Contents (Elt F) → (⟨S_, .f32⟩ : BufTy).Contents (Elt F)),
    StableHlo.nullary main_c (constantI S_ 32 99999#32),
    StableHlo.binary main_arg4 main_c main_v8 (muli : (⟨S_, .i32⟩ : BufTy).Contents (Elt F) → (⟨S_, .i32⟩ : BufTy).Contents (Elt F) → (⟨S_, .i32⟩ : BufTy).Contents (Elt F)),
    StableHlo.unary main_v8 main_v9 (sitofp .f32 : (⟨S_, .i32⟩ : BufTy).Contents (Elt F) → (⟨S_, .f32⟩ : BufTy).Contents (Elt F)),
    StableHlo.unary main_v9 main_v10 (broadcastInDim S1 ![] bcast_S_S1 : (⟨S_, .f32⟩ : BufTy).Contents (Elt F) → (⟨S1, .f32⟩ : BufTy).Contents (Elt F)),
    StableHlo.binary main_v10 main_arg3 main_v11 (mulf : (⟨S1, .f32⟩ : BufTy).Contents (Elt F) → (⟨S1, .f32⟩ : BufTy).Contents (Elt F) → (⟨S1, .f32⟩ : BufTy).Contents (Elt F)),
    StableHlo.unary main_v7 main_v12 (id : (⟨S_, .f32⟩ : BufTy).Contents (Elt F) → (⟨S_, .f32⟩ : BufTy).Contents (Elt F)),
    StableHlo.unary main_v12 main_v13 (broadcastInDim S1 ![] bcast_S_S1 : (⟨S_, .f32⟩ : BufTy).Contents (Elt F) → (⟨S1, .f32⟩ : BufTy).Contents (Elt F)),
    StableHlo.binary main_v13 main_v11 main_v14 (addf : (⟨S1, .f32⟩ : BufTy).Contents (Elt F) → (⟨S1, .f32⟩ : BufTy).Contents (Elt F) → (⟨S1, .f32⟩ : BufTy).Contents (Elt F)),
    StableHlo.binary main_arg5 main_v14 main_v15 (mulf : (⟨S1, .f32⟩ : BufTy).Contents (Elt F) → (⟨S1, .f32⟩ : BufTy).Contents (Elt F) → (⟨S1, .f32⟩ : BufTy).Contents (Elt F)),
    StableHlo.binary main_v15 main_v5 main_v16 (mulf : (⟨S1, .f32⟩ : BufTy).Contents (Elt F) → (⟨S1, .f32⟩ : BufTy).Contents (Elt F) → (⟨S1, .f32⟩ : BufTy).Contents (Elt F)),
    StableHlo.unary main_v16 main_v17 (broadcastInDim S1x1 ![1] bcast_S1_S1x1_1 : (⟨S1, .f32⟩ : BufTy).Contents (Elt F) → (⟨S1x1, .f32⟩ : BufTy).Contents (Elt F)),
    StableHlo.unary main_v17 main_v18 (broadcastInDim S128x100000 ![0, 1] bcast_S1x1_S128x100000_0_1 : (⟨S1x1, .f32⟩ : BufTy).Contents (Elt F) → (⟨S128x100000, .f32⟩ : BufTy).Contents (Elt F)),
    StableHlo.binary main_v18 main_arg1 main_v19 (mulf : (⟨S128x100000, .f32⟩ : BufTy).Contents (Elt F) → (⟨S128x100000, .f32⟩ : BufTy).Contents (Elt F) → (⟨S128x100000, .f32⟩ : BufTy).Contents (Elt F)),
    StableHlo.unary main_arg4 main_v20 (sitofp .f32 : (⟨S_, .i32⟩ : BufTy).Contents (Elt F) → (⟨S_, .f32⟩ : BufTy).Contents (Elt F)),
    StableHlo.unary main_v20 main_v21 (broadcastInDim S1 ![] bcast_S_S1 : (⟨S_, .f32⟩ : BufTy).Contents (Elt F) → (⟨S1, .f32⟩ : BufTy).Contents (Elt F)),
    StableHlo.binary main_arg5 main_v21 main_v22 (mulf : (⟨S1, .f32⟩ : BufTy).Contents (Elt F) → (⟨S1, .f32⟩ : BufTy).Contents (Elt F) → (⟨S1, .f32⟩ : BufTy).Contents (Elt F)),
    StableHlo.unary main_v22 main_v23 (broadcastInDim S1x1 ![1] bcast_S1_S1x1_1 : (⟨S1, .f32⟩ : BufTy).Contents (Elt F) → (⟨S1x1, .f32⟩ : BufTy).Contents (Elt F)),
    StableHlo.unary main_v23 main_v24 (broadcastInDim S128x1 ![0, 1] bcast_S1x1_S128x1_0_1 : (⟨S1x1, .f32⟩ : BufTy).Contents (Elt F) → (⟨S128x1, .f32⟩ : BufTy).Contents (Elt F)) ]
theorem ops3_sub : (ops3 : List (HloOp τ sig (Elt F))).Forall fun op => op.bufs ⊆ StableHlo.tcRefs τ sig :=
  ⟨StableHlo.binary_bufs_sub .., StableHlo.unary_bufs_sub .., StableHlo.nullary_bufs_sub .., StableHlo.binary_bufs_sub .., StableHlo.nullary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.binary_bufs_sub .., StableHlo.binary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub ..⟩
/-- No operation of `ops3` allocates a buffer. -/
theorem ops3_fresh : (ops3 : List (HloOp τ sig (Elt F))).Forall fun op => op.fresh = ∅ := by
  simp only [List.Forall]; repeat' constructor
/-- What `ops3` writes, in order. -/
abbrev ops3_W : List (Ref sig .tc) := [main_v5, main_v6, main_cst_2, main_v7, main_c, main_v8, main_v9, main_v10, main_v11, main_v12, main_v13, main_v14, main_v15, main_v16, main_v17, main_v18, main_v19, main_v20, main_v21, main_v22, main_v23, main_v24]
theorem ops3_writes : (ops3 : List (HloOp τ sig (Elt F))).Forall fun op => op.writes ⊆ (ops3_W.map (Proc.devRef (τ := τ) .tc)).toFinset :=
  StableHlo.forall_writes_sub_of_map rfl
theorem ops3_args : ∀ a ∈ argRefs, a ∉ ops3_W := ListAll.forall_mem_of_all_decide (by decide +kernel)

/-- @main's operations, in order. -/
abbrev ops4 : List (HloOp τ sig (Elt F)) :=
  [ StableHlo.binary main_v24 main_v0 main_v25 (mulf : (⟨S128x1, .f32⟩ : BufTy).Contents (Elt F) → (⟨S128x1, .f32⟩ : BufTy).Contents (Elt F) → (⟨S128x1, .f32⟩ : BufTy).Contents (Elt F)),
    StableHlo.unary main_v25 main_v26 (broadcastInDim S128x100000 ![0, 1] bcast_S128x1_S128x100000_0_1 : (⟨S128x1, .f32⟩ : BufTy).Contents (Elt F) → (⟨S128x100000, .f32⟩ : BufTy).Contents (Elt F)),
    StableHlo.binary main_v19 main_v26 main_v27 (addf : (⟨S128x100000, .f32⟩ : BufTy).Contents (Elt F) → (⟨S128x100000, .f32⟩ : BufTy).Contents (Elt F) → (⟨S128x100000, .f32⟩ : BufTy).Contents (Elt F)),
    StableHlo.nullary main_cst_3 (constant S_ .f32 0x3F800000#32) ]
theorem ops4_sub : (ops4 : List (HloOp τ sig (Elt F))).Forall fun op => op.bufs ⊆ StableHlo.tcRefs τ sig :=
  ⟨StableHlo.binary_bufs_sub .., StableHlo.unary_bufs_sub .., StableHlo.binary_bufs_sub .., StableHlo.nullary_bufs_sub ..⟩
/-- No operation of `ops4` allocates a buffer. -/
theorem ops4_fresh : (ops4 : List (HloOp τ sig (Elt F))).Forall fun op => op.fresh = ∅ := by
  simp only [List.Forall]; repeat' constructor
/-- What `ops4` writes, in order. -/
abbrev ops4_W : List (Ref sig .tc) := [main_v25, main_v26, main_v27, main_cst_3]
theorem ops4_writes : (ops4 : List (HloOp τ sig (Elt F))).Forall fun op => op.writes ⊆ (ops4_W.map (Proc.devRef (τ := τ) .tc)).toFinset :=
  StableHlo.forall_writes_sub_of_map rfl
theorem ops4_args : ∀ a ∈ argRefs, a ∉ ops4_W := ListAll.forall_mem_of_all_decide (by decide +kernel)

/-- @clip_0 (main_call2)'s operations, in order. -/
abbrev ops5 : List (HloOp τ sig (Elt F)) :=
  [ StableHlo.TRef.unary (.of main_cst_3 : StableHlo.TRef sig ⟨S_, .f32⟩) (.of main_call2_v0 : StableHlo.TRef sig ⟨S_, .f32⟩) id,
    StableHlo.TRef.unary (.of main_call2_v0 : StableHlo.TRef sig ⟨S_, .f32⟩) (.of main_call2_v1 : StableHlo.TRef sig ⟨S128x100000, .f32⟩) (broadcastInDim S128x100000 ![] bcast_S_S128x100000),
    StableHlo.TRef.binary (.of main_call2_v1 : StableHlo.TRef sig ⟨S128x100000, .f32⟩) (.of main_v27 : StableHlo.TRef sig ⟨S128x100000, .f32⟩) (.of main_v28 : StableHlo.TRef sig ⟨S128x100000, .f32⟩) minimumf ]
theorem ops5_sub : (ops5 : List (HloOp τ sig (Elt F))).Forall fun op => op.bufs ⊆ StableHlo.tcRefs τ sig :=
  ⟨StableHlo.unary_bufs_sub .., StableHlo.unary_bufs_sub .., StableHlo.binary_bufs_sub ..⟩
/-- No operation of `ops5` allocates a buffer. -/
theorem ops5_fresh : (ops5 : List (HloOp τ sig (Elt F))).Forall fun op => op.fresh = ∅ := by
  simp only [List.Forall]; repeat' constructor
/-- What `ops5` writes, in order. -/
abbrev ops5_W : List (Ref sig .tc) := [main_call2_v0, main_call2_v1, main_v28]
theorem ops5_writes : (ops5 : List (HloOp τ sig (Elt F))).Forall fun op => op.writes ⊆ (ops5_W.map (Proc.devRef (τ := τ) .tc)).toFinset :=
  StableHlo.forall_writes_sub_of_map rfl
theorem ops5_args : ∀ a ∈ argRefs, a ∉ ops5_W := ListAll.forall_mem_of_all_decide (by decide +kernel)

/-- @main's operations, in order. -/
abbrev ops6 : List (HloOp τ sig (Elt F)) :=
  [ StableHlo.nullary main_v29 (iotaInDim S128 32 0),
    StableHlo.unary main_v29 main_v30 (broadcastInDim S128x1 ![0] bcast_S128_S128x1_0 : (⟨S128, .i32⟩ : BufTy).Contents (Elt F) → (⟨S128x1, .i32⟩ : BufTy).Contents (Elt F)),
    StableHlo.nullary main_c_4 (constantI S_ 32 0#32),
    StableHlo.unary main_c_4 main_v31 (broadcastInDim S128x1 ![] bcast_S_S128x1 : (⟨S_, .i32⟩ : BufTy).Contents (Elt F) → (⟨S128x1, .i32⟩ : BufTy).Contents (Elt F)),
    StableHlo.binary main_v30 main_v31 main_v32 (cmpi .slt : (⟨S128x1, .i32⟩ : BufTy).Contents (Elt F) → (⟨S128x1, .i32⟩ : BufTy).Contents (Elt F) → (⟨S128x1, .i1⟩ : BufTy).Contents (Elt F)),
    StableHlo.nullary main_c_5 (constantI S_ 32 128#32),
    StableHlo.unary main_c_5 main_v33 (broadcastInDim S128x1 ![] bcast_S_S128x1 : (⟨S_, .i32⟩ : BufTy).Contents (Elt F) → (⟨S128x1, .i32⟩ : BufTy).Contents (Elt F)),
    StableHlo.binary main_v30 main_v33 main_v34 (addi : (⟨S128x1, .i32⟩ : BufTy).Contents (Elt F) → (⟨S128x1, .i32⟩ : BufTy).Contents (Elt F) → (⟨S128x1, .i32⟩ : BufTy).Contents (Elt F)),
    StableHlo.ternary main_v32 main_v34 main_v30 main_v35 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.nullary main_c_6 (constantI S_ 32 0#32),
    StableHlo.unary main_c_6 main_v36 (broadcastInDim S128x1 ![] bcast_S_S128x1 : (⟨S_, .i32⟩ : BufTy).Contents (Elt F) → (⟨S128x1, .i32⟩ : BufTy).Contents (Elt F)),
    StableHlo.binary main_arg0 main_v36 main_v37 (cmpi .slt : (⟨S128x1, .i32⟩ : BufTy).Contents (Elt F) → (⟨S128x1, .i32⟩ : BufTy).Contents (Elt F) → (⟨S128x1, .i1⟩ : BufTy).Contents (Elt F)),
    StableHlo.nullary main_c_7 (constantI S_ 32 100000#32),
    StableHlo.unary main_c_7 main_v38 (broadcastInDim S128x1 ![] bcast_S_S128x1 : (⟨S_, .i32⟩ : BufTy).Contents (Elt F) → (⟨S128x1, .i32⟩ : BufTy).Contents (Elt F)),
    StableHlo.binary main_arg0 main_v38 main_v39 (addi : (⟨S128x1, .i32⟩ : BufTy).Contents (Elt F) → (⟨S128x1, .i32⟩ : BufTy).Contents (Elt F) → (⟨S128x1, .i32⟩ : BufTy).Contents (Elt F)),
    StableHlo.ternary main_v37 main_v39 main_arg0 main_v40 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.unary main_v35 main_v41 (broadcastInDim S128x1x1 ![0, 1] bcast_S128x1_S128x1x1_0_1 : (⟨S128x1, .i32⟩ : BufTy).Contents (Elt F) → (⟨S128x1x1, .i32⟩ : BufTy).Contents (Elt F)),
    StableHlo.unary main_v40 main_v42 (broadcastInDim S128x1x1 ![0, 1] bcast_S128x1_S128x1x1_0_1 : (⟨S128x1, .i32⟩ : BufTy).Contents (Elt F) → (⟨S128x1x1, .i32⟩ : BufTy).Contents (Elt F)),
    StableHlo.binary main_v41 main_v42 main_v43 ((fun a b => concatenate S128x1x2 2 [⟨S128x1x1, a⟩, ⟨S128x1x1, b⟩] concatenates_S128x1x1_S128x1x1_S128x1x2_d2) : (⟨S128x1x1, .i32⟩ : BufTy).Contents (Elt F) → (⟨S128x1x1, .i32⟩ : BufTy).Contents (Elt F) → (⟨S128x1x2, .i32⟩ : BufTy).Contents (Elt F)),
    StableHlo.nullary main_cst_8 (constant S_ .f32 0x00000000#32),
    StableHlo.unary main_cst_8 main_v44 (broadcastInDim S128x1 ![] bcast_S_S128x1 : (⟨S_, .f32⟩ : BufTy).Contents (Elt F) → (⟨S128x1, .f32⟩ : BufTy).Contents (Elt F)),
    StableHlo.ternary main_v28 main_v43 main_v44 main_v45 ((fun x i u => Host.scatter scatter_S128x100000_S128x1x2_S128x1_n_01_01_2 (fun _ b => b) x i u) : (⟨S128x100000, .f32⟩ : BufTy).Contents (Elt F) → (⟨S128x1x2, .i32⟩ : BufTy).Contents (Elt F) → (⟨S128x1, .f32⟩ : BufTy).Contents (Elt F) → (⟨S128x100000, .f32⟩ : BufTy).Contents (Elt F)) ]
theorem ops6_sub : (ops6 : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.nullary_bufs_sub .., StableHlo.unary_bufs_sub .., StableHlo.ternary_bufs_sub ..⟩
/-- No operation of `ops6` allocates a buffer. -/
theorem ops6_fresh : (ops6 : List (HloOp τ sig (Elt F))).Forall fun op => op.fresh = ∅ := by
  simp only [List.Forall]; repeat' constructor
/-- What `ops6` writes, in order. -/
abbrev ops6_W : List (Ref sig .tc) := [main_v29, main_v30, main_c_4, main_v31, main_v32, main_c_5, main_v33, main_v34, main_v35, main_c_6, main_v36, main_v37, main_c_7, main_v38, main_v39, main_v40, main_v41, main_v42, main_v43, main_cst_8, main_v44, main_v45]
theorem ops6_writes : (ops6 : List (HloOp τ sig (Elt F))).Forall fun op => op.writes ⊆ (ops6_W.map (Proc.devRef (τ := τ) .tc)).toFinset :=
  StableHlo.forall_writes_sub_of_map rfl
theorem ops6_args : ∀ a ∈ argRefs, a ∉ ops6_W := ListAll.forall_mem_of_all_decide (by decide +kernel)

/-- @main's operations, in order. -/
abbrev ops7 : List (HloOp τ sig (Elt F)) :=
  [ StableHlo.nullary main_cst_9 (constant S_ .f32 0x00000000#32),
    StableHlo.binary main_v45 main_cst_9 main_v46 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    StableHlo.unary main_v46 main_v47 (broadcastInDim S128x1 ![0] bcast_S128_S128x1_0 : (⟨S128, .f32⟩ : BufTy).Contents (Elt F) → (⟨S128x1, .f32⟩ : BufTy).Contents (Elt F)),
    StableHlo.nullary main_cst_10 (constant S_ .f32 0x3F800000#32),
    StableHlo.unary main_cst_10 main_v48 (broadcastInDim S128x1 ![] bcast_S_S128x1 : (⟨S_, .f32⟩ : BufTy).Contents (Elt F) → (⟨S128x1, .f32⟩ : BufTy).Contents (Elt F)),
    StableHlo.binary main_v48 main_v47 main_v49 (subf : (⟨S128x1, .f32⟩ : BufTy).Contents (Elt F) → (⟨S128x1, .f32⟩ : BufTy).Contents (Elt F) → (⟨S128x1, .f32⟩ : BufTy).Contents (Elt F)),
    StableHlo.nullary main_cst_11 (constant S_ .f32 0x00000000#32) ]
theorem ops7_sub : (ops7 : List (HloOp τ sig (Elt F))).Forall fun op => op.bufs ⊆ StableHlo.tcRefs τ sig :=
  ⟨StableHlo.nullary_bufs_sub .., StableHlo.binary_bufs_sub .., StableHlo.unary_bufs_sub .., StableHlo.nullary_bufs_sub .., StableHlo.unary_bufs_sub .., StableHlo.binary_bufs_sub .., StableHlo.nullary_bufs_sub ..⟩
/-- No operation of `ops7` allocates a buffer. -/
theorem ops7_fresh : (ops7 : List (HloOp τ sig (Elt F))).Forall fun op => op.fresh = ∅ := by
  simp only [List.Forall]; repeat' constructor
/-- What `ops7` writes, in order. -/
abbrev ops7_W : List (Ref sig .tc) := [main_cst_9, main_v46, main_v47, main_cst_10, main_v48, main_v49, main_cst_11]
theorem ops7_writes : (ops7 : List (HloOp τ sig (Elt F))).Forall fun op => op.writes ⊆ (ops7_W.map (Proc.devRef (τ := τ) .tc)).toFinset :=
  StableHlo.forall_writes_sub_of_map rfl
theorem ops7_args : ∀ a ∈ argRefs, a ∉ ops7_W := ListAll.forall_mem_of_all_decide (by decide +kernel)

/-- @clip_1 (main_call3)'s operations, in order. -/
abbrev ops8 : List (HloOp τ sig (Elt F)) :=
  [ StableHlo.TRef.unary (.of main_cst_11 : StableHlo.TRef sig ⟨S_, .f32⟩) (.of main_call3_v0 : StableHlo.TRef sig ⟨S_, .f32⟩) id,
    StableHlo.TRef.unary (.of main_call3_v0 : StableHlo.TRef sig ⟨S_, .f32⟩) (.of main_call3_v1 : StableHlo.TRef sig ⟨S128x1, .f32⟩) (broadcastInDim S128x1 ![] bcast_S_S128x1),
    StableHlo.TRef.binary (.of main_call3_v1 : StableHlo.TRef sig ⟨S128x1, .f32⟩) (.of main_v49 : StableHlo.TRef sig ⟨S128x1, .f32⟩) (.of main_v50 : StableHlo.TRef sig ⟨S128x1, .f32⟩) maximumf ]
theorem ops8_sub : (ops8 : List (HloOp τ sig (Elt F))).Forall fun op => op.bufs ⊆ StableHlo.tcRefs τ sig :=
  ⟨StableHlo.unary_bufs_sub .., StableHlo.unary_bufs_sub .., StableHlo.binary_bufs_sub ..⟩
/-- No operation of `ops8` allocates a buffer. -/
theorem ops8_fresh : (ops8 : List (HloOp τ sig (Elt F))).Forall fun op => op.fresh = ∅ := by
  simp only [List.Forall]; repeat' constructor
/-- What `ops8` writes, in order. -/
abbrev ops8_W : List (Ref sig .tc) := [main_call3_v0, main_call3_v1, main_v50]
theorem ops8_writes : (ops8 : List (HloOp τ sig (Elt F))).Forall fun op => op.writes ⊆ (ops8_W.map (Proc.devRef (τ := τ) .tc)).toFinset :=
  StableHlo.forall_writes_sub_of_map rfl
theorem ops8_args : ∀ a ∈ argRefs, a ∉ ops8_W := ListAll.forall_mem_of_all_decide (by decide +kernel)

/-- @main's operations, in order. -/
abbrev ops9 : List (HloOp τ sig (Elt F)) :=
  [ StableHlo.nullary main_c_12 (constantI S_ 32 0#32),
    StableHlo.unary main_c_12 main_v51 (broadcastInDim S128x1 ![] bcast_S_S128x1 : (⟨S_, .i32⟩ : BufTy).Contents (Elt F) → (⟨S128x1, .i32⟩ : BufTy).Contents (Elt F)),
    StableHlo.binary main_v30 main_v51 main_v52 (cmpi .slt : (⟨S128x1, .i32⟩ : BufTy).Contents (Elt F) → (⟨S128x1, .i32⟩ : BufTy).Contents (Elt F) → (⟨S128x1, .i1⟩ : BufTy).Contents (Elt F)),
    StableHlo.nullary main_c_13 (constantI S_ 32 128#32),
    StableHlo.unary main_c_13 main_v53 (broadcastInDim S128x1 ![] bcast_S_S128x1 : (⟨S_, .i32⟩ : BufTy).Contents (Elt F) → (⟨S128x1, .i32⟩ : BufTy).Contents (Elt F)),
    StableHlo.binary main_v30 main_v53 main_v54 (addi : (⟨S128x1, .i32⟩ : BufTy).Contents (Elt F) → (⟨S128x1, .i32⟩ : BufTy).Contents (Elt F) → (⟨S128x1, .i32⟩ : BufTy).Contents (Elt F)),
    StableHlo.ternary main_v52 main_v54 main_v30 main_v55 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.nullary main_c_14 (constantI S_ 32 0#32),
    StableHlo.unary main_c_14 main_v56 (broadcastInDim S128x1 ![] bcast_S_S128x1 : (⟨S_, .i32⟩ : BufTy).Contents (Elt F) → (⟨S128x1, .i32⟩ : BufTy).Contents (Elt F)),
    StableHlo.binary main_arg0 main_v56 main_v57 (cmpi .slt : (⟨S128x1, .i32⟩ : BufTy).Contents (Elt F) → (⟨S128x1, .i32⟩ : BufTy).Contents (Elt F) → (⟨S128x1, .i1⟩ : BufTy).Contents (Elt F)),
    StableHlo.nullary main_c_15 (constantI S_ 32 100000#32),
    StableHlo.unary main_c_15 main_v58 (broadcastInDim S128x1 ![] bcast_S_S128x1 : (⟨S_, .i32⟩ : BufTy).Contents (Elt F) → (⟨S128x1, .i32⟩ : BufTy).Contents (Elt F)),
    StableHlo.binary main_arg0 main_v58 main_v59 (addi : (⟨S128x1, .i32⟩ : BufTy).Contents (Elt F) → (⟨S128x1, .i32⟩ : BufTy).Contents (Elt F) → (⟨S128x1, .i32⟩ : BufTy).Contents (Elt F)),
    StableHlo.ternary main_v57 main_v59 main_arg0 main_v60 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    StableHlo.unary main_v55 main_v61 (broadcastInDim S128x1x1 ![0, 1] bcast_S128x1_S128x1x1_0_1 : (⟨S128x1, .i32⟩ : BufTy).Contents (Elt F) → (⟨S128x1x1, .i32⟩ : BufTy).Contents (Elt F)),
    StableHlo.unary main_v60 main_v62 (broadcastInDim S128x1x1 ![0, 1] bcast_S128x1_S128x1x1_0_1 : (⟨S128x1, .i32⟩ : BufTy).Contents (Elt F) → (⟨S128x1x1, .i32⟩ : BufTy).Contents (Elt F)),
    StableHlo.binary main_v61 main_v62 main_v63 ((fun a b => concatenate S128x1x2 2 [⟨S128x1x1, a⟩, ⟨S128x1x1, b⟩] concatenates_S128x1x1_S128x1x1_S128x1x2_d2) : (⟨S128x1x1, .i32⟩ : BufTy).Contents (Elt F) → (⟨S128x1x1, .i32⟩ : BufTy).Contents (Elt F) → (⟨S128x1x2, .i32⟩ : BufTy).Contents (Elt F)),
    StableHlo.ternary main_v45 main_v63 main_v50 main_v64 ((fun x i u => Host.scatter scatter_S128x100000_S128x1x2_S128x1_n_01_01_2 (fun _ b => b) x i u) : (⟨S128x100000, .f32⟩ : BufTy).Contents (Elt F) → (⟨S128x1x2, .i32⟩ : BufTy).Contents (Elt F) → (⟨S128x1, .f32⟩ : BufTy).Contents (Elt F) → (⟨S128x100000, .f32⟩ : BufTy).Contents (Elt F)),
    StableHlo.unary main_arg6 main_v65 (Host.log : (⟨S128x100000, .f32⟩ : BufTy).Contents (Elt F) → (⟨S128x100000, .f32⟩ : BufTy).Contents (Elt F)),
    StableHlo.unary main_v65 main_v66 (Host.negf : (⟨S128x100000, .f32⟩ : BufTy).Contents (Elt F) → (⟨S128x100000, .f32⟩ : BufTy).Contents (Elt F)),
    StableHlo.unary main_v66 main_v67 (Host.log : (⟨S128x100000, .f32⟩ : BufTy).Contents (Elt F) → (⟨S128x100000, .f32⟩ : BufTy).Contents (Elt F)),
    StableHlo.unary main_v67 main_v68 (Host.negf : (⟨S128x100000, .f32⟩ : BufTy).Contents (Elt F) → (⟨S128x100000, .f32⟩ : BufTy).Contents (Elt F)) ]
theorem ops9_sub : (ops9 : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.unary_bufs_sub .., StableHlo.binary_bufs_sub .., StableHlo.ternary_bufs_sub .., StableHlo.unary_bufs_sub .., StableHlo.unary_bufs_sub .., StableHlo.unary_bufs_sub .., StableHlo.unary_bufs_sub ..⟩
/-- No operation of `ops9` allocates a buffer. -/
theorem ops9_fresh : (ops9 : List (HloOp τ sig (Elt F))).Forall fun op => op.fresh = ∅ := by
  simp only [List.Forall]; repeat' constructor
/-- What `ops9` writes, in order. -/
abbrev ops9_W : List (Ref sig .tc) := [main_c_12, main_v51, main_v52, main_c_13, main_v53, main_v54, main_v55, main_c_14, main_v56, main_v57, main_c_15, main_v58, main_v59, main_v60, main_v61, main_v62, main_v63, main_v64, main_v65, main_v66, main_v67, main_v68]
theorem ops9_writes : (ops9 : List (HloOp τ sig (Elt F))).Forall fun op => op.writes ⊆ (ops9_W.map (Proc.devRef (τ := τ) .tc)).toFinset :=
  StableHlo.forall_writes_sub_of_map rfl
theorem ops9_args : ∀ a ∈ argRefs, a ∉ ops9_W := ListAll.forall_mem_of_all_decide (by decide +kernel)

/-- @main's operations, in order. -/
abbrev ops10 : List (HloOp τ sig (Elt F)) :=
  [ StableHlo.nullary main_cst_16 (constant S_ .f32 0x0DA24260#32) ]
theorem ops10_sub : (ops10 : List (HloOp τ sig (Elt F))).Forall fun op => op.bufs ⊆ StableHlo.tcRefs τ sig :=
  StableHlo.nullary_bufs_sub ..
/-- No operation of `ops10` allocates a buffer. -/
theorem ops10_fresh : (ops10 : List (HloOp τ sig (Elt F))).Forall fun op => op.fresh = ∅ := by
  simp only [List.Forall]; repeat' constructor
/-- What `ops10` writes, in order. -/
abbrev ops10_W : List (Ref sig .tc) := [main_cst_16]
theorem ops10_writes : (ops10 : List (HloOp τ sig (Elt F))).Forall fun op => op.writes ⊆ (ops10_W.map (Proc.devRef (τ := τ) .tc)).toFinset :=
  StableHlo.forall_writes_sub_of_map rfl
theorem ops10_args : ∀ a ∈ argRefs, a ∉ ops10_W := ListAll.forall_mem_of_all_decide (by decide +kernel)

/-- @clip_2 (main_call4)'s operations, in order. -/
abbrev ops11 : List (HloOp τ sig (Elt F)) :=
  [ StableHlo.TRef.unary (.of main_cst_16 : StableHlo.TRef sig ⟨S_, .f32⟩) (.of main_call4_v0 : StableHlo.TRef sig ⟨S_, .f32⟩) id,
    StableHlo.TRef.unary (.of main_call4_v0 : StableHlo.TRef sig ⟨S_, .f32⟩) (.of main_call4_v1 : StableHlo.TRef sig ⟨S128x100000, .f32⟩) (broadcastInDim S128x100000 ![] bcast_S_S128x100000),
    StableHlo.TRef.binary (.of main_call4_v1 : StableHlo.TRef sig ⟨S128x100000, .f32⟩) (.of main_v64 : StableHlo.TRef sig ⟨S128x100000, .f32⟩) (.of main_v69 : StableHlo.TRef sig ⟨S128x100000, .f32⟩) maximumf ]
theorem ops11_sub : (ops11 : List (HloOp τ sig (Elt F))).Forall fun op => op.bufs ⊆ StableHlo.tcRefs τ sig :=
  ⟨StableHlo.unary_bufs_sub .., StableHlo.unary_bufs_sub .., StableHlo.binary_bufs_sub ..⟩
/-- No operation of `ops11` allocates a buffer. -/
theorem ops11_fresh : (ops11 : List (HloOp τ sig (Elt F))).Forall fun op => op.fresh = ∅ := by
  simp only [List.Forall]; repeat' constructor
/-- What `ops11` writes, in order. -/
abbrev ops11_W : List (Ref sig .tc) := [main_call4_v0, main_call4_v1, main_v69]
theorem ops11_writes : (ops11 : List (HloOp τ sig (Elt F))).Forall fun op => op.writes ⊆ (ops11_W.map (Proc.devRef (τ := τ) .tc)).toFinset :=
  StableHlo.forall_writes_sub_of_map rfl
theorem ops11_args : ∀ a ∈ argRefs, a ∉ ops11_W := ListAll.forall_mem_of_all_decide (by decide +kernel)

/-- @main's operations, in order. -/
abbrev ops12 : List (HloOp τ sig (Elt F)) :=
  [ StableHlo.unary main_v69 main_v70 (Host.log : (⟨S128x100000, .f32⟩ : BufTy).Contents (Elt F) → (⟨S128x100000, .f32⟩ : BufTy).Contents (Elt F)),
    StableHlo.binary main_v68 main_v70 main_v71 (addf : (⟨S128x100000, .f32⟩ : BufTy).Contents (Elt F) → (⟨S128x100000, .f32⟩ : BufTy).Contents (Elt F) → (⟨S128x100000, .f32⟩ : BufTy).Contents (Elt F)) ]
theorem ops12_sub : (ops12 : List (HloOp τ sig (Elt F))).Forall fun op => op.bufs ⊆ StableHlo.tcRefs τ sig :=
  ⟨StableHlo.unary_bufs_sub .., StableHlo.binary_bufs_sub ..⟩
/-- No operation of `ops12` allocates a buffer. -/
theorem ops12_fresh : (ops12 : List (HloOp τ sig (Elt F))).Forall fun op => op.fresh = ∅ := by
  simp only [List.Forall]; repeat' constructor
/-- What `ops12` writes, in order. -/
abbrev ops12_W : List (Ref sig .tc) := [main_v70, main_v71]
theorem ops12_writes : (ops12 : List (HloOp τ sig (Elt F))).Forall fun op => op.writes ⊆ (ops12_W.map (Proc.devRef (τ := τ) .tc)).toFinset :=
  StableHlo.forall_writes_sub_of_map rfl
theorem ops12_args : ∀ a ∈ argRefs, a ∉ ops12_W := ListAll.forall_mem_of_all_decide (by decide +kernel)

/-- @argmax (main_call5)'s operations, in order. -/
abbrev ops13 : List (HloOp τ sig (Elt F)) :=
  [ StableHlo.TRef.nullary (.of main_call5_v0 : StableHlo.TRef sig ⟨S128x100000, .i32⟩) (iotaInDim S128x100000 32 1),
    StableHlo.TRef.nullary (.of main_call5_cst : StableHlo.TRef sig ⟨S_, .f32⟩) (constant S_ .f32 0xFF800000#32),
    StableHlo.TRef.nullary (.of main_call5_c : StableHlo.TRef sig ⟨S_, .i32⟩) (constantI S_ 32 0#32),
    StableHlo.TRef.quaternary (.of main_v71 : StableHlo.TRef sig ⟨S128x100000, .f32⟩) (.of main_call5_v0 : StableHlo.TRef sig ⟨S128x100000, .i32⟩) (.of main_call5_cst : StableHlo.TRef sig ⟨S_, .f32⟩) (.of main_call5_c : StableHlo.TRef sig ⟨S_, .i32⟩) (.of main_call5_v1_0 : StableHlo.TRef sig ⟨S128, .f32⟩) (fun x y u v j => (Host.argReduce reducer_argmax_f32_i32 x y u v reducesTo_S128x100000_S128_d1 h_S_ j).1),
    StableHlo.TRef.quaternary (.of main_v71 : StableHlo.TRef sig ⟨S128x100000, .f32⟩) (.of main_call5_v0 : StableHlo.TRef sig ⟨S128x100000, .i32⟩) (.of main_call5_cst : StableHlo.TRef sig ⟨S_, .f32⟩) (.of main_call5_c : StableHlo.TRef sig ⟨S_, .i32⟩) (.of main_v72 : StableHlo.TRef sig ⟨S128, .i32⟩) (fun x y u v j => (Host.argReduce reducer_argmax_f32_i32 x y u v reducesTo_S128x100000_S128_d1 h_S_ j).2) ]
theorem ops13_sub : (ops13 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- No operation of `ops13` allocates a buffer. -/
theorem ops13_fresh : (ops13 : List (HloOp τ sig (Elt F))).Forall fun op => op.fresh = ∅ := by
  simp only [List.Forall]; repeat' constructor
/-- What `ops13` writes, in order. -/
abbrev ops13_W : List (Ref sig .tc) := [main_call5_v0, main_call5_cst, main_call5_c, main_call5_v1_0, main_v72]
theorem ops13_writes : (ops13 : List (HloOp τ sig (Elt F))).Forall fun op => op.writes ⊆ (ops13_W.map (Proc.devRef (τ := τ) .tc)).toFinset :=
  StableHlo.forall_writes_sub_of_map rfl
theorem ops13_args : ∀ a ∈ argRefs, a ∉ ops13_W := ListAll.forall_mem_of_all_decide (by decide +kernel)

/-- @one_hot (main_call6)'s operations, in order. -/
abbrev ops14 : List (HloOp τ sig (Elt F)) :=
  [ StableHlo.TRef.unary (.of main_v72 : StableHlo.TRef sig ⟨S128, .i32⟩) (.of main_call6_v0 : StableHlo.TRef sig ⟨S128x1, .i32⟩) (broadcastInDim S128x1 ![0] bcast_S128_S128x1_0),
    StableHlo.TRef.nullary (.of main_call6_v1 : StableHlo.TRef sig ⟨S1x100000, .i32⟩) (iotaInDim S1x100000 32 1),
    StableHlo.TRef.unary (.of main_call6_v0 : StableHlo.TRef sig ⟨S128x1, .i32⟩) (.of main_call6_v2 : StableHlo.TRef sig ⟨S128x100000, .i32⟩) (broadcastInDim S128x100000 ![0, 1] bcast_S128x1_S128x100000_0_1),
    StableHlo.TRef.unary (.of main_call6_v1 : StableHlo.TRef sig ⟨S1x100000, .i32⟩) (.of main_call6_v3 : StableHlo.TRef sig ⟨S128x100000, .i32⟩) (broadcastInDim S128x100000 ![0, 1] bcast_S1x100000_S128x100000_0_1),
    StableHlo.TRef.binary (.of main_call6_v2 : StableHlo.TRef sig ⟨S128x100000, .i32⟩) (.of main_call6_v3 : StableHlo.TRef sig ⟨S128x100000, .i32⟩) (.of main_call6_v4 : StableHlo.TRef sig ⟨S128x100000, .i1⟩) (cmpi .eq),
    StableHlo.TRef.unary (.of main_call6_v4 : StableHlo.TRef sig ⟨S128x100000, .i1⟩) (.of main_v73 : StableHlo.TRef sig ⟨S128x100000, .f32⟩) (uitofp .f32) ]
theorem ops14_sub : (ops14 : List (HloOp τ sig (Elt F))).Forall fun op => op.bufs ⊆ StableHlo.tcRefs τ sig :=
  ⟨StableHlo.unary_bufs_sub .., StableHlo.nullary_bufs_sub .., StableHlo.unary_bufs_sub .., StableHlo.unary_bufs_sub .., StableHlo.binary_bufs_sub .., StableHlo.unary_bufs_sub ..⟩
/-- No operation of `ops14` allocates a buffer. -/
theorem ops14_fresh : (ops14 : List (HloOp τ sig (Elt F))).Forall fun op => op.fresh = ∅ := by
  simp only [List.Forall]; repeat' constructor
/-- What `ops14` writes, in order. -/
abbrev ops14_W : List (Ref sig .tc) := [main_call6_v0, main_call6_v1, main_call6_v2, main_call6_v3, main_call6_v4, main_v73]
theorem ops14_writes : (ops14 : List (HloOp τ sig (Elt F))).Forall fun op => op.writes ⊆ (ops14_W.map (Proc.devRef (τ := τ) .tc)).toFinset :=
  StableHlo.forall_writes_sub_of_map rfl
theorem ops14_args : ∀ a ∈ argRefs, a ∉ ops14_W := ListAll.forall_mem_of_all_decide (by decide +kernel)

end Cert.ReferenceIdeal.Run

end
-- ==== Proof.RefRun.lean ====
module

public import proofs.«01_k».proof.Proof.RefOps

@[expose] public section

set_option maxRecDepth 16384

noncomputable section

namespace Cert.ReferenceIdeal.Run

open Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! # The reference's run -/

/-- The reference's operations, in order, stretch by stretch. -/
abbrev opss : List (List (HloOp τ sig (Elt F))) := [ops0, ops1, ops2, ops3, ops4, ops5, ops6, ops7, ops8, ops9, ops10, ops11, ops12, ops13, ops14]
theorem main_chain (c : Dev nD) : main (F := F) c = Pipeline.chain (opss.map StableHlo.seq ++ []) := by chain_rfl
theorem main_seq (c : Dev nD) : main (F := F) c = StableHlo.seq (opss (F := F)).flatten := by
  rw [main_chain, StableHlo.chain_map_seq_append]
  exact bind_pure _

-- The memory at launch.
variable (m : (ℓ : Loc nD τ sig) → Buf (Elt F) ℓ)

/-- The launch's buffers on core `c`. -/
def W0 (c : Dev nD) : Valuation τ sig (Elt F) := fun b => m ((c : Dev nD), b)
/-- After `ops0`. -/
def W1 (c : Dev nD) : Valuation τ sig (Elt F) := StableHlo.after ops0 (W0 m c)
theorem W1_of (c : Dev nD) (r : Ref sig .tc) (h : r ∉ ops0_W) : W1 m c (Proc.devRef .tc r) = W0 m c (Proc.devRef .tc r) :=
  StableHlo.after_of_writes_sub ops0 _ ops0_writes h
theorem W1_args (c : Dev nD) : ∀ a ∈ argRefs, W1 m c (Proc.devRef .tc a) = m ((c : Thread nD τ).loc a) :=
  fun a ha => (W1_of m c a (ops0_args a ha)).trans (rfl)
/-- After `ops1`. -/
def W2 (c : Dev nD) : Valuation τ sig (Elt F) := StableHlo.after ops1 (W1 m c)
theorem W2_of (c : Dev nD) (r : Ref sig .tc) (h : r ∉ ops1_W) : W2 m c (Proc.devRef .tc r) = W1 m c (Proc.devRef .tc r) :=
  StableHlo.after_of_writes_sub ops1 _ ops1_writes h
theorem W2_args (c : Dev nD) : ∀ a ∈ argRefs, W2 m c (Proc.devRef .tc a) = m ((c : Thread nD τ).loc a) :=
  fun a ha => (W2_of m c a (ops1_args a ha)).trans (W1_args m c a ha)
/-- After `ops2`. -/
def W3 (c : Dev nD) : Valuation τ sig (Elt F) := StableHlo.after ops2 (W2 m c)
theorem W3_of (c : Dev nD) (r : Ref sig .tc) (h : r ∉ ops2_W) : W3 m c (Proc.devRef .tc r) = W2 m c (Proc.devRef .tc r) :=
  StableHlo.after_of_writes_sub ops2 _ ops2_writes h
theorem W3_args (c : Dev nD) : ∀ a ∈ argRefs, W3 m c (Proc.devRef .tc a) = m ((c : Thread nD τ).loc a) :=
  fun a ha => (W3_of m c a (ops2_args a ha)).trans (W2_args m c a ha)
/-- After `ops3`. -/
def W4 (c : Dev nD) : Valuation τ sig (Elt F) := StableHlo.after ops3 (W3 m c)
theorem W4_of (c : Dev nD) (r : Ref sig .tc) (h : r ∉ ops3_W) : W4 m c (Proc.devRef .tc r) = W3 m c (Proc.devRef .tc r) :=
  StableHlo.after_of_writes_sub ops3 _ ops3_writes h
theorem W4_args (c : Dev nD) : ∀ a ∈ argRefs, W4 m c (Proc.devRef .tc a) = m ((c : Thread nD τ).loc a) :=
  fun a ha => (W4_of m c a (ops3_args a ha)).trans (W3_args m c a ha)
/-- After `ops4`. -/
def W5 (c : Dev nD) : Valuation τ sig (Elt F) := StableHlo.after ops4 (W4 m c)
theorem W5_of (c : Dev nD) (r : Ref sig .tc) (h : r ∉ ops4_W) : W5 m c (Proc.devRef .tc r) = W4 m c (Proc.devRef .tc r) :=
  StableHlo.after_of_writes_sub ops4 _ ops4_writes h
theorem W5_args (c : Dev nD) : ∀ a ∈ argRefs, W5 m c (Proc.devRef .tc a) = m ((c : Thread nD τ).loc a) :=
  fun a ha => (W5_of m c a (ops4_args a ha)).trans (W4_args m c a ha)
/-- After `ops5`. -/
def W6 (c : Dev nD) : Valuation τ sig (Elt F) := StableHlo.after ops5 (W5 m c)
theorem W6_of (c : Dev nD) (r : Ref sig .tc) (h : r ∉ ops5_W) : W6 m c (Proc.devRef .tc r) = W5 m c (Proc.devRef .tc r) :=
  StableHlo.after_of_writes_sub ops5 _ ops5_writes h
theorem W6_args (c : Dev nD) : ∀ a ∈ argRefs, W6 m c (Proc.devRef .tc a) = m ((c : Thread nD τ).loc a) :=
  fun a ha => (W6_of m c a (ops5_args a ha)).trans (W5_args m c a ha)
/-- After `ops6`. -/
def W7 (c : Dev nD) : Valuation τ sig (Elt F) := StableHlo.after ops6 (W6 m c)
theorem W7_of (c : Dev nD) (r : Ref sig .tc) (h : r ∉ ops6_W) : W7 m c (Proc.devRef .tc r) = W6 m c (Proc.devRef .tc r) :=
  StableHlo.after_of_writes_sub ops6 _ ops6_writes h
theorem W7_args (c : Dev nD) : ∀ a ∈ argRefs, W7 m c (Proc.devRef .tc a) = m ((c : Thread nD τ).loc a) :=
  fun a ha => (W7_of m c a (ops6_args a ha)).trans (W6_args m c a ha)
/-- After `ops7`. -/
def W8 (c : Dev nD) : Valuation τ sig (Elt F) := StableHlo.after ops7 (W7 m c)
theorem W8_of (c : Dev nD) (r : Ref sig .tc) (h : r ∉ ops7_W) : W8 m c (Proc.devRef .tc r) = W7 m c (Proc.devRef .tc r) :=
  StableHlo.after_of_writes_sub ops7 _ ops7_writes h
theorem W8_args (c : Dev nD) : ∀ a ∈ argRefs, W8 m c (Proc.devRef .tc a) = m ((c : Thread nD τ).loc a) :=
  fun a ha => (W8_of m c a (ops7_args a ha)).trans (W7_args m c a ha)
/-- After `ops8`. -/
def W9 (c : Dev nD) : Valuation τ sig (Elt F) := StableHlo.after ops8 (W8 m c)
theorem W9_of (c : Dev nD) (r : Ref sig .tc) (h : r ∉ ops8_W) : W9 m c (Proc.devRef .tc r) = W8 m c (Proc.devRef .tc r) :=
  StableHlo.after_of_writes_sub ops8 _ ops8_writes h
theorem W9_args (c : Dev nD) : ∀ a ∈ argRefs, W9 m c (Proc.devRef .tc a) = m ((c : Thread nD τ).loc a) :=
  fun a ha => (W9_of m c a (ops8_args a ha)).trans (W8_args m c a ha)
/-- After `ops9`. -/
def W10 (c : Dev nD) : Valuation τ sig (Elt F) := StableHlo.after ops9 (W9 m c)
theorem W10_of (c : Dev nD) (r : Ref sig .tc) (h : r ∉ ops9_W) : W10 m c (Proc.devRef .tc r) = W9 m c (Proc.devRef .tc r) :=
  StableHlo.after_of_writes_sub ops9 _ ops9_writes h
theorem W10_args (c : Dev nD) : ∀ a ∈ argRefs, W10 m c (Proc.devRef .tc a) = m ((c : Thread nD τ).loc a) :=
  fun a ha => (W10_of m c a (ops9_args a ha)).trans (W9_args m c a ha)
/-- After `ops10`. -/
def W11 (c : Dev nD) : Valuation τ sig (Elt F) := StableHlo.after ops10 (W10 m c)
theorem W11_of (c : Dev nD) (r : Ref sig .tc) (h : r ∉ ops10_W) : W11 m c (Proc.devRef .tc r) = W10 m c (Proc.devRef .tc r) :=
  StableHlo.after_of_writes_sub ops10 _ ops10_writes h
theorem W11_args (c : Dev nD) : ∀ a ∈ argRefs, W11 m c (Proc.devRef .tc a) = m ((c : Thread nD τ).loc a) :=
  fun a ha => (W11_of m c a (ops10_args a ha)).trans (W10_args m c a ha)
/-- After `ops11`. -/
def W12 (c : Dev nD) : Valuation τ sig (Elt F) := StableHlo.after ops11 (W11 m c)
theorem W12_of (c : Dev nD) (r : Ref sig .tc) (h : r ∉ ops11_W) : W12 m c (Proc.devRef .tc r) = W11 m c (Proc.devRef .tc r) :=
  StableHlo.after_of_writes_sub ops11 _ ops11_writes h
theorem W12_args (c : Dev nD) : ∀ a ∈ argRefs, W12 m c (Proc.devRef .tc a) = m ((c : Thread nD τ).loc a) :=
  fun a ha => (W12_of m c a (ops11_args a ha)).trans (W11_args m c a ha)
/-- After `ops12`. -/
def W13 (c : Dev nD) : Valuation τ sig (Elt F) := StableHlo.after ops12 (W12 m c)
theorem W13_of (c : Dev nD) (r : Ref sig .tc) (h : r ∉ ops12_W) : W13 m c (Proc.devRef .tc r) = W12 m c (Proc.devRef .tc r) :=
  StableHlo.after_of_writes_sub ops12 _ ops12_writes h
theorem W13_args (c : Dev nD) : ∀ a ∈ argRefs, W13 m c (Proc.devRef .tc a) = m ((c : Thread nD τ).loc a) :=
  fun a ha => (W13_of m c a (ops12_args a ha)).trans (W12_args m c a ha)
/-- After `ops13`. -/
def W14 (c : Dev nD) : Valuation τ sig (Elt F) := StableHlo.after ops13 (W13 m c)
theorem W14_of (c : Dev nD) (r : Ref sig .tc) (h : r ∉ ops13_W) : W14 m c (Proc.devRef .tc r) = W13 m c (Proc.devRef .tc r) :=
  StableHlo.after_of_writes_sub ops13 _ ops13_writes h
theorem W14_args (c : Dev nD) : ∀ a ∈ argRefs, W14 m c (Proc.devRef .tc a) = m ((c : Thread nD τ).loc a) :=
  fun a ha => (W14_of m c a (ops13_args a ha)).trans (W13_args m c a ha)
/-- After `ops14`. -/
def W15 (c : Dev nD) : Valuation τ sig (Elt F) := StableHlo.after ops14 (W14 m c)
theorem W15_of (c : Dev nD) (r : Ref sig .tc) (h : r ∉ ops14_W) : W15 m c (Proc.devRef .tc r) = W14 m c (Proc.devRef .tc r) :=
  StableHlo.after_of_writes_sub ops14 _ ops14_writes h
theorem W15_args (c : Dev nD) : ∀ a ∈ argRefs, W15 m c (Proc.devRef .tc a) = m ((c : Thread nD τ).loc a) :=
  fun a ha => (W15_of m c a (ops14_args a ha)).trans (W14_args m c a ha)
theorem after_all (c : Dev nD) : StableHlo.after (opss (F := F)).flatten (W0 m c) = W15 m c := by
  simp only [opss, List.flatten_cons, List.flatten_nil, StableHlo.after_append, StableHlo.after_nil]
  rfl
theorem all_sub : (opss (F := F)).flatten.Forall fun op => op.bufs ⊆ StableHlo.tcRefs τ sig := by
  simp only [opss, List.flatten_cons, List.flatten_nil, List.forall_append]
  exact ⟨ops0_sub, ops1_sub, ops2_sub, ops3_sub, ops4_sub, ops5_sub, ops6_sub, ops7_sub, ops8_sub, ops9_sub, ops10_sub, ops11_sub, ops12_sub, ops13_sub, ops14_sub, trivial⟩
theorem all_fresh : (opss (F := F)).flatten.Forall fun op => op.fresh = ∅ := by
  simp only [opss, List.flatten_cons, List.flatten_nil, List.forall_append]
  exact ⟨ops0_fresh, ops1_fresh, ops2_fresh, ops3_fresh, ops4_fresh, ops5_fresh, ops6_fresh, ops7_fresh, ops8_fresh, ops9_fresh, ops10_fresh, ops11_fresh, ops12_fresh, ops13_fresh, ops14_fresh, trivial⟩

/-- From any memory with zero counters the reference's run ends, nothing faulting, every buffer as `W15` has it. -/
theorem run_end (ρ : Dev nD → PrngReg) : θ_run defs (onTc (τ := τ) (main (F := F))) ⟨m, fun _ => 0, ρ⟩ (fun r =>
      ∀ (c : Dev nD) (b : Ref sig .tc), r.2.mem ((c.tc : Thread nD τ).loc b) = W15 m c (Proc.devRef .tc b)) :=
  (θ_run defs _ _).mono (fun r h c b => (h c b).trans (congrFun (after_all m c) _))
    (StableHlo.run_seq (by decide) (by decide) defs main (fun _ => (opss (F := F)).flatten) main_seq (fun _ => all_sub) m ρ
      (fun _ op h => (List.forall_iff_forall_mem.mp all_fresh) op h))

/-- The run leaves the arrays @main takes as they were. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => ⟨(h c main_arg0).trans (W15_args m c main_arg0 (by decide)), (h c main_arg1).trans (W15_args m c main_arg1 (by decide)), (h c main_arg2).trans (W15_args m c main_arg2 (by decide)), (h c main_arg3).trans (W15_args m c main_arg3 (by decide)), (h c main_arg4).trans (W15_args m c main_arg4 (by decide)), (h c main_arg5).trans (W15_args m c main_arg5 (by decide)), (h c main_arg6).trans (W15_args m c main_arg6 (by decide))⟩, sem_eq_zero_of_no_sems rfl r.2⟩) (run_end m ρ)

end Cert.ReferenceIdeal.Run

end
-- ==== Proof.RowSpec.lean ====
module

public import Idealize.ShloMosaic.Lib.Pointwise

@[expose] public section

set_option maxRecDepth 16384

noncomputable section

namespace Cert.RowSpec

open Idealize.ShloMosaic Idealize.ShloMosaic.TcCoe Idealize.ShloMosaic.Tactic

/-! # The row problem: the least index at which a row of perturbed log-probabilities is largest -/

/-- The floor a probability is held above before its logarithm is taken. -/
def floor30 : EReal := Ideal.ofBits .f32 228737632#32

/-- The probability of a category other than the current one: the rate times the prediction plus the noise, at most one. -/
def prob (cf x b : EReal) : EReal := min (cf * x + b) 1

/-- The Gumbel noise of a uniform number. -/
def gum (u : EReal) : EReal := 0 - Ideal.log (0 - Ideal.log u)

/-- The logarithm of a probability held above the floor. -/
def lgp (p : EReal) : EReal := Ideal.log (max p floor30)

variable {n : ℕ}

/-- What is left for the current category `X`. -/
def left (cf b : EReal) (x : Fin n → EReal) (X : Fin n) : EReal :=
  max 0 (1 - ∑ k, if k = X then 0 else prob cf (x k) b)

/-- The perturbed logarithm of category `k`'s probability. -/
def score (cf b : EReal) (x u : Fin n → EReal) (X k : Fin n) : EReal :=
  if k = X then lgp (left cf b x X) + gum (u X) else lgp (prob cf (x k) b) + gum (u k)

/-- The same with the current category left out. -/
def others (cf b : EReal) (x u : Fin n → EReal) (X k : Fin n) : EReal :=
  if k = X then ⊥ else lgp (prob cf (x k) b) + gum (u k)

/-- `s` is the least index at which `l` is largest. -/
def Best (l : Fin n → EReal) (s : Fin n) : Prop := ∀ j, l j ≤ l s ∧ (l j = l s → s ≤ j)

theorem Best.unique {l : Fin n → EReal} {s t : Fin n} (hs : Best l s) (ht : Best l t) : s = t := by
  have e : l t = l s := le_antisymm (hs t).1 (ht s).1
  exact le_antisymm ((hs t).2 e) ((ht s).2 e.symm)

/-- The index a row is given, from the current category's score, the best of the others and its index. -/
def pick (xt : BitVec 32) (lx bm : EReal) (bi : BitVec 32) : BitVec 32 :=
  Scalar.select (IntOp.ori (BitVec.ofBool (decide (bm < lx)))
    (IntOp.andi (BitVec.ofBool (decide (lx = bm))) (IntOp.cmpi .slt xt bi))) xt bi

theorem toInt_word {a : ℕ} (ha : a < 2147483648) : (BitVec.ofNat 32 a).toInt = a := by
  have e : (BitVec.ofNat 32 a).toNat = a := by rw [BitVec.toNat_ofNat]; omega
  rw [BitVec.toInt_eq_toNat_of_lt (by rw [e]; omega), e]

theorem slt_ofNat {a b : ℕ} (ha : a < 2147483648) (hb : b < 2147483648) :
    (BitVec.ofNat 32 a).slt (BitVec.ofNat 32 b) = decide (a < b) := by
  rw [BitVec.slt_eq_decide, toInt_word ha, toInt_word hb]; simp

theorem pick_eq (X t : ℕ) (hX : X < 100000) (ht : t < 100000) (lx bm : EReal) :
    pick (BitVec.ofNat 32 X) lx bm (BitVec.ofNat 32 t)
      = BitVec.ofNat 32 (if bm < lx ∨ (lx = bm ∧ X < t) then X else t) := by
  have hc : IntOp.cmpi .slt (BitVec.ofNat 32 X) (BitVec.ofNat 32 t) = BitVec.ofBool (decide (X < t)) := by
    show BitVec.ofBool ((BitVec.ofNat 32 X).slt (BitVec.ofNat 32 t)) = _
    rw [slt_ofNat (by omega) (by omega)]
  unfold pick
  rw [hc]
  by_cases h1 : bm < lx <;> by_cases h2 : lx = bm <;> by_cases h3 : X < t <;> simp [h1, h2, h3, Scalar.select, IntOp.ori, IntOp.andi]

/-- The row's choice is the least index at which the scores, the current category's among them, are largest. -/
theorem pick_best (cf b : EReal) (x u : Fin 100000 → EReal) (X t : Fin 100000) (ht : Best (others cf b x u X) t) :
    ∃ s : Fin 100000, Best (score cf b x u X) s ∧
      pick (BitVec.ofNat 32 X) (lgp (left cf b x X) + gum (u X)) (others cf b x u X t) (BitVec.ofNat 32 t) = BitVec.ofNat 32 s := by
  have hlx : score cf b x u X X = lgp (left cf b x X) + gum (u X) := by simp [score]
  have hne : ∀ j, j ≠ X → score cf b x u X j = others cf b x u X j := fun j hj => by simp [score, others, hj]
  have hoX : others cf b x u X X = ⊥ := by simp [others]
  rw [← hlx, pick_eq _ _ X.2 t.2]
  generalize score cf b x u X = l at *
  generalize others cf b x u X = o at *
  by_cases h1 : o t < l X
  · refine ⟨X, fun j => ?_, by rw [if_pos (.inl h1)]⟩
    by_cases hj : j = X
    · subst hj; exact ⟨le_rfl, fun _ => le_rfl⟩
    · rw [hne j hj]
      have := lt_of_le_of_lt (ht j).1 h1
      exact ⟨this.le, fun e => absurd e this.ne⟩
  by_cases h2 : l X = o t ∧ (X : ℕ) < t
  · refine ⟨X, fun j => ?_, by rw [if_pos (.inr h2)]⟩
    by_cases hj : j = X
    · subst hj; exact ⟨le_rfl, fun _ => le_rfl⟩
    · rw [hne j hj, h2.1]
      exact ⟨(ht j).1, fun e => le_trans (Fin.le_of_lt h2.2) ((ht j).2 e)⟩
  refine ⟨t, fun j => ?_, by rw [if_neg (by tauto)]⟩
  have h1' := not_lt.mp h1
  by_cases htX : t = X
  · subst htX
    rw [hoX] at h1'
    have e0 : l t = ⊥ := le_bot_iff.mp h1'
    by_cases hj : j = t
    · subst hj; exact ⟨le_rfl, fun _ => le_rfl⟩
    · rw [hne j hj, e0]
      have := ht j
      rw [hoX] at this
      exact this
  · rw [hne t htX]
    by_cases hj : j = X
    · subst hj
      exact ⟨h1', fun e => not_lt.mp fun h => h2 ⟨e, h⟩⟩
    · rw [hne j hj]; exact ht j

/-! ## The largest of a row and the least index that attains it, as folds -/

theorem fold_max_spec {ι : Type} [DecidableEq ι] (f : ι → EReal) (s : Finset ι) :
    (∀ i ∈ s, f i ≤ s.fold max ⊥ f) ∧ (s.fold max ⊥ f = ⊥ ∨ ∃ i ∈ s, f i = s.fold max ⊥ f) := by
  induction s using Finset.induction with
  | empty => simp
  | insert a s ha ih =>
    rw [Finset.fold_insert ha]
    refine ⟨fun i hi => ?_, ?_⟩
    · rcases Finset.mem_insert.mp hi with rfl | hi
      · exact le_max_left _ _
      · exact (ih.1 i hi).trans (le_max_right _ _)
    · rcases max_choice (f a) (s.fold max ⊥ f) with h | h
      · exact .inr ⟨a, Finset.mem_insert_self .., h.symm⟩
      · rcases ih.2 with h' | ⟨i, hi, h'⟩
        · exact .inl (by rw [h, h'])
        · exact .inr ⟨i, Finset.mem_insert_of_mem hi, by rw [h, h']⟩

/-- The largest of a row that is not empty is one of its elements. -/
theorem fold_max_attained {ι : Type} [DecidableEq ι] [Fintype ι] [Nonempty ι] (f : ι → EReal) :
    ∃ i, f i = Finset.univ.fold max ⊥ f := by
  rcases (fold_max_spec f Finset.univ).2 with h | ⟨i, -, h⟩
  · obtain ⟨i⟩ := ‹Nonempty ι›
    exact ⟨i, le_antisymm ((fold_max_spec f Finset.univ).1 i (Finset.mem_univ _)) (by rw [h]; exact bot_le)⟩
  · exact ⟨i, h⟩

theorem le_fold_max {ι : Type} [DecidableEq ι] [Fintype ι] (f : ι → EReal) (i : ι) : f i ≤ Finset.univ.fold max ⊥ f :=
  (fold_max_spec f Finset.univ).1 i (Finset.mem_univ _)

theorem minsi_cases (a b : BitVec 32) : (IntOp.minsi a b = a ∧ a.toInt ≤ b.toInt) ∨ (IntOp.minsi a b = b ∧ b.toInt ≤ a.toInt) := by
  unfold IntOp.minsi
  by_cases h : a.slt b = true
  · rw [if_pos h]; rw [BitVec.slt_iff_toInt_lt] at h; exact .inl ⟨rfl, h.le⟩
  · rw [if_neg h]; rw [BitVec.slt_iff_toInt_lt] at h; exact .inr ⟨rfl, not_lt.mp h⟩

theorem fold_minsi_spec {ι : Type} [DecidableEq ι] (f : ι → BitVec 32) (z : BitVec 32) (s : Finset ι) :
    (∀ i ∈ s, (s.fold IntOp.minsi z f).toInt ≤ (f i).toInt) ∧ (s.fold IntOp.minsi z f).toInt ≤ z.toInt ∧
      (s.fold IntOp.minsi z f = z ∨ ∃ i ∈ s, s.fold IntOp.minsi z f = f i) := by
  induction s using Finset.induction with
  | empty => simp
  | insert a s ha ih =>
    rw [Finset.fold_insert ha]
    obtain ⟨h1, h2, h3⟩ := ih
    rcases minsi_cases (f a) (s.fold IntOp.minsi z f) with ⟨e, hle⟩ | ⟨e, hle⟩ <;> rw [e]
    · refine ⟨fun i hi => ?_, hle.trans h2, .inr ⟨a, Finset.mem_insert_self .., rfl⟩⟩
      rcases Finset.mem_insert.mp hi with rfl | hi
      · exact le_rfl
      · exact hle.trans (h1 i hi)
    · refine ⟨fun i hi => ?_, h2, ?_⟩
      · rcases Finset.mem_insert.mp hi with rfl | hi
        · exact hle
        · exact h1 i hi
      · rcases h3 with h | ⟨i, hi, h⟩
        · exact .inl h
        · exact .inr ⟨i, Finset.mem_insert_of_mem hi, h⟩

theorem toInt_small {a : ℕ} (h : a < 100000) : (BitVec.ofNat 32 a).toInt = a := by
  exact toInt_word (by omega)

/-- The least, as words, of the indices at which a row is largest: one of them, below every other. -/
theorem fold_arg {ι : Type} [DecidableEq ι] [Fintype ι] [Nonempty ι] (f : ι → EReal) (w : ι → BitVec 32)
    (idx : ι → Fin 100000) (hw : ∀ i, w i = BitVec.ofNat 32 (idx i)) :
    ∃ i, f i = Finset.univ.fold max ⊥ f ∧
      Finset.univ.fold IntOp.minsi 2147483647#32 (fun j => if f j = Finset.univ.fold max ⊥ f then w j else 2147483647#32)
        = BitVec.ofNat 32 (idx i) ∧
      ∀ j, f j = Finset.univ.fold max ⊥ f → idx i ≤ idx j := by
  obtain ⟨i0, h0⟩ := fold_max_attained f
  generalize Finset.univ.fold max ⊥ f = M at *
  obtain ⟨h1, -, h3⟩ := fold_minsi_spec (fun j => if f j = M then w j else 2147483647#32) 2147483647#32 Finset.univ
  generalize Finset.univ.fold IntOp.minsi 2147483647#32 (fun j => if f j = M then w j else 2147483647#32) = R at *
  have hi0 := h1 i0 (Finset.mem_univ _)
  rw [if_pos h0, hw, toInt_small (idx i0).2] at hi0
  have hRlt : R.toInt < 100000 := by have := (idx i0).2; omega
  have hmax : (2147483647#32 : BitVec 32).toInt = 2147483647 := by decide
  rcases h3 with h3 | ⟨i, -, h3⟩
  · rw [h3, hmax] at hRlt; omega
  · by_cases hi : f i = M
    · rw [if_pos hi, hw] at h3
      refine ⟨i, hi, h3, fun j hj => ?_⟩
      have := h1 j (Finset.mem_univ _)
      rw [if_pos hj, hw, h3, toInt_small (idx i).2, toInt_small (idx j).2] at this
      exact_mod_cast this
    · rw [if_neg hi] at h3
      rw [h3, hmax] at hRlt; omega

/-! ## Bounds -/

theorem log_bot : Ideal.log ⊥ = ⊥ := rfl
theorem log_top : Ideal.log ⊤ = ⊤ := rfl
theorem log_coe (r : ℝ) : Ideal.log (r : EReal) = if r ≤ 0 then ⊥ else ((Real.log r : ℝ) : EReal) := rfl

theorem log_mono {a b : EReal} (h : a ≤ b) : Ideal.log a ≤ Ideal.log b := by
  induction a with
  | bot => rw [log_bot]; exact bot_le
  | top => rw [top_le_iff.mp h]
  | coe a =>
    induction b with
    | bot => exact absurd h (by simp)
    | top => rw [log_top]; exact le_top
    | coe b =>
      have h' : a ≤ b := by exact_mod_cast h
      rw [log_coe, log_coe]
      by_cases ha : a ≤ 0
      · rw [if_pos ha]; exact bot_le
      · have hb : ¬ b ≤ 0 := by linarith [not_le.mp ha]
        rw [if_neg ha, if_neg hb]
        exact_mod_cast Real.log_le_log (not_le.mp ha) h'

theorem gum_mono {a b : EReal} (h : a ≤ b) : gum a ≤ gum b := by
  unfold gum
  refine EReal.sub_le_sub le_rfl (log_mono (EReal.sub_le_sub le_rfl (log_mono h)))

theorem log_one : Ideal.log (1 : EReal) = 0 := by
  have : (1 : EReal) = ((1 : ℝ) : EReal) := rfl
  rw [this, log_coe, if_neg (by norm_num)]; simp

theorem floor30_le : floor30 ≤ 1 := by
  have h1 : (BitVec.extractLsb' 23 8 228737632#32).toNat = 27 := by decide
  have h2 : (BitVec.extractLsb' 0 23 228737632#32).toNat = 2245216 := by decide
  have h3 : (BitVec.extractLsb' 31 1 228737632#32 == 1#1) = false := by decide
  have e : floor30 = ((1 * ((2 ^ 23 + 2245216 : ℕ) : ℝ) * (2 : ℝ) ^ ((27 : ℤ) - (2 ^ (8 - 1) - 1) - (23 : ℕ)) : ℝ) : EReal) := by
    simp only [floor30, Ideal.ofBits, Ideal.ieee, Nat.reduceAdd, h1, h2, h3]
    norm_num [-EReal.coe_mul]
  rw [e, show (1 : EReal) = ((1 : ℝ) : EReal) by norm_cast, EReal.coe_le_coe_iff]
  norm_num [zpow_neg]

/-- The margin the certificate keeps is not negative. -/
theorem margin_nonneg : 0 ≤ Ideal.ofBits .f32 953267991#32 := by
  have h1 : (BitVec.extractLsb' 23 8 953267991#32).toNat = 113 := by decide
  have h2 : (BitVec.extractLsb' 0 23 953267991#32).toNat = 5355287 := by decide
  have h3 : (BitVec.extractLsb' 31 1 953267991#32 == 1#1) = false := by decide
  have e : Ideal.ofBits .f32 953267991#32 = ((1 * ((2 ^ 23 + 5355287 : ℕ) : ℝ) * (2 : ℝ) ^ ((113 : ℤ) - (2 ^ (8 - 1) - 1) - (23 : ℕ)) : ℝ) : EReal) := by
    simp only [Ideal.ofBits, Ideal.ieee, Nat.reduceAdd, h1, h2, h3]
    norm_num [-EReal.coe_mul]
  rw [e, show (0 : EReal) = ((0 : ℝ) : EReal) by norm_cast, EReal.coe_le_coe_iff]
  positivity

theorem lgp_le {p : EReal} (h : p ≤ 1) : lgp p ≤ 0 := by
  unfold lgp; exact (log_mono (max_le h floor30_le)).trans log_one.le

theorem prob_le (cf x b : EReal) : prob cf x b ≤ 1 := min_le_right _ _

theorem prob_term (cf x b u : EReal) : lgp (prob cf x b) + gum u ≤ gum u := by
  calc lgp (prob cf x b) + gum u ≤ 0 + gum u := add_le_add (lgp_le (prob_le ..)) le_rfl
    _ = gum u := zero_add _

theorem left_le (cf b : EReal) (x : Fin n → EReal) (X : Fin n) (hcf : 0 ≤ cf) (hb : 0 ≤ b) (hx : ∀ k, 0 ≤ x k) :
    left cf b x X ≤ 1 := by
  unfold left
  refine max_le zero_le_one ?_
  have h : 0 ≤ ∑ k, if k = X then (0 : EReal) else prob cf (x k) b := by
    refine Finset.sum_nonneg fun k _ => ?_
    split
    · exact le_rfl
    · exact le_min (add_nonneg (mul_nonneg hcf (hx k)) hb) zero_le_one
  calc (1 : EReal) - _ ≤ 1 - 0 := EReal.sub_le_sub le_rfl h
    _ = 1 := by simp

/-! ## The candidates -/

/-- The best of a row's candidates, clear of the noise of the next number in order, is the best of all categories but
    the current one. -/
theorem cand_best (cf b : EReal) (x u : Fin 100000 → EReal) (X : Fin 100000) (idx : Fin 128 → Fin 100000) (w : Fin 128 → BitVec 32)
    (hw : ∀ i, w i = BitVec.ofNat 32 (idx i)) (ut eps : EReal) (heps : 0 ≤ eps)
    (hut : ∀ j, (∀ i, idx i ≠ j) → u j ≤ ut) (f : Fin 128 → EReal) (hf : ∀ i, f i = others cf b x u X (idx i))
    (hok : gum ut + eps < Finset.univ.fold max ⊥ f) :
    ∃ t : Fin 100000, Best (others cf b x u X) t ∧ others cf b x u X t = Finset.univ.fold max ⊥ f ∧
      Finset.univ.fold IntOp.minsi 2147483647#32 (fun j => if f j = Finset.univ.fold max ⊥ f then w j else 2147483647#32)
        = BitVec.ofNat 32 t := by
  obtain ⟨i, h1, h2, h3⟩ := fold_arg f w idx hw
  have hle := le_fold_max f
  generalize Finset.univ.fold max ⊥ f = M at *
  have hg : gum ut < M := lt_of_le_of_lt (by simpa using add_le_add (le_refl (gum ut)) heps) hok
  refine ⟨idx i, fun j => ?_, by rw [← hf, h1], h2⟩
  rw [← hf i, h1]
  by_cases hj : ∃ k, idx k = j
  · obtain ⟨k, rfl⟩ := hj
    rw [← hf]
    exact ⟨hle k, h3 k⟩
  · push Not at hj
    have hlt : others cf b x u X j < M := by
      unfold others; split
      · exact lt_of_le_of_lt bot_le hg
      · exact lt_of_le_of_lt ((prob_term ..).trans (gum_mono (hut j hj))) hg
    exact ⟨hlt.le, fun e => absurd e hlt.ne⟩

/-- The best of the others clear of the current category's noise is the best of all. -/
theorem best_of_others (cf b : EReal) (x u : Fin 100000 → EReal) (X t : Fin 100000) (hcf : 0 ≤ cf) (hb : 0 ≤ b)
    (hx : ∀ k, 0 ≤ x k) (ht : Best (others cf b x u X) t) (h : gum (u X) < others cf b x u X t) :
    Best (score cf b x u X) t := by
  have hl : score cf b x u X X < others cf b x u X t := by
    refine lt_of_le_of_lt ?_ h
    have : score cf b x u X X = lgp (left cf b x X) + gum (u X) := by simp [score]
    rw [this]
    simpa using add_le_add (lgp_le (left_le cf b x X hcf hb hx)) (le_refl (gum (u X)))
  have htX : t ≠ X := by
    rintro rfl
    simp [others] at h
  have e : ∀ j, j ≠ X → score cf b x u X j = others cf b x u X j := fun j hj => by simp [score, others, hj]
  intro j
  rw [e t htX]
  by_cases hj : j = X
  · subst hj; exact ⟨hl.le, fun e => absurd e hl.ne⟩
  · rw [e j hj]; exact ht j

end Cert.RowSpec

end
-- ==== Proof.RefVals1.lean ====
module

public import proofs.«01_k».proof.Proof.RowSpec
public import proofs.«01_k».proof.Proof.RefRun
public import Idealize.ShloMosaic.Lib.Pointwise
public import Idealize.ShloMosaic.Lib.StableHlo.RunRead

@[expose] public section

set_option maxRecDepth 16384

noncomputable section

namespace Cert.RefValues

open Cert.ReferenceIdeal Cert.ReferenceIdeal.Gen
open Cert.ReferenceIdeal.Run Cert.RowSpec
open Idealize.ShloMosaic Idealize.ShloMosaic.TcCoe Idealize.ShloMosaic.Tactic

/-! # The reference's buffers as terms of the arguments -/

variable (m : (ℓ : Loc nD τ sig) → Buf (Elt Ideal) ℓ) (c : Dev nD)

/-- The prediction at the current category. -/
def v0T (zarg0 : IVec S128x1 32) (zarg1 : FVec Ideal S128x100000 .f32) : FVec Ideal S128x1 .f32 :=
  let zcall0_c := constantI S_ 32 0#32
  let zcall0_v0 := broadcastInDim S128x1 ![] bcast_S_S128x1 zcall0_c
  let zcall0_v1 := cmpi .slt zarg0 zcall0_v0
  let zcall0_c_0 := constantI S_ 32 100000#32
  let zcall0_v2 := broadcastInDim S128x1 ![] bcast_S_S128x1 zcall0_c_0
  let zcall0_v3 := addi zarg0 zcall0_v2
  let zcall0_v4 := select zcall0_v1 zcall0_v3 zarg0
  let zcall0_v5 := shapeCast S128x1x1 zcall0_v4 shapeCasts_S128x1_S128x1x1
  let zcall0_c_1 := constantI S1 32 99999#32
  let zcall0_c_2 := constantI S_ 32 0#32
  let zcall0_v6 := broadcastInDim S128x1x1 ![] bcast_S_S128x1x1 zcall0_c_2
  let zcall0_v7 := cmpi .sge zcall0_v5 zcall0_v6
  let zcall0_v8 := broadcastInDim S1x1x1 ![2] bcast_S1_S1x1x1_2 zcall0_c_1
  let zcall0_v9 := broadcastInDim S128x1x1 ![0, 1, 2] bcast_S1x1x1_S128x1x1_0_1_2 zcall0_v8
  let zcall0_v10 := cmpi .sle zcall0_v5 zcall0_v9
  let zcall0_v11 := andi zcall0_v7 zcall0_v10
  let zcall0_c_3 := constantI S_ 1 1#1
  let zcall0_v12 := Host.reduce IntOp.andi zcall0_v11 zcall0_c_3 reducesTo_S128x1x1_S128x1_d2 h_S_
  let zcall0_v13 := Host.gather gather_S128x100000_S128x1x1_S128x1_n_1_0_0_1_2_11 zarg1 zcall0_v5
  let zcall0_cst := constant (F := Ideal) S_ .f32 0x7FC00000#32
  let zcall0_v14 := broadcastInDim S128x1 ![] bcast_S_S128x1 zcall0_cst
  let zv0 : FVec Ideal S128x1 .f32 := select zcall0_v12 zcall0_v13 zcall0_v14
  zv0

set_option maxHeartbeats 1000000 in
set_option maxRecDepth 100000 in
theorem v0T_eq : W1 m c (Proc.devRef .tc main_v0) = v0T (W0 m c (Proc.devRef .tc main_arg0)) (W0 m c (Proc.devRef .tc main_arg1)) := by
  unfold W1
  after_reads_simp
  rfl

/-- One. -/
def v1T  : FVec Ideal S1 .f32 :=
  let zcst := constant (F := Ideal) S_ .f32 0x3F800000#32
  let zv1 : FVec Ideal S1 .f32 := broadcastInDim S1 ![] bcast_S_S1 zcst
  zv1

set_option maxHeartbeats 1000000 in
set_option maxRecDepth 100000 in
theorem v1T_eq : W3 m c (Proc.devRef .tc main_v1) = v1T  := by
  unfold W3
  after_reads_simp
  unfold W2
  after_reads_simp
  rfl

/-- One. -/
def v2T (zarg3 : FVec Ideal S1 .f32) : FVec Ideal S1 .f32 :=
  let zcst := constant (F := Ideal) S_ .f32 0x3F800000#32
  let zv1 : FVec Ideal S1 .f32 := broadcastInDim S1 ![] bcast_S_S1 zcst
  let zv2 : FVec Ideal S1 .f32 := subf zv1 zarg3
  zv2

set_option maxHeartbeats 1000000 in
set_option maxRecDepth 100000 in
theorem v2T_eq : W3 m c (Proc.devRef .tc main_v2) = v2T (W1 m c (Proc.devRef .tc main_arg3)) := by
  unfold W3
  after_reads_simp
  unfold W2
  after_reads_simp
  rfl

/-- The time left, not below its floor. -/
def v4T (zarg3 : FVec Ideal S1 .f32) : FVec Ideal S1 .f32 :=
  let zcst := constant (F := Ideal) S_ .f32 0x3F800000#32
  let zv1 : FVec Ideal S1 .f32 := broadcastInDim S1 ![] bcast_S_S1 zcst
  let zv2 : FVec Ideal S1 .f32 := subf zv1 zarg3
  let zcst_1 := constant (F := Ideal) S_ .f32 0x38D1B717#32
  let zcall1_v0 := id zcst_1
  let zcall1_v1 := broadcastInDim S1 ![] bcast_S_S1 zcall1_v0
  let zv4 : FVec Ideal S1 .f32 := maximumf zcall1_v1 zv2
  zv4

set_option maxHeartbeats 1000000 in
set_option maxRecDepth 100000 in
theorem v4T_eq : W3 m c (Proc.devRef .tc main_v4) = v4T (W1 m c (Proc.devRef .tc main_arg3)) := by
  unfold W3
  after_reads_simp
  unfold W2
  after_reads_simp
  rfl

/-- The forward rates. -/
def v19T (zv3 : FVec Ideal S1 .f32) (zv4 : FVec Ideal S1 .f32) (zarg4 : IVec S_ 32) (zarg3 : FVec Ideal S1 .f32) (zarg5 : FVec Ideal S1 .f32) (zarg1 : FVec Ideal S128x100000 .f32) : FVec Ideal S128x100000 .f32 :=
  let zv5 : FVec Ideal S1 .f32 := Host.divf zv3 zv4
  let zv6 := sitofp (F := Ideal) .f32 zarg4
  let zcst_2 := constant (F := Ideal) S_ .f32 0x3F800000#32
  let zv7 := addf zcst_2 zv6
  let zc := constantI S_ 32 99999#32
  let zv8 := muli zarg4 zc
  let zv9 := sitofp (F := Ideal) .f32 zv8
  let zv10 := broadcastInDim S1 ![] bcast_S_S1 zv9
  let zv11 := mulf zv10 zarg3
  let zv12 := id zv7
  let zv13 := broadcastInDim S1 ![] bcast_S_S1 zv12
  let zv14 := addf zv13 zv11
  let zv15 := mulf zarg5 zv14
  let zv16 := mulf zv15 zv5
  let zv17 := broadcastInDim S1x1 ![1] bcast_S1_S1x1_1 zv16
  let zv18 := broadcastInDim S128x100000 ![0, 1] bcast_S1x1_S128x100000_0_1 zv17
  let zv19 : FVec Ideal S128x100000 .f32 := mulf zv18 zarg1
  zv19

set_option maxHeartbeats 1000000 in
set_option maxRecDepth 100000 in
theorem v19T_eq : W4 m c (Proc.devRef .tc main_v19) = v19T (W3 m c (Proc.devRef .tc main_v3)) (W3 m c (Proc.devRef .tc main_v4)) (W3 m c (Proc.devRef .tc main_arg4)) (W3 m c (Proc.devRef .tc main_arg3)) (W3 m c (Proc.devRef .tc main_arg5)) (W3 m c (Proc.devRef .tc main_arg1)) := by
  unfold W4
  after_reads_simp
  rfl

/-- The backward factor. -/
def v24T (zarg4 : IVec S_ 32) (zarg5 : FVec Ideal S1 .f32) : FVec Ideal S128x1 .f32 :=
  let zv20 := sitofp (F := Ideal) .f32 zarg4
  let zv21 := broadcastInDim S1 ![] bcast_S_S1 zv20
  let zv22 := mulf zarg5 zv21
  let zv23 := broadcastInDim S1x1 ![1] bcast_S1_S1x1_1 zv22
  let zv24 : FVec Ideal S128x1 .f32 := broadcastInDim S128x1 ![0, 1] bcast_S1x1_S128x1_0_1 zv23
  zv24

set_option maxHeartbeats 1000000 in
set_option maxRecDepth 100000 in
theorem v24T_eq : W4 m c (Proc.devRef .tc main_v24) = v24T (W3 m c (Proc.devRef .tc main_arg4)) (W3 m c (Proc.devRef .tc main_arg5)) := by
  unfold W4
  after_reads_simp
  rfl

/-- The probabilities, the current category's not yet set. -/
def v28T (zv24 : FVec Ideal S128x1 .f32) (zv0 : FVec Ideal S128x1 .f32) (zv19 : FVec Ideal S128x100000 .f32) : FVec Ideal S128x100000 .f32 :=
  let zv25 : FVec Ideal S128x1 .f32 := mulf zv24 zv0
  let zv26 := broadcastInDim S128x100000 ![0, 1] bcast_S128x1_S128x100000_0_1 zv25
  let zv27 := addf zv19 zv26
  let zcst_3 := constant (F := Ideal) S_ .f32 0x3F800000#32
  let zcall2_v0 := id zcst_3
  let zcall2_v1 := broadcastInDim S128x100000 ![] bcast_S_S128x100000 zcall2_v0
  let zv28 : FVec Ideal S128x100000 .f32 := minimumf zcall2_v1 zv27
  zv28

set_option maxHeartbeats 1000000 in
set_option maxRecDepth 100000 in
theorem v28T_eq : W6 m c (Proc.devRef .tc main_v28) = v28T (W4 m c (Proc.devRef .tc main_v24)) (W4 m c (Proc.devRef .tc main_v0)) (W4 m c (Proc.devRef .tc main_v19)) := by
  unfold W6
  after_reads_simp
  unfold W5
  after_reads_simp
  rfl

/-- … with the current category's set to nothing. -/
def v45T (zarg0 : IVec S128x1 32) (zv28 : FVec Ideal S128x100000 .f32) : FVec Ideal S128x100000 .f32 :=
  let zv29 := iotaInDim S128 32 0
  let zv30 : IVec S128x1 32 := broadcastInDim S128x1 ![0] bcast_S128_S128x1_0 zv29
  let zc_4 := constantI S_ 32 0#32
  let zv31 := broadcastInDim S128x1 ![] bcast_S_S128x1 zc_4
  let zv32 := cmpi .slt zv30 zv31
  let zc_5 := constantI S_ 32 128#32
  let zv33 := broadcastInDim S128x1 ![] bcast_S_S128x1 zc_5
  let zv34 := addi zv30 zv33
  let zv35 := select zv32 zv34 zv30
  let zc_6 := constantI S_ 32 0#32
  let zv36 := broadcastInDim S128x1 ![] bcast_S_S128x1 zc_6
  let zv37 := cmpi .slt zarg0 zv36
  let zc_7 := constantI S_ 32 100000#32
  let zv38 := broadcastInDim S128x1 ![] bcast_S_S128x1 zc_7
  let zv39 := addi zarg0 zv38
  let zv40 := select zv37 zv39 zarg0
  let zv41 := broadcastInDim S128x1x1 ![0, 1] bcast_S128x1_S128x1x1_0_1 zv35
  let zv42 := broadcastInDim S128x1x1 ![0, 1] bcast_S128x1_S128x1x1_0_1 zv40
  let zv43 := concatenate S128x1x2 2 [⟨S128x1x1, zv41⟩, ⟨S128x1x1, zv42⟩] concatenates_S128x1x1_S128x1x1_S128x1x2_d2
  let zcst_8 := constant (F := Ideal) S_ .f32 0x00000000#32
  let zv44 := broadcastInDim S128x1 ![] bcast_S_S128x1 zcst_8
  let zv45 : FVec Ideal S128x100000 .f32 := Host.scatter scatter_S128x100000_S128x1x2_S128x1_n_01_01_2 (fun _ b => b) zv28 zv43 zv44
  zv45

set_option maxHeartbeats 1000000 in
set_option maxRecDepth 100000 in
theorem v45T_eq : W7 m c (Proc.devRef .tc main_v45) = v45T (W6 m c (Proc.devRef .tc main_arg0)) (W6 m c (Proc.devRef .tc main_v28)) := by
  unfold W7
  after_reads_simp
  rfl

/-- The rows' numbers. -/
def v30T  : IVec S128x1 32 :=
  let zv29 := iotaInDim S128 32 0
  let zv30 : IVec S128x1 32 := broadcastInDim S128x1 ![0] bcast_S128_S128x1_0 zv29
  zv30

set_option maxHeartbeats 1000000 in
set_option maxRecDepth 100000 in
theorem v30T_eq : W7 m c (Proc.devRef .tc main_v30) = v30T  := by
  unfold W7
  after_reads_simp
  rfl

/-- What is left for the current category. -/
def v50T (zv45 : FVec Ideal S128x100000 .f32) : FVec Ideal S128x1 .f32 :=
  let zcst_9 := constant (F := Ideal) S_ .f32 0x00000000#32
  let zv46 := Host.reduceAdd zv45 zcst_9 reducesTo_S128x100000_S128_d1 h_S_
  let zv47 := broadcastInDim S128x1 ![0] bcast_S128_S128x1_0 zv46
  let zcst_10 := constant (F := Ideal) S_ .f32 0x3F800000#32
  let zv48 := broadcastInDim S128x1 ![] bcast_S_S128x1 zcst_10
  let zv49 := subf zv48 zv47
  let zcst_11 := constant (F := Ideal) S_ .f32 0x00000000#32
  let zcall3_v0 := id zcst_11
  let zcall3_v1 := broadcastInDim S128x1 ![] bcast_S_S128x1 zcall3_v0
  let zv50 : FVec Ideal S128x1 .f32 := maximumf zcall3_v1 zv49
  zv50

set_option maxHeartbeats 1000000 in
set_option maxRecDepth 100000 in
theorem v50T_eq : W9 m c (Proc.devRef .tc main_v50) = v50T (W7 m c (Proc.devRef .tc main_v45)) := by
  unfold W9
  after_reads_simp
  unfold W8
  after_reads_simp
  rfl

/-- The probabilities. -/
def v64T (zv30 : IVec S128x1 32) (zarg0 : IVec S128x1 32) (zv45 : FVec Ideal S128x100000 .f32) (zv50 : FVec Ideal S128x1 .f32) : FVec Ideal S128x100000 .f32 :=
  let zc_12 := constantI S_ 32 0#32
  let zv51 := broadcastInDim S128x1 ![] bcast_S_S128x1 zc_12
  let zv52 := cmpi .slt zv30 zv51
  let zc_13 := constantI S_ 32 128#32
  let zv53 := broadcastInDim S128x1 ![] bcast_S_S128x1 zc_13
  let zv54 := addi zv30 zv53
  let zv55 := select zv52 zv54 zv30
  let zc_14 := constantI S_ 32 0#32
  let zv56 := broadcastInDim S128x1 ![] bcast_S_S128x1 zc_14
  let zv57 := cmpi .slt zarg0 zv56
  let zc_15 := constantI S_ 32 100000#32
  let zv58 := broadcastInDim S128x1 ![] bcast_S_S128x1 zc_15
  let zv59 := addi zarg0 zv58
  let zv60 := select zv57 zv59 zarg0
  let zv61 := broadcastInDim S128x1x1 ![0, 1] bcast_S128x1_S128x1x1_0_1 zv55
  let zv62 := broadcastInDim S128x1x1 ![0, 1] bcast_S128x1_S128x1x1_0_1 zv60
  let zv63 := concatenate S128x1x2 2 [⟨S128x1x1, zv61⟩, ⟨S128x1x1, zv62⟩] concatenates_S128x1x1_S128x1x1_S128x1x2_d2
  let zv64 : FVec Ideal S128x100000 .f32 := Host.scatter scatter_S128x100000_S128x1x2_S128x1_n_01_01_2 (fun _ b => b) zv45 zv63 zv50
  zv64

/-- The rows' numbers as the first index words. -/
def idxA (zv30 : IVec S128x1 32) : IVec S128x1x1 32 :=
  broadcastInDim S128x1x1 ![0, 1] bcast_S128x1_S128x1x1_0_1
    (select (cmpi CmpIPredicate.slt zv30 (broadcastInDim S128x1 ![] bcast_S_S128x1 (constantI S_ 32 0#32)))
      (addi zv30 (broadcastInDim S128x1 ![] bcast_S_S128x1 (constantI S_ 32 128#32))) zv30)

/-- The current categories as the second. -/
def idxB (zarg0 : IVec S128x1 32) : IVec S128x1x1 32 :=
  broadcastInDim S128x1x1 ![0, 1] bcast_S128x1_S128x1x1_0_1
    (select (cmpi CmpIPredicate.slt zarg0 (broadcastInDim S128x1 ![] bcast_S_S128x1 (constantI S_ 32 0#32)))
      (addi zarg0 (broadcastInDim S128x1 ![] bcast_S_S128x1 (constantI S_ 32 100000#32))) zarg0)

theorem v61_upto : StableHlo.upto ops9 (W9 m c) 16 (Proc.devRef .tc main_v61) = idxA (W9 m c (Proc.devRef .tc main_v30)) := by
  after_reads_simp
  simp only [idxA]

theorem v62_upto : StableHlo.upto ops9 (W9 m c) 16 (Proc.devRef .tc main_v62) = idxB (W9 m c (Proc.devRef .tc main_arg0)) := by
  after_reads_simp
  simp only [idxB]

set_option maxHeartbeats 1000000 in
set_option maxRecDepth 100000 in
theorem v64T_eq : W10 m c (Proc.devRef .tc main_v64) = v64T (W9 m c (Proc.devRef .tc main_v30)) (W9 m c (Proc.devRef .tc main_arg0)) (W9 m c (Proc.devRef .tc main_v45)) (W9 m c (Proc.devRef .tc main_v50)) := by
  unfold W10
  after_reads_simp
  rw [v61_upto, v62_upto]
  simp only [v64T, idxA, idxB]

/-- The Gumbel noise. -/
def v68T (zarg6 : FVec Ideal S128x100000 .f32) : FVec Ideal S128x100000 .f32 :=
  let zv65 := Host.log zarg6
  let zv66 := Host.negf zv65
  let zv67 := Host.log zv66
  let zv68 : FVec Ideal S128x100000 .f32 := Host.negf zv67
  zv68

set_option maxHeartbeats 1000000 in
set_option maxRecDepth 100000 in
theorem v68T_eq : W10 m c (Proc.devRef .tc main_v68) = v68T (W9 m c (Proc.devRef .tc main_arg6)) := by
  unfold W10
  after_reads_simp
  rfl

/-- The perturbed logarithms. -/
def v71T (zv64 : FVec Ideal S128x100000 .f32) (zv68 : FVec Ideal S128x100000 .f32) : FVec Ideal S128x100000 .f32 :=
  let zcst_16 := constant (F := Ideal) S_ .f32 0x0DA24260#32
  let zcall4_v0 := id zcst_16
  let zcall4_v1 := broadcastInDim S128x100000 ![] bcast_S_S128x100000 zcall4_v0
  let zv69 := maximumf zcall4_v1 zv64
  let zv70 := Host.log zv69
  let zv71 : FVec Ideal S128x100000 .f32 := addf zv68 zv70
  zv71

set_option maxHeartbeats 1000000 in
set_option maxRecDepth 100000 in
theorem v71T_eq : W13 m c (Proc.devRef .tc main_v71) = v71T (W10 m c (Proc.devRef .tc main_v64)) (W10 m c (Proc.devRef .tc main_v68)) := by
  unfold W13
  after_reads_simp
  unfold W12
  after_reads_simp
  unfold W11
  after_reads_simp
  rfl

/-- The samples. -/
def v72T (zv71 : FVec Ideal S128x100000 .f32) : IVec S128 32 :=
  let zcall5_v0 := iotaInDim S128x100000 32 1
  let zcall5_cst := constant (F := Ideal) S_ .f32 0xFF800000#32
  let zcall5_c := constantI S_ 32 0#32
  let zv72 : IVec S128 32 := fun j => (Host.argReduce reducer_argmax_f32_i32 zv71 zcall5_v0 zcall5_cst zcall5_c reducesTo_S128x100000_S128_d1 h_S_ j).2
  zv72

set_option maxHeartbeats 1000000 in
set_option maxRecDepth 100000 in
theorem v72T_eq : W14 m c (Proc.devRef .tc main_v72) = v72T (W13 m c (Proc.devRef .tc main_v71)) := by
  unfold W14
  after_reads_simp
  rfl

/-- Their indicators. -/
def v73T (zv72 : IVec S128 32) : FVec Ideal S128x100000 .f32 :=
  let zcall6_v0 := broadcastInDim S128x1 ![0] bcast_S128_S128x1_0 zv72
  let zcall6_v1 := iotaInDim S1x100000 32 1
  let zcall6_v2 := broadcastInDim S128x100000 ![0, 1] bcast_S128x1_S128x100000_0_1 zcall6_v0
  let zcall6_v3 := broadcastInDim S128x100000 ![0, 1] bcast_S1x100000_S128x100000_0_1 zcall6_v1
  let zcall6_v4 := cmpi .eq zcall6_v2 zcall6_v3
  let zv73 : FVec Ideal S128x100000 .f32 := uitofp (F := Ideal) .f32 zcall6_v4
  zv73

theorem toBuf_v73 (a b d) (x : FVec Ideal S128x100000 .f32) :
    (StableHlo.TRef.of main_v73 a b d : StableHlo.TRef sig ⟨S128x100000, .f32⟩).toBuf (Val := Elt Ideal) x = x := rfl

theorem ofBuf_v72 (a b d) (x : IVec S128 32) :
    (StableHlo.TRef.of main_v72 a b d : StableHlo.TRef sig ⟨S128, .i32⟩).ofBuf (Val := Elt Ideal) x = x := rfl

theorem v73T_eq : W15 m c (Proc.devRef .tc main_v73) = v73T (W14 m c (Proc.devRef .tc main_v72)) := by
  unfold W15
  after_reads_simp
  simp only [StableHlo.TRef.ofBuf_toBuf]
  rw [toBuf_v73, ofBuf_v72]
  simp only [v73T]

end Cert.RefValues

end
-- ==== Proof.IdxFacts.lean ====
module

public import proofs.«01_k».proof.Proof.RowSpec
public import Idealize.ShloMosaic.Lib.Pointwise
public import Idealize.ShloMosaic.Lib.Routing.OpsPair
public import Idealize.ShloMosaic.Lib.Routing.OpsSet

@[expose] public section

set_option maxRecDepth 16384

noncomputable section

namespace Cert.RowSpec

open Idealize.ShloMosaic.Routing
open Idealize.ShloMosaic Idealize.ShloMosaic.TcCoe Idealize.ShloMosaic.Tactic

/-! # Gathers along an axis and scatters that set, at an element -/

/-- A gather along the second axis with the first as its batching axis, read at `(i, k)`: row `i` at the place the index word names. -/
theorem gather_along {α : Type} {R C N : ℕ} (d : GatherDims (shape2 R C) (shape3 R N 1) (shape2 R N)) (hoff : d.offsetDims = [])
    (hcoll : d.collapsedSliceDims = [1]) (hob : d.operandBatchingDims = [0]) (hsb : d.startIndicesBatchingDims = [0])
    (hsim : d.startIndexMap = [1]) (hivd : d.indexVectorDim = 2) (x : (shape2 R C).Idx → α) (idx : IVec (shape3 R N 1) 32)
    (i : Fin R) (k : Fin N) (q : Fin C) (hq : idx (ix3 i k 0) = BitVec.ofNat 32 q.val) (hC : C < 2147483648) :
    Host.gather d x idx (ix2 i k) = x (ix2 i q) := by
  unfold Host.gather
  refine congrArg x (funext fun a => Fin.ext ?_)
  have hbd : d.batchDims = [0, 1] := by
    show (shape2 R N).kept d.offsetDims = _
    rw [hoff]; rfl
  have hsk : d.siKept = [0, 1] := by
    show (List.finRange 3).filter (fun z => decide (z.val ≠ d.indexVectorDim)) = _
    rw [hivd]; rfl
  have e : ∀ (l : List (Fin 2)) (n : ℕ) (h : n < l.length) (p : Fin 2), l = [0, 1] → n = p.val → l[n]'h = p := by
    intro l n h p hl hn
    subst hl
    subst hn
    fin_cases p <;> rfl
  have hkept : ∀ a : Fin 2, a ∉ d.sKept := fun a h => by
    have h2 := (d.mem_sKept a).1 h
    rw [hcoll, hob] at h2
    fin_cases a
    · exact h2.2 (List.mem_singleton.2 rfl)
    · exact h2.1 (List.mem_singleton.2 rfl)
  match a with
  | ⟨0, _⟩ =>
    have hm : (0 : Fin 2) ∈ d.operandBatchingDims := by rw [hob]; exact List.mem_singleton.2 rfl
    show d.start (ix2 i k) idx 0 + d.batchCoord (ix2 i k) 0 + d.offCoord (ix2 i k) 0 = i.val
    rw [d.start_batching _ _ _ hm, d.offCoord_eq_zero _ _ (hkept 0)]
    unfold GatherDims.batchCoord
    rw [dif_pos hm]
    unfold GatherDims.siCoord
    simp only [Fin.val_cast, Nat.zero_add, Nat.add_zero]
    have e2 : ∀ (l : List (Fin 3)) (n : ℕ) (h : n < l.length), l = [0] → n = 0 → l[n]'h = 0 := by
      intro l n h hl hn
      subst hl; subst hn; rfl
    rw [e _ _ _ 0 hbd (by rw [e2 _ _ _ hsb (by rw [hob]; rfl), hsk]; rfl)]
    rfl
  | ⟨1, _⟩ =>
    have hm : (1 : Fin 2) ∈ d.startIndexMap := by rw [hsim]; exact List.mem_singleton.2 rfl
    have hnb : (1 : Fin 2) ∉ d.operandBatchingDims := by rw [hob]; exact (by decide : (1 : Fin 2) ∉ [(0 : Fin 2)])
    have hsl : d.sliceSizes 1 = 1 := d.slice_collapsed 1 (by rw [hcoll]; exact List.mem_singleton.2 rfl)
    show d.start (ix2 i k) idx 1 + d.batchCoord (ix2 i k) 1 + d.offCoord (ix2 i k) 1 = q.val
    rw [d.batchCoord_eq_zero _ _ hnb, d.offCoord_eq_zero _ _ (hkept 1)]
    unfold GatherDims.start
    rw [dif_pos hm]
    have hsi : d.siIdx (ix2 i k) ⟨d.startIndexMap.idxOf 1, List.idxOf_lt_length_iff.2 hm⟩ = ix3 i k 0 := by
      funext b'
      apply Fin.ext
      match b' with
      | ⟨0, _⟩ =>
        unfold GatherDims.siIdx
        rw [dif_neg (by rw [hivd]; exact (by decide : (0 : ℕ) ≠ 2))]
        unfold GatherDims.siCoord
        simp only [Fin.val_cast]
        rw [e _ _ _ 0 hbd (by rw [hsk]; rfl)]
        rfl
      | ⟨1, _⟩ =>
        unfold GatherDims.siIdx
        rw [dif_neg (by rw [hivd]; exact (by decide : (1 : ℕ) ≠ 2))]
        unfold GatherDims.siCoord
        simp only [Fin.val_cast]
        rw [e _ _ _ 1 hbd (by rw [hsk]; rfl)]
        rfl
      | ⟨2, _⟩ =>
        unfold GatherDims.siIdx
        rw [dif_pos (by rw [hivd])]
        show List.idxOf 1 d.startIndexMap = 0
        rw [hsim]; rfl
    rw [hsi, hq, toInt_word (by have := q.isLt; omega), hsl]
    show min (Int.toNat (q.val : ℤ)) (C - 1) + 0 + 0 = q.val
    have := q.isLt
    omega

/-- A scatter that sets one element of each row, its words the row's number and the column `X i`: the update there, the operand elsewhere. -/
theorem scatter_rows {α : Type} {R C : ℕ} (d : ScatterDims (shape2 R C) (shape3 R 1 2) (shape2 R 1)) (hiw : d.insertedWindowDims = [0, 1])
    (hsd : d.scatterDimsToOperandDims = [0, 1]) (hivd : d.indexVectorDim = 2) (x : (shape2 R C).Idx → α) (idx : IVec (shape3 R 1 2) 32)
    (upd : (shape2 R 1).Idx → α) (X : Fin R → Fin C) (h0 : ∀ i, (idx (ix3 i 0 0)).toInt = i.val) (h1 : ∀ i, (idx (ix3 i 0 1)).toInt = (X i).val)
    (i : Fin R) (k : Fin C) :
    Host.scatter d (fun _ b => b) x idx upd (ix2 i k) = if k = X i then upd (ix2 i 0) else x (ix2 i k) := by
  have hl : ∀ j : (shape2 R 1).Idx, d.resultIdx? j idx = some (ix2 i k) ↔ j = ix2 i 0 ∧ k = X i := fun j => by
    obtain ⟨a, rfl⟩ : ∃ a : Fin R, j = ix2 a 0 := ⟨j 0, by
      funext q; match q with
      | ⟨0, _⟩ => rfl
      | ⟨1, _⟩ => exact Fin.ext (by have := (j 1).isLt; change (j 1).val < 1 at this; show (j 1).val = 0; omega)⟩
    refine (scatter_lands2 d hiw hsd hivd idx a 0 i k).trans ?_
    have e0 := h0 a
    have e1 := h1 a
    constructor
    · rintro ⟨ha, hb⟩
      have ha' : ((a.val : ℕ) : ℤ) = i.val := e0.symm.trans ha
      have hb' : (((X a).val : ℕ) : ℤ) = k.val := e1.symm.trans hb
      have : a = i := Fin.ext (by exact_mod_cast ha')
      subst this
      exact ⟨rfl, Fin.ext (by exact_mod_cast hb'.symm)⟩
    · rintro ⟨ha, hb⟩
      have : a = i := congrFun ha 0
      subst this
      subst hb
      exact ⟨e0, e1⟩
  by_cases hk : k = X i
  · rw [if_pos hk]
    exact scatter_set_hit d x idx upd _ _ (fun j hj => by rw [((hl j).1 hj).1]) (ix2 i 0) ((hl _).2 ⟨rfl, hk⟩)
  · rw [if_neg hk]
    exact scatter_set_miss d x idx upd _ fun j hj => hk ((hl j).1 hj).2

end Cert.RowSpec

end
-- ==== Proof.RefArg.lean ====
module

public import proofs.«01_k».proof.Proof.RowSpec
public import proofs.«01_k».proof.Proof.RefRun
public import Idealize.ShloMosaic.Lib.Pointwise

@[expose] public section

set_option maxRecDepth 16384

noncomputable section

namespace Cert.RefValues

open Cert.ReferenceIdeal Cert.ReferenceIdeal.Gen
open Cert.RowSpec
open Idealize.ShloMosaic Idealize.ShloMosaic.TcCoe Idealize.ShloMosaic.Tactic

/-! # The reference's argmax over a row -/

/-- What the fold has when it has met the indices of `S`: the largest value of them, with the least index that has it. -/
def Met (x : Fin 100000 → EReal) (S : Fin 100000 → Prop) (r : EReal × BitVec 32) : Prop :=
  (∀ j, S j → x j ≤ r.1 ∧ (x j = r.1 → r.2.toNat ≤ j.val)) ∧ (r = (⊥, 0#32) ∨ ∃ j, r = (x j, BitVec.ofNat 32 j.val))

theorem reducer_cases (p q : EReal × BitVec 32) :
    (reducer_argmax_f32_i32 (F := Ideal) p q : EReal × BitVec 32)
      = (if q.1 < p.1 then p.1 else q.1, if q.1 < p.1 ∨ (p.1 = q.1 ∧ p.2.slt q.2 = true) then p.2 else q.2) := by
  obtain ⟨a, v⟩ := p
  obtain ⟨b, w⟩ := q
  show (Scalar.select (IntOp.ori (BitVec.ofBool (decide (b < a))) (BitVec.ofBool (decide (a ≠ a)))) a b,
    Scalar.select (IntOp.ori (IntOp.ori (BitVec.ofBool (decide (b < a))) (BitVec.ofBool (decide (a ≠ a))))
      (IntOp.andi (BitVec.ofBool (decide (a = b))) (BitVec.ofBool (v.slt w)))) v w) = _
  by_cases h1 : b < a
  · have h2 : a ≠ b := ne_of_gt h1
    cases h3 : v.slt w <;> simp [h1, h2, Scalar.select, IntOp.ori, IntOp.andi]
  · by_cases h2 : a = b
    · cases h3 : v.slt w <;> simp [h2, h3, Scalar.select, IntOp.ori, IntOp.andi]
    · simp [h1, h2, Scalar.select, IntOp.ori, IntOp.andi]

theorem toNat_word {a : ℕ} (h : a < 100000) : (BitVec.ofNat 32 a).toNat = a := by rw [BitVec.toNat_ofNat]; omega

theorem met_step (x : Fin 100000 → EReal) (S : Fin 100000 → Prop) (r : EReal × BitVec 32) (h : Met x S r) (k : Fin 100000) :
    Met x (fun j => S j ∨ j = k) (reducer_argmax_f32_i32 (F := Ideal) r (x k, BitVec.ofNat 32 k.val)) := by
  obtain ⟨hS, hr⟩ := h
  rw [reducer_cases]
  have hw : ∃ n < 100000, r.2 = BitVec.ofNat 32 n := by
    rcases hr with h | ⟨j, h⟩
    · exact ⟨0, by omega, by rw [h]⟩
    · exact ⟨j.val, j.isLt, by rw [h]⟩
  obtain ⟨n, hn, ew⟩ := hw
  have hk := k.isLt
  by_cases h1 : x k < r.1
  · rw [if_pos h1, if_pos (.inl h1)]
    refine ⟨fun j hj => ?_, hr⟩
    rcases hj with hj | rfl
    · exact hS j hj
    · exact ⟨h1.le, fun e => absurd e h1.ne⟩
  · by_cases h2 : r.1 = x k
    · have hs : r.2.slt (BitVec.ofNat 32 k.val) = decide (n < k.val) := by rw [ew, slt_ofNat (by omega) (by omega)]
      by_cases h3 : n < k.val
      · rw [if_neg h1, if_pos (.inr ⟨h2, by rw [hs]; exact decide_eq_true h3⟩), ← h2]
        refine ⟨fun j hj => ?_, hr⟩
        rcases hj with hj | rfl
        · exact hS j hj
        · refine ⟨h2.ge, fun _ => ?_⟩
          show r.2.toNat ≤ _
          rw [ew, toNat_word hn]; exact h3.le
      · have hno : ¬ (x k < r.1 ∨ (r.1 = x k ∧ r.2.slt (BitVec.ofNat 32 k.val) = true)) := by
          rintro (h | ⟨-, h⟩)
          · exact h1 h
          · rw [hs] at h; exact h3 (of_decide_eq_true h)
        rw [if_neg h1, if_neg hno]
        refine ⟨fun j hj => ?_, .inr ⟨k, rfl⟩⟩
        rcases hj with hj | rfl
        · refine ⟨h2 ▸ (hS j hj).1, fun e => ?_⟩
          have := (hS j hj).2 (e.trans h2.symm)
          rw [ew, toNat_word hn] at this
          show (BitVec.ofNat 32 k.val).toNat ≤ _
          rw [toNat_word hk]; omega
        · exact ⟨le_rfl, fun _ => (toNat_word hk).le⟩
    · have hlt : r.1 < x k := lt_of_le_of_ne (not_lt.mp h1) h2
      rw [if_neg h1, if_neg (by rintro (h | ⟨h, -⟩); exacts [h1 h, h2 h])]
      refine ⟨fun j hj => ?_, .inr ⟨k, rfl⟩⟩
      rcases hj with hj | rfl
      · have := (hS j hj).1.trans_lt hlt
        exact ⟨this.le, fun e => absurd e this.ne⟩
      · exact ⟨le_rfl, fun _ => (toNat_word hk).le⟩

theorem met_fold (x : Fin 100000 → EReal) (L : List (Fin 100000)) : ∀ (S : Fin 100000 → Prop) (r : EReal × BitVec 32), Met x S r →
    Met x (fun j => S j ∨ j ∈ L) ((L.map fun k => (x k, BitVec.ofNat 32 k.val)).foldl (reducer_argmax_f32_i32 (F := Ideal)) r) := by
  induction L with
  | nil => intro S r h; simpa using h
  | cons k L ih =>
    intro S r h
    have := ih _ _ (met_step x S r h k)
    rw [List.map_cons, List.foldl_cons]
    refine ⟨fun j hj => this.1 j ?_, this.2⟩
    rcases hj with hj | hj
    · exact .inl (.inl hj)
    · rcases List.mem_cons.1 hj with e | hj
      · exact .inl (.inr e)
      · exact .inr hj

/-- The fold over all of a row gives the least index at which it is largest. -/
theorem fold_best (x : Fin 100000 → EReal) (L : List (Fin 100000)) (hL : ∀ k, k ∈ L) :
    ∃ s, Best x s ∧ ((L.map fun k => (x k, BitVec.ofNat 32 k.val)).foldl (reducer_argmax_f32_i32 (F := Ideal)) ((⊥ : EReal), 0#32)).2
      = BitVec.ofNat 32 s.val := by
  have h := met_fold x L (fun _ => False) (⊥, 0#32) ⟨fun _ h => h.elim, .inl rfl⟩
  rcases h with ⟨h, e | ⟨s, e⟩⟩
  · rw [e] at h ⊢
    refine ⟨⟨0, by omega⟩, fun j => ?_, rfl⟩
    have h0 : ∀ j, x j = ⊥ := fun j => le_bot_iff.mp (h j (.inr (hL j))).1
    rw [h0, h0]
    exact ⟨le_rfl, fun _ => Nat.zero_le _⟩
  · rw [e] at h ⊢
    refine ⟨s, fun j => ?_, rfl⟩
    have := h j (.inr (hL j))
    refine ⟨this.1, fun q => ?_⟩
    have := this.2 q
    rw [toNat_word s.isLt] at this
    exact this

/-- An element's column. -/
def colOf (j : S128x100000.Idx) : Fin 100000 := j 1

theorem drop_row (h : S128x100000.ReducesTo [1] S128) (i : Fin 128) (k : Fin 100000) : h.drop (ix2 i k) = ix1 i := by
  funext a
  match a with
  | ⟨0, _⟩ => exact Fin.ext (h.drop_apply_val_of_eq (ix2 i k) 0 0)

theorem fst_of_drop (h : S128x100000.ReducesTo [1] S128) (j : S128x100000.Idx) (i : Fin 128) (e : h.drop j = ix1 i) : j = ix2 i (colOf j) := by
  have e0 := congrArg Fin.val (congrFun e 0)
  rw [h.drop_apply_val_of_eq j 0 0] at e0
  funext a
  match a with
  | ⟨0, _⟩ => exact Fin.ext e0
  | ⟨1, _⟩ => rfl

/-- The reference's samples of the perturbed logarithms: of each row the least index at which it is largest. -/
theorem argmax_at (v : FVec Ideal S128x100000 .f32) (y : IVec S128x100000 32) (iv : FVec Ideal S_ .f32) (iw : IVec S_ 32)
    (h : S128x100000.ReducesTo [1] S128) (hu : 0 < S_.numel)
    (hy : ∀ i k, y (ix2 i k) = BitVec.ofNat 32 k.val) (hv : ∀ j, iv j = (⊥ : EReal)) (hw : ∀ j, iw j = 0#32) (i : Fin 128) :
    ∃ s : Fin 100000, Best (fun k => (v (ix2 i k) : EReal)) s ∧
      (Host.argReduce reducer_argmax_f32_i32 v y iv iw h hu (ix1 i)).2 = BitVec.ofNat 32 s.val := by
  rw [Ideal.argReduce_eq_reduce2, Host.reduce2_eq_foldl_fiber, hv, hw]
  have e : Host.argReduceFiber v y h (ix1 i)
      = (((List.finRange S128x100000.numel).filter fun n => h.drop (S128x100000.rowMajor.symm n) = ix1 i).map
          fun n => colOf (S128x100000.rowMajor.symm n)).map
        fun k => ((v (ix2 i k) : EReal), BitVec.ofNat 32 k.val) := by
    unfold Host.argReduceFiber
    rw [List.map_map]
    refine List.map_congr_left fun n hn => ?_
    have hd : h.drop (S128x100000.rowMajor.symm n) = ix1 i := of_decide_eq_true (List.mem_filter.1 hn).2
    have e1 := fst_of_drop h _ i hd
    show (v (S128x100000.rowMajor.symm n), y (S128x100000.rowMajor.symm n)) = (v (ix2 i (colOf (S128x100000.rowMajor.symm n))), BitVec.ofNat 32 _)
    rw [← hy i, ← e1]
  rw [e]
  refine fold_best (fun k => v (ix2 i k)) _ fun k => ?_
  refine List.mem_map.2 ⟨S128x100000.rowMajor (ix2 i k), List.mem_filter.2 ⟨List.mem_finRange _, ?_⟩, ?_⟩
  · rw [Equiv.symm_apply_apply]; exact decide_eq_true (drop_row h i k)
  · rw [Equiv.symm_apply_apply]; rfl

theorem argmax_fun (v : FVec Ideal S128x100000 .f32) (y : IVec S128x100000 32) (iv : FVec Ideal S_ .f32) (iw : IVec S_ 32)
    (h : S128x100000.ReducesTo [1] S128) (hu : 0 < S_.numel) (w : IVec S128 32)
    (e : w = fun j => (Host.argReduce reducer_argmax_f32_i32 v y iv iw h hu j).2)
    (hy : ∀ i k, y (ix2 i k) = BitVec.ofNat 32 k.val) (hv : ∀ j, iv j = (⊥ : EReal)) (hw : ∀ j, iw j = 0#32) (i : Fin 128) :
    ∃ s : Fin 100000, Best (fun k => (v (ix2 i k) : EReal)) s ∧ w (ix1 i) = BitVec.ofNat 32 s.val := by
  obtain ⟨s, hs, q⟩ := argmax_at v y iv iw h hu hy hv hw i
  refine ⟨s, hs, ?_⟩
  rw [congrFun e (ix1 i)]
  exact q

end Cert.RefValues

end
-- ==== Proof.Coef.lean ====
module

public import proofs.«01_k».proof.Proof.RowSpec
public import Idealize.ShloMosaic.Lib.Pointwise

@[expose] public section

set_option maxRecDepth 16384

noncomputable section

namespace Cert.RowSpec

open Idealize.ShloMosaic Idealize.ShloMosaic.TcCoe Idealize.ShloMosaic.Tactic

/-! # The rates' scalars, and words that name places -/

/-- The forward rate: what a category's prediction is multiplied by. -/
def cfE (t dt : EReal) (nz : BitVec 32) : EReal :=
  dt * (1 + ((nz.toInt : ℝ) : EReal) + (((IntOp.muli nz 99999#32).toInt : ℝ) : EReal) * t)
    * Ideal.div 1 (max (Ideal.ofBits .f32 953267991#32) (1 - t))

/-- The backward rate: the current category's prediction weighed by the noise. -/
def bE (dt : EReal) (nz : BitVec 32) (x : EReal) : EReal := dt * ((nz.toInt : ℝ) : EReal) * x

/-- A place's word is not below zero, so it stays. -/
theorem wrap_word {n : ℕ} (h : n < 2147483648) (z : BitVec 32) :
    Scalar.select (IntOp.cmpi .slt (BitVec.ofNat 32 n) 0#32) z (BitVec.ofNat 32 n) = BitVec.ofNat 32 n := by
  have e : IntOp.cmpi .slt (BitVec.ofNat 32 n) 0#32 = 0#1 := by
    show BitVec.ofBool ((BitVec.ofNat 32 n).slt (BitVec.ofNat 32 0)) = _
    rw [slt_ofNat h (by omega)]; simp
  rw [e]; rfl

/-- … and it lies in the table. -/
theorem word_in {n : ℕ} (h : n < 100000) :
    IntOp.andi (IntOp.cmpi .sge (BitVec.ofNat 32 n) 0#32) (IntOp.cmpi .sle (BitVec.ofNat 32 n) 99999#32) = 1#1 := by
  have e0 : (0#32).toInt = 0 := rfl
  have e1 : (99999#32).toInt = 99999 := rfl
  have a : (0#32).sle (BitVec.ofNat 32 n) = true := by
    rw [BitVec.sle_iff_toInt_le, toInt_small h, e0]; omega
  have b : (BitVec.ofNat 32 n).sle 99999#32 = true := by
    rw [BitVec.sle_iff_toInt_le, toInt_small h, e1]; omega
  show BitVec.ofBool ((0#32).sle (BitVec.ofNat 32 n)) &&& BitVec.ofBool ((BitVec.ofNat 32 n).sle 99999#32) = _
  rw [a, b]; rfl

theorem fold_one (f : Fin 1 → BitVec 1) (h : f 0 = 1#1) : Finset.fold IntOp.andi 1#1 f Finset.univ = 1#1 := by
  rw [show (Finset.univ : Finset (Fin 1)) = {0} from rfl, Finset.fold_singleton, h]; rfl

/-- The noise's word is a number whose product with one less than the number of categories is still a word's. -/
abbrev NoiseOk (nz : BitVec 32) : Prop := ∃ n : ℕ, n ≤ 21475 ∧ nz = BitVec.ofNat 32 n

theorem noise_nonneg {nz : BitVec 32} (hn : NoiseOk nz) : 0 ≤ ((nz.toInt : ℝ) : EReal) := by
  obtain ⟨n, hl, rfl⟩ := hn
  rw [toInt_word (by omega)]
  exact_mod_cast Nat.zero_le n

theorem noise_scaled_nonneg {nz : BitVec 32} (hn : NoiseOk nz) : 0 ≤ (((IntOp.muli nz 99999#32).toInt : ℝ) : EReal) := by
  obtain ⟨n, hl, rfl⟩ := hn
  have e : IntOp.muli (BitVec.ofNat 32 n) 99999#32 = BitVec.ofNat 32 (n * 99999) := (BitVec.ofNat_mul n 99999).symm
  rw [e, toInt_word (by omega)]
  exact_mod_cast Nat.zero_le (n * 99999)

theorem bE_nonneg {dt x : EReal} {nz : BitVec 32} (hdt : 0 ≤ dt) (hx : 0 ≤ x) (hn : NoiseOk nz) : 0 ≤ bE dt nz x :=
  mul_nonneg (mul_nonneg hdt (noise_nonneg hn)) hx

theorem cfE_nonneg {t dt : EReal} {nz : BitVec 32} (ht : 0 ≤ t) (hdt : 0 ≤ dt) (hn : NoiseOk nz) : 0 ≤ cfE t dt nz := by
  unfold cfE
  have h1 := noise_nonneg hn
  have h2 := noise_scaled_nonneg hn
  have h3 : (0 : EReal) ≤ 1 + ((nz.toInt : ℝ) : EReal) := add_nonneg zero_le_one h1
  have h4 : (0 : EReal) ≤ max (Ideal.ofBits .f32 953267991#32) (1 - t) := le_max_of_le_left margin_nonneg
  refine mul_nonneg (mul_nonneg hdt (add_nonneg h3 (mul_nonneg h2 ht))) ?_
  generalize max (Ideal.ofBits .f32 953267991#32) (1 - t) = y at h4
  unfold Ideal.div
  split_ifs
  · exact le_top
  · exact absurd zero_lt_one ‹_›
  · exact mul_nonneg zero_le_one (EReal.inv_nonneg_of_nonneg h4)

theorem ninf : Ideal.ofBits .f32 4286578688#32 = ⊥ := by
  have h1 : (BitVec.extractLsb' 23 8 4286578688#32).toNat = 255 := by decide
  have h2 : (BitVec.extractLsb' 0 23 4286578688#32).toNat = 0 := by decide
  have h3 : (BitVec.extractLsb' 31 1 4286578688#32 == 1#1) = true := by decide
  simp only [Ideal.ofBits, Ideal.ieee, Nat.reduceAdd, h1, h2, h3]
  norm_num

end Cert.RowSpec

end
-- ==== Proof.RefVals2.lean ====
module

public import proofs.«01_k».proof.Proof.RefVals1
public import proofs.«01_k».proof.Proof.IdxFacts
public import proofs.«01_k».proof.Proof.RefArg
public import proofs.«01_k».proof.Proof.Coef

@[expose] public section

set_option maxRecDepth 16384

noncomputable section

namespace Cert.RefValues

open Cert.ReferenceIdeal Cert.ReferenceIdeal.Gen
open Cert.ReferenceIdeal.Run Cert.RowSpec
open Idealize.ShloMosaic Idealize.ShloMosaic.TcCoe Idealize.ShloMosaic.Tactic

/-! # The reference's buffers at an element -/

theorem v0T_at (a0 : IVec S128x1 32) (a1 : FVec Ideal S128x100000 .f32) (X : Fin 128 → Fin 100000)
    (h : ∀ i, a0 (ix2 i 0) = BitVec.ofNat 32 (X i)) (i : Fin 128) : v0T a0 a1 (ix2 i 0) = a1 (ix2 i (X i)) := by
  have hX := (X i).isLt
  unfold v0T
  pointwise []
  rw [fold_one _ (by rw [h, wrap_word (by omega), word_in hX])]
  show Host.gather _ _ _ _ = _
  refine gather_along _ rfl rfl rfl rfl rfl rfl _ _ i 0 (X i) ?_ (by omega)
  pointwise []
  rw [h, wrap_word (by omega)]

theorem one_at : id (constant (F := Ideal) S_ .f32 1065353216#32) ix0 = (1 : EReal) := by
  show (constant (F := Ideal) S_ .f32 1065353216#32) ix0 = (1 : EReal)
  pointwise []

theorem zero_at : id (constant (F := Ideal) S_ .f32 0#32) ix0 = (0 : EReal) := by
  show (constant (F := Ideal) S_ .f32 0#32) ix0 = (0 : EReal)
  pointwise []

theorem v28T_at (a0 : FVec Ideal S128x1 .f32) (a1 : FVec Ideal S128x1 .f32) (a2 : FVec Ideal S128x100000 .f32) (i : Fin 128) (k : Fin 100000) :
    v28T a0 a1 a2 (ix2 i k) = min (1 : EReal) (a2 (ix2 i k) + a0 (ix2 i 0) * a1 (ix2 i 0)) := by
  pointwise [v28T]
  rw [one_at]

theorem v19T_at (z z4 : FVec Ideal S1 .f32) (a4 : IVec S_ 32) (a3 a5 : FVec Ideal S1 .f32) (a1 : FVec Ideal S128x100000 .f32)
    (hz : z (ix1 0) = (1 : EReal)) (hz4 : z4 (ix1 0) = max (Ideal.ofBits .f32 953267991#32) (1 - a3 (ix1 0) : EReal)) (i : Fin 128) (k : Fin 100000) :
    v19T z z4 a4 a3 a5 a1 (ix2 i k) = cfE (a3 (ix1 0)) (a5 (ix1 0)) (a4 ix0) * a1 (ix2 i k) := by
  have e : id (addf (constant (F := Ideal) S_ .f32 1065353216#32) (sitofp .f32 a4)) ix0 = (1 + (((a4 ix0).toInt : ℝ) : EReal) : EReal) := by
    show addf (constant (F := Ideal) S_ .f32 1065353216#32) (sitofp .f32 a4) ix0 = _
    pointwise []
    rfl
  pointwise [v19T]
  rw [e, hz, hz4]
  rfl

theorem v24T_at (a4 : IVec S_ 32) (a5 : FVec Ideal S1 .f32) (i : Fin 128) :
    v24T a4 a5 (ix2 i 0) = (a5 (ix1 0) * ((((a4 ix0).toInt : ℝ)) : EReal) : EReal) := by
  pointwise [v24T]
  rfl

theorem v4T_at (a5 : FVec Ideal S1 .f32) : v4T a5 (ix1 0) = max (Ideal.ofBits .f32 953267991#32) (1 - a5 (ix1 0) : EReal) := by
  pointwise [v4T]
  rfl

theorem v1T_at : v1T (ix1 0) = (1 : EReal) := by
  pointwise [v1T]

theorem v3T_at (a : FVec Ideal S1 .f32) : v2T a (ix1 0) = (1 - a (ix1 0) : EReal) := by
  pointwise [v2T]

theorem v45T_at (a0 : IVec S128x1 32) (a1 : FVec Ideal S128x100000 .f32) (X : Fin 128 → Fin 100000)
    (h : ∀ i, a0 (ix2 i 0) = BitVec.ofNat 32 (X i)) (i : Fin 128) (k : Fin 100000) :
    v45T a0 a1 (ix2 i k) = if k = X i then (0 : EReal) else a1 (ix2 i k) := by
  unfold v45T
  refine (scatter_rows _ rfl rfl rfl _ _ _ X ?_ ?_ i k).trans ?_
  · intro i
    have := i.isLt
    pointwise []
    rw [wrap_word (by omega), toInt_word (by omega)]
  · intro i
    have := (X i).isLt
    pointwise []
    rw [h, wrap_word (by omega), toInt_word (by omega)]
  · congr 1
    pointwise []

theorem v50T_at (a : FVec Ideal S128x100000 .f32) (i : Fin 128) : v50T a (ix2 i 0) = max (0 : EReal) (1 - ∑ k : Fin 100000, a (ix2 i k)) := by
  pointwise [v50T]
  rw [zero_at]

theorem v30T_at (i : Fin 128) : v30T (ix2 i 0) = BitVec.ofNat 32 i := by
  pointwise [v30T]

theorem v64T_at (r : IVec S128x1 32) (a0 : IVec S128x1 32) (a1 : FVec Ideal S128x100000 .f32) (a2 : FVec Ideal S128x1 .f32) (X : Fin 128 → Fin 100000)
    (hr : ∀ i, r (ix2 i 0) = BitVec.ofNat 32 i)
    (h : ∀ i, a0 (ix2 i 0) = BitVec.ofNat 32 (X i)) (i : Fin 128) (k : Fin 100000) :
    v64T r a0 a1 a2 (ix2 i k) = if k = X i then a2 (ix2 i 0) else a1 (ix2 i k) := by
  unfold v64T
  refine scatter_rows _ rfl rfl rfl _ _ _ X ?_ ?_ i k
  · intro i
    have := i.isLt
    pointwise []
    rw [hr, wrap_word (by omega), toInt_word (by omega)]
  · intro i
    have := (X i).isLt
    pointwise []
    rw [h, wrap_word (by omega), toInt_word (by omega)]

theorem v68T_at (a : FVec Ideal S128x100000 .f32) (i : Fin 128) (k : Fin 100000) : v68T a (ix2 i k) = gum (a (ix2 i k)) := by
  pointwise [v68T]
  unfold gum
  rw [zero_sub, zero_sub]

theorem v71T_at (a0 : FVec Ideal S128x100000 .f32) (a2 : FVec Ideal S128x100000 .f32) (i : Fin 128) (k : Fin 100000) :
    v71T a0 a2 (ix2 i k) = (lgp (a0 (ix2 i k)) + a2 (ix2 i k) : EReal) := by
  have e : id (constant (F := Ideal) S_ .f32 228737632#32) ix0 = floor30 := rfl
  pointwise [v71T]
  rw [e, add_comm, max_comm]
  rfl

theorem v72T_at (a : FVec Ideal S128x100000 .f32) (i : Fin 128) :
    ∃ s : Fin 100000, Best (fun k => (a (ix2 i k) : EReal)) s ∧ v72T a (ix1 i) = BitVec.ofNat 32 s.val := by
  refine argmax_fun a _ _ _ _ _ (v72T a) rfl ?_ ?_ ?_ i
  · intro i k
    pointwise []
  · intro j
    show Ideal.ofBits .f32 4286578688#32 = ⊥
    exact ninf
  · intro j
    pointwise []

theorem v73T_at (a : IVec S128 32) (s : Fin 128 → Fin 100000) (h : ∀ i, a (ix1 i) = BitVec.ofNat 32 (s i)) (i : Fin 128) (k : Fin 100000) :
    v73T a (ix2 i k) = if k = s i then (1 : EReal) else 0 := by
  pointwise [v73T]
  have h1 := k.isLt
  have h2 := (s i).isLt
  rw [h]
  show (((BitVec.ofBool (BitVec.ofNat 32 (s i).val == BitVec.ofNat 32 k.val)).toNat : ℝ) : EReal) = _
  by_cases e : k = s i
  · subst e; simp
  · have : ¬ BitVec.ofNat 32 (s i).val = BitVec.ofNat 32 k.val := fun q => e (Fin.ext (by
      have := congrArg BitVec.toNat q
      rw [toNat_word h2, toNat_word h1] at this
      exact this.symm))
    simp [e, this]

end Cert.RefValues

end
-- ==== Proof.RefVals3.lean ====
module

public import proofs.«01_k».proof.Proof.RefVals2

@[expose] public section

set_option maxRecDepth 16384

noncomputable section

namespace Cert.RefValues

open Cert.ReferenceIdeal Cert.ReferenceIdeal.Gen
open Cert.ReferenceIdeal.Run Cert.RowSpec
open Idealize.ShloMosaic Idealize.ShloMosaic.TcCoe Idealize.ShloMosaic.Tactic

/-! # The reference's result is the samples' indicators -/

variable (m : (ℓ : Loc nD τ sig) → Buf (Elt Ideal) ℓ) (c : Dev nD)

/-- One. -/
def vOneT  : FVec Ideal S1 .f32 :=
  let zcst_0 := constant (F := Ideal) S_ .f32 0x3F800000#32
  let zv3 : FVec Ideal S1 .f32 := broadcastInDim S1 ![] bcast_S_S1 zcst_0
  zv3

set_option maxHeartbeats 1000000 in
set_option maxRecDepth 100000 in
theorem vOneT_eq : W3 m c (Proc.devRef .tc main_v3) = vOneT  := by
  unfold W3
  after_reads_simp
  unfold W2
  after_reads_simp
  rfl

theorem vOneT_at : vOneT (ix1 0) = (1 : EReal) := by
  pointwise [vOneT]

/-- The indicators of a row's chosen columns. -/
def hotsOf (s : Fin 128 → Fin 100000) : FVec Ideal S128x100000 .f32 := fun j =>
  (fun (i : Fin 128) (k : Fin 100000) => if k = s i then (1 : EReal) else 0) (j 0) (j 1)

set_option maxHeartbeats 1000000 in
theorem ref_value (xt : IVec S128x1 32) (x1 : FVec Ideal S128x100000 .f32) (t dt : FVec Ideal S1 .f32) (nz : IVec S_ 32) (u : FVec Ideal S128x100000 .f32)
    (X : Fin 128 → Fin 100000) (hX : ∀ i, xt (ix2 i 0) = BitVec.ofNat 32 (X i))
    (e0 : W0 m c (Proc.devRef .tc main_arg0) = xt) (e1 : W0 m c (Proc.devRef .tc main_arg1) = x1) (e3 : W0 m c (Proc.devRef .tc main_arg3) = t)
    (e4 : W0 m c (Proc.devRef .tc main_arg4) = nz) (e5 : W0 m c (Proc.devRef .tc main_arg5) = dt) (e6 : W0 m c (Proc.devRef .tc main_arg6) = u) :
    ∃ s : Fin 128 → Fin 100000,
      (∀ i, Best (score (cfE (t (ix1 0)) (dt (ix1 0)) (nz ix0)) (bE (dt (ix1 0)) (nz ix0) (x1 (ix2 i (X i)))) (fun k => x1 (ix2 i k)) (fun k => u (ix2 i k)) (X i)) (s i)) ∧
      W15 m c (Proc.devRef .tc main_v73) = hotsOf s := by
  have carg0_6 : W6 m c (Proc.devRef .tc main_arg0) = W0 m c (Proc.devRef .tc main_arg0) := ((W6_of m c main_arg0 (by decide))).trans (((W5_of m c main_arg0 (by decide))).trans (((W4_of m c main_arg0 (by decide))).trans (((W3_of m c main_arg0 (by decide))).trans (((W2_of m c main_arg0 (by decide))).trans ((W1_of m c main_arg0 (by decide)))))))
  have carg0_9 : W9 m c (Proc.devRef .tc main_arg0) = W0 m c (Proc.devRef .tc main_arg0) := ((W9_of m c main_arg0 (by decide))).trans (((W8_of m c main_arg0 (by decide))).trans (((W7_of m c main_arg0 (by decide))).trans (((W6_of m c main_arg0 (by decide))).trans (((W5_of m c main_arg0 (by decide))).trans (((W4_of m c main_arg0 (by decide))).trans (((W3_of m c main_arg0 (by decide))).trans (((W2_of m c main_arg0 (by decide))).trans ((W1_of m c main_arg0 (by decide))))))))))
  have carg1_3 : W3 m c (Proc.devRef .tc main_arg1) = W0 m c (Proc.devRef .tc main_arg1) := ((W3_of m c main_arg1 (by decide))).trans (((W2_of m c main_arg1 (by decide))).trans ((W1_of m c main_arg1 (by decide))))
  have carg3_1 : W1 m c (Proc.devRef .tc main_arg3) = W0 m c (Proc.devRef .tc main_arg3) := (W1_of m c main_arg3 (by decide))
  have carg3_3 : W3 m c (Proc.devRef .tc main_arg3) = W0 m c (Proc.devRef .tc main_arg3) := ((W3_of m c main_arg3 (by decide))).trans (((W2_of m c main_arg3 (by decide))).trans ((W1_of m c main_arg3 (by decide))))
  have carg4_3 : W3 m c (Proc.devRef .tc main_arg4) = W0 m c (Proc.devRef .tc main_arg4) := ((W3_of m c main_arg4 (by decide))).trans (((W2_of m c main_arg4 (by decide))).trans ((W1_of m c main_arg4 (by decide))))
  have carg5_3 : W3 m c (Proc.devRef .tc main_arg5) = W0 m c (Proc.devRef .tc main_arg5) := ((W3_of m c main_arg5 (by decide))).trans (((W2_of m c main_arg5 (by decide))).trans ((W1_of m c main_arg5 (by decide))))
  have carg6_9 : W9 m c (Proc.devRef .tc main_arg6) = W0 m c (Proc.devRef .tc main_arg6) := ((W9_of m c main_arg6 (by decide))).trans (((W8_of m c main_arg6 (by decide))).trans (((W7_of m c main_arg6 (by decide))).trans (((W6_of m c main_arg6 (by decide))).trans (((W5_of m c main_arg6 (by decide))).trans (((W4_of m c main_arg6 (by decide))).trans (((W3_of m c main_arg6 (by decide))).trans (((W2_of m c main_arg6 (by decide))).trans ((W1_of m c main_arg6 (by decide))))))))))
  have cv0 : W4 m c (Proc.devRef .tc main_v0) = W1 m c (Proc.devRef .tc main_v0) := ((W4_of m c main_v0 (by decide))).trans (((W3_of m c main_v0 (by decide))).trans ((W2_of m c main_v0 (by decide))))
  have cv45 : W9 m c (Proc.devRef .tc main_v45) = W7 m c (Proc.devRef .tc main_v45) := ((W9_of m c main_v45 (by decide))).trans ((W8_of m c main_v45 (by decide)))
  have cv30 : W9 m c (Proc.devRef .tc main_v30) = W7 m c (Proc.devRef .tc main_v30) := ((W9_of m c main_v30 (by decide))).trans ((W8_of m c main_v30 (by decide)))
  set cf := cfE (t (ix1 0)) (dt (ix1 0)) (nz ix0)
  have q0 : ∀ i : Fin 128, W1 m c (Proc.devRef .tc main_v0) (ix2 i 0) = x1 (ix2 i (X i)) := fun i => by
    rw [v0T_eq, e0, e1]; exact v0T_at xt x1 X hX i
  have q19 : ∀ (i : Fin 128) (k : Fin 100000), W4 m c (Proc.devRef .tc main_v19) (ix2 i k) = cf * x1 (ix2 i k) := fun i k => by
    rw [v19T_eq, carg4_3, carg3_3, carg5_3, carg1_3, e4, e3, e5, e1]
    refine v19T_at _ _ nz t dt x1 ?_ ?_ i k
    · rw [vOneT_eq]; exact vOneT_at
    · rw [v4T_eq, carg3_1, e3]; exact v4T_at t
  have q24 : ∀ i : Fin 128, W4 m c (Proc.devRef .tc main_v24) (ix2 i 0) = (dt (ix1 0) * (((nz ix0).toInt : ℝ) : EReal) : EReal) := fun i => by
    rw [v24T_eq, carg4_3, carg5_3, e4, e5]; exact v24T_at nz dt i
  have q28 : ∀ (i : Fin 128) (k : Fin 100000), W6 m c (Proc.devRef .tc main_v28) (ix2 i k) = prob cf (x1 (ix2 i k)) (bE (dt (ix1 0)) (nz ix0) (x1 (ix2 i (X i)))) := fun i k => by
    rw [v28T_eq]
    refine (v28T_at _ _ _ i k).trans ?_
    rw [q19, q24, cv0, q0]
    exact min_comm _ _
  have q45 : ∀ (i : Fin 128) (k : Fin 100000), W7 m c (Proc.devRef .tc main_v45) (ix2 i k) = if k = X i then (0 : EReal) else prob cf (x1 (ix2 i k)) (bE (dt (ix1 0)) (nz ix0) (x1 (ix2 i (X i)))) := fun i k => by
    rw [v45T_eq, carg0_6, e0]
    refine (v45T_at _ _ X hX i k).trans ?_
    rw [q28]
  have q50 : ∀ i : Fin 128, W9 m c (Proc.devRef .tc main_v50) (ix2 i 0) = left cf (bE (dt (ix1 0)) (nz ix0) (x1 (ix2 i (X i)))) (fun k => x1 (ix2 i k)) (X i) := fun i => by
    rw [v50T_eq]
    refine (v50T_at _ i).trans ?_
    simp only [q45]
    rfl
  have q64 : ∀ (i : Fin 128) (k : Fin 100000), W10 m c (Proc.devRef .tc main_v64) (ix2 i k)
      = if k = X i then left cf (bE (dt (ix1 0)) (nz ix0) (x1 (ix2 i (X i)))) (fun k => x1 (ix2 i k)) (X i) else prob cf (x1 (ix2 i k)) (bE (dt (ix1 0)) (nz ix0) (x1 (ix2 i (X i)))) := fun i k => by
    rw [v64T_eq, carg0_9, e0, cv30, cv45]
    refine (v64T_at _ _ _ _ X ?_ hX i k).trans ?_
    · intro i; rw [v30T_eq]; exact v30T_at i
    · rw [q50, q45]
      by_cases h : k = X i
      · rw [if_pos h, if_pos h]
      · rw [if_neg h, if_neg h, if_neg h]
  have q68 : ∀ (i : Fin 128) (k : Fin 100000), W10 m c (Proc.devRef .tc main_v68) (ix2 i k) = gum (u (ix2 i k)) := fun i k => by
    rw [v68T_eq, carg6_9, e6]; exact v68T_at _ i k
  have q71 : ∀ (i : Fin 128) (k : Fin 100000), W13 m c (Proc.devRef .tc main_v71) (ix2 i k)
      = score cf (bE (dt (ix1 0)) (nz ix0) (x1 (ix2 i (X i)))) (fun k => x1 (ix2 i k)) (fun k => u (ix2 i k)) (X i) k := fun i k => by
    rw [v71T_eq]
    refine (v71T_at _ _ i k).trans ?_
    rw [q64, q68]
    unfold score
    by_cases h : k = X i
    · rw [if_pos h, if_pos h, h]
    · rw [if_neg h, if_neg h]
  have q72 := fun i => v72T_at (W13 m c (Proc.devRef .tc main_v71)) i
  choose s hs1 hs2 using q72
  refine ⟨s, fun i => ?_, ?_⟩
  · have := hs1 i
    simp only [q71] at this
    exact this
  · rw [v73T_eq, v72T_eq]
    funext j
    obtain ⟨i, k, rfl⟩ : ∃ (i : Fin 128) (k : Fin 100000), j = ix2 i k := ⟨j 0, j 1, eq_ix2 j⟩
    exact v73T_at _ s hs2 i k

end Cert.RefValues

end
-- ==== Proof.KerHost1.lean ====
module

public import proofs.«01_k».proof.Proof.RowSpec
public import proofs.«01_k».proof.Proof.Vals2
public import Idealize.ShloMosaic.Lib.Pointwise
public import Idealize.ShloMosaic.Lib.StableHlo.RunRead

@[expose] public section

set_option maxRecDepth 16384

noncomputable section

namespace Cert.KerValues

open Cert.KernelIdeal hiding ix2
open Cert.KernelIdeal.Run Cert.KernelIdeal.Gen Cert.RowSpec
open Idealize.ShloMosaic Idealize.ShloMosaic.TcCoe Idealize.ShloMosaic.Tactic

/-! # The kernel's host buffers before its first call, as terms -/

variable (m : (ℓ : Loc nD τ sig) → Buf (Elt Ideal) ℓ) (c : Dev nD)

/-- One. -/
def kv2T  : FVec Ideal S1 .f32 :=
  let zcst_0 := constant (F := Ideal) S_ .f32 0x3F800000#32
  let zv2 : FVec Ideal S1 .f32 := broadcastInDim S1 ![] bcast_S_S1 zcst_0
  zv2

set_option maxHeartbeats 1000000 in
set_option maxRecDepth 100000 in
theorem kv2T_eq : W2 m c (Proc.devRef .tc main_v2) = kv2T  := by
  unfold W2
  after_reads_simp
  unfold W1
  after_reads_simp
  rfl

/-- The time left, not below its floor. -/
def kv3T (zarg3 : FVec Ideal S1 .f32) : FVec Ideal S1 .f32 :=
  let zcst := constant (F := Ideal) S_ .f32 0x3F800000#32
  let zv0 := broadcastInDim S1 ![] bcast_S_S1 zcst
  let zv1 := subf zv0 zarg3
  let zcst_1 := constant (F := Ideal) S_ .f32 0x38D1B717#32
  let zcall0_v0 := id zcst_1
  let zcall0_v1 := broadcastInDim S1 ![] bcast_S_S1 zcall0_v0
  let zv3 : FVec Ideal S1 .f32 := maximumf zcall0_v1 zv1
  zv3

set_option maxHeartbeats 1000000 in
set_option maxRecDepth 100000 in
theorem kv3T_eq : W2 m c (Proc.devRef .tc main_v3) = kv3T (W0 m c (Proc.devRef .tc main_arg3)) := by
  unfold W2
  after_reads_simp
  unfold W1
  after_reads_simp
  rfl

/-- The forward rate. -/
def kv15T (zv2 : FVec Ideal S1 .f32) (zv3 : FVec Ideal S1 .f32) (zarg4 : IVec S_ 32) (zarg3 : FVec Ideal S1 .f32) (zarg5 : FVec Ideal S1 .f32) : FVec Ideal S1 .f32 :=
  let zv4 := Host.divf zv2 zv3
  let zv5 := sitofp (F := Ideal) .f32 zarg4
  let zcst_2 := constant (F := Ideal) S_ .f32 0x3F800000#32
  let zv6 := addf zcst_2 zv5
  let zc := constantI S_ 32 99999#32
  let zv7 := muli zarg4 zc
  let zv8 := sitofp (F := Ideal) .f32 zv7
  let zv9 := broadcastInDim S1 ![] bcast_S_S1 zv8
  let zv10 := mulf zv9 zarg3
  let zv11 := id zv6
  let zv12 := broadcastInDim S1 ![] bcast_S_S1 zv11
  let zv13 := addf zv12 zv10
  let zv14 := mulf zarg5 zv13
  let zv15 : FVec Ideal S1 .f32 := mulf zv14 zv4
  zv15

set_option maxHeartbeats 1000000 in
set_option maxRecDepth 100000 in
theorem kv15T_eq : W3 m c (Proc.devRef .tc main_v15) = kv15T (W2 m c (Proc.devRef .tc main_v2)) (W2 m c (Proc.devRef .tc main_v3)) (W2 m c (Proc.devRef .tc main_arg4)) (W2 m c (Proc.devRef .tc main_arg3)) (W2 m c (Proc.devRef .tc main_arg5)) := by
  unfold W3
  after_reads_simp
  rfl

theorem ofBuf_v16 (a b d) (x : FVec Ideal S128x1 .f32) : (StableHlo.TRef.of main_v16 a b d : StableHlo.TRef sig ⟨S128x1, .f32⟩).ofBuf (Val := Elt Ideal) x = x := rfl

theorem toBuf_v16 (a b d) (x : FVec Ideal S128x1 .f32) : (StableHlo.TRef.of main_v16 a b d : StableHlo.TRef sig ⟨S128x1, .f32⟩).toBuf (Val := Elt Ideal) x = x := rfl

theorem ofBuf_arg1 (a b d) (x : FVec Ideal S128x100000 .f32) : (StableHlo.TRef.of main_arg1 a b d : StableHlo.TRef sig ⟨S128x100000, .f32⟩).ofBuf (Val := Elt Ideal) x = x := rfl

theorem toBuf_arg1 (a b d) (x : FVec Ideal S128x100000 .f32) : (StableHlo.TRef.of main_arg1 a b d : StableHlo.TRef sig ⟨S128x100000, .f32⟩).toBuf (Val := Elt Ideal) x = x := rfl

theorem ofBuf_arg0 (a b d) (x : IVec S128x1 32) : (StableHlo.TRef.of main_arg0 a b d : StableHlo.TRef sig ⟨S128x1, .i32⟩).ofBuf (Val := Elt Ideal) x = x := rfl

theorem toBuf_arg0 (a b d) (x : IVec S128x1 32) : (StableHlo.TRef.of main_arg0 a b d : StableHlo.TRef sig ⟨S128x1, .i32⟩).toBuf (Val := Elt Ideal) x = x := rfl

theorem resh_call1 (a b d a' b' d' h) (x : IVec S128x1 32) :
    (StableHlo.TRef.of main_call1_v5 a b d : StableHlo.TRef sig ⟨S128x1x1, .i32⟩).ofBuf (Val := Elt Ideal)
      (fun i => shapeCast main_call1_v5.ty.shape
        ((StableHlo.TRef.of main_call1_v4 a' b' d' : StableHlo.TRef sig ⟨S128x1, .i32⟩).toBuf (Val := Elt Ideal) x) h i)
      = shapeCast S128x1x1 x shapeCasts_S128x1_S128x1x1 := rfl

/-- The prediction at the current category. -/
def kv16T (zarg0 : IVec S128x1 32) (zarg1 : FVec Ideal S128x100000 .f32) : FVec Ideal S128x1 .f32 :=
  let zcall1_c := constantI S_ 32 0#32
  let zcall1_v0 := broadcastInDim S128x1 ![] bcast_S_S128x1 zcall1_c
  let zcall1_v1 := cmpi .slt zarg0 zcall1_v0
  let zcall1_c_0 := constantI S_ 32 100000#32
  let zcall1_v2 := broadcastInDim S128x1 ![] bcast_S_S128x1 zcall1_c_0
  let zcall1_v3 := addi zarg0 zcall1_v2
  let zcall1_v4 := select zcall1_v1 zcall1_v3 zarg0
  let zcall1_v5 := shapeCast S128x1x1 zcall1_v4 shapeCasts_S128x1_S128x1x1
  let zcall1_c_1 := constantI S1 32 99999#32
  let zcall1_c_2 := constantI S_ 32 0#32
  let zcall1_v6 := broadcastInDim S128x1x1 ![] bcast_S_S128x1x1 zcall1_c_2
  let zcall1_v7 := cmpi .sge zcall1_v5 zcall1_v6
  let zcall1_v8 := broadcastInDim S1x1x1 ![2] bcast_S1_S1x1x1_2 zcall1_c_1
  let zcall1_v9 := broadcastInDim S128x1x1 ![0, 1, 2] bcast_S1x1x1_S128x1x1_0_1_2 zcall1_v8
  let zcall1_v10 := cmpi .sle zcall1_v5 zcall1_v9
  let zcall1_v11 := andi zcall1_v7 zcall1_v10
  let zcall1_c_3 := constantI S_ 1 1#1
  let zcall1_v12 := Host.reduce IntOp.andi zcall1_v11 zcall1_c_3 reducesTo_S128x1x1_S128x1_d2 h_S_
  let zcall1_v13 := Host.gather gather_S128x100000_S128x1x1_S128x1_n_1_0_0_1_2_11 zarg1 zcall1_v5
  let zcall1_cst := constant (F := Ideal) S_ .f32 0x7FC00000#32
  let zcall1_v14 := broadcastInDim S128x1 ![] bcast_S_S128x1 zcall1_cst
  let zv16 : FVec Ideal S128x1 .f32 := select zcall1_v12 zcall1_v13 zcall1_v14
  zv16

set_option maxHeartbeats 1000000 in
set_option maxRecDepth 100000 in
theorem kv16T_eq : W4 m c (Proc.devRef .tc main_v16) = kv16T (W3 m c (Proc.devRef .tc main_arg0)) (W3 m c (Proc.devRef .tc main_arg1)) := by
  unfold W4
  after_reads_simp
  simp only [StableHlo.TRef.ofBuf_toBuf]
  erw [resh_call1]
  rw [toBuf_v16, ofBuf_arg0, ofBuf_arg1]
  simp only [kv16T]

theorem ofBuf_v17 (a b d) (x : FVec Ideal S128x1 .f32) : (StableHlo.TRef.of main_v17 a b d : StableHlo.TRef sig ⟨S128x1, .f32⟩).ofBuf (Val := Elt Ideal) x = x := rfl

theorem toBuf_v17 (a b d) (x : FVec Ideal S128x1 .f32) : (StableHlo.TRef.of main_v17 a b d : StableHlo.TRef sig ⟨S128x1, .f32⟩).toBuf (Val := Elt Ideal) x = x := rfl

theorem ofBuf_arg6 (a b d) (x : FVec Ideal S128x100000 .f32) : (StableHlo.TRef.of main_arg6 a b d : StableHlo.TRef sig ⟨S128x100000, .f32⟩).ofBuf (Val := Elt Ideal) x = x := rfl

theorem toBuf_arg6 (a b d) (x : FVec Ideal S128x100000 .f32) : (StableHlo.TRef.of main_arg6 a b d : StableHlo.TRef sig ⟨S128x100000, .f32⟩).toBuf (Val := Elt Ideal) x = x := rfl

theorem resh_call2 (a b d a' b' d' h) (x : IVec S128x1 32) :
    (StableHlo.TRef.of main_call2_v5 a b d : StableHlo.TRef sig ⟨S128x1x1, .i32⟩).ofBuf (Val := Elt Ideal)
      (fun i => shapeCast main_call2_v5.ty.shape
        ((StableHlo.TRef.of main_call2_v4 a' b' d' : StableHlo.TRef sig ⟨S128x1, .i32⟩).toBuf (Val := Elt Ideal) x) h i)
      = shapeCast S128x1x1 x shapeCasts_S128x1_S128x1x1 := rfl

/-- The uniform number at the current category. -/
def kv17T (zarg0 : IVec S128x1 32) (zarg6 : FVec Ideal S128x100000 .f32) : FVec Ideal S128x1 .f32 :=
  let zcall2_c := constantI S_ 32 0#32
  let zcall2_v0 := broadcastInDim S128x1 ![] bcast_S_S128x1 zcall2_c
  let zcall2_v1 := cmpi .slt zarg0 zcall2_v0
  let zcall2_c_0 := constantI S_ 32 100000#32
  let zcall2_v2 := broadcastInDim S128x1 ![] bcast_S_S128x1 zcall2_c_0
  let zcall2_v3 := addi zarg0 zcall2_v2
  let zcall2_v4 := select zcall2_v1 zcall2_v3 zarg0
  let zcall2_v5 := shapeCast S128x1x1 zcall2_v4 shapeCasts_S128x1_S128x1x1
  let zcall2_c_1 := constantI S1 32 99999#32
  let zcall2_c_2 := constantI S_ 32 0#32
  let zcall2_v6 := broadcastInDim S128x1x1 ![] bcast_S_S128x1x1 zcall2_c_2
  let zcall2_v7 := cmpi .sge zcall2_v5 zcall2_v6
  let zcall2_v8 := broadcastInDim S1x1x1 ![2] bcast_S1_S1x1x1_2 zcall2_c_1
  let zcall2_v9 := broadcastInDim S128x1x1 ![0, 1, 2] bcast_S1x1x1_S128x1x1_0_1_2 zcall2_v8
  let zcall2_v10 := cmpi .sle zcall2_v5 zcall2_v9
  let zcall2_v11 := andi zcall2_v7 zcall2_v10
  let zcall2_c_3 := constantI S_ 1 1#1
  let zcall2_v12 := Host.reduce IntOp.andi zcall2_v11 zcall2_c_3 reducesTo_S128x1x1_S128x1_d2 h_S_
  let zcall2_v13 := Host.gather gather_S128x100000_S128x1x1_S128x1_n_1_0_0_1_2_11 zarg6 zcall2_v5
  let zcall2_cst := constant (F := Ideal) S_ .f32 0x7FC00000#32
  let zcall2_v14 := broadcastInDim S128x1 ![] bcast_S_S128x1 zcall2_cst
  let zv17 : FVec Ideal S128x1 .f32 := select zcall2_v12 zcall2_v13 zcall2_v14
  zv17

set_option maxHeartbeats 1000000 in
set_option maxRecDepth 100000 in
theorem kv17T_eq : W5 m c (Proc.devRef .tc main_v17) = kv17T (W4 m c (Proc.devRef .tc main_arg0)) (W4 m c (Proc.devRef .tc main_arg6)) := by
  unfold W5
  after_reads_simp
  simp only [StableHlo.TRef.ofBuf_toBuf]
  erw [resh_call2]
  rw [toBuf_v17, ofBuf_arg0, ofBuf_arg6]
  simp only [kv17T]

/-- Its Gumbel noise. -/
def kv21T (zv17 : FVec Ideal S128x1 .f32) : FVec Ideal S128x1 .f32 :=
  let zv18 := Host.log zv17
  let zv19 := Host.negf zv18
  let zv20 := Host.log zv19
  let zv21 : FVec Ideal S128x1 .f32 := Host.negf zv20
  zv21

set_option maxHeartbeats 1000000 in
set_option maxRecDepth 100000 in
theorem kv21T_eq : W6 m c (Proc.devRef .tc main_v21) = kv21T (W5 m c (Proc.devRef .tc main_v17)) := by
  unfold W6
  after_reads_simp
  rfl

/-- The backward rate. -/
def kv27T (zarg4 : IVec S_ 32) (zarg5 : FVec Ideal S1 .f32) (zv16 : FVec Ideal S128x1 .f32) : FVec Ideal S128x1 .f32 :=
  let zv22 := sitofp (F := Ideal) .f32 zarg4
  let zv23 := broadcastInDim S1 ![] bcast_S_S1 zv22
  let zv24 := mulf zarg5 zv23
  let zv25 := broadcastInDim S1x1 ![1] bcast_S1_S1x1_1 zv24
  let zv26 := broadcastInDim S128x1 ![0, 1] bcast_S1x1_S128x1_0_1 zv25
  let zv27 : FVec Ideal S128x1 .f32 := mulf zv26 zv16
  zv27

set_option maxHeartbeats 1000000 in
set_option maxRecDepth 100000 in
theorem kv27T_eq : W6 m c (Proc.devRef .tc main_v27) = kv27T (W5 m c (Proc.devRef .tc main_arg4)) (W5 m c (Proc.devRef .tc main_arg5)) (W5 m c (Proc.devRef .tc main_v16)) := by
  unfold W6
  after_reads_simp
  rfl

/-- The candidates' indices. -/
def kv28T (zarg6 : FVec Ideal S128x100000 .f32) : IVec S128x128 32 :=
  let zindices := (Host.topK S128x129 1 (FloatOps.cmpfTotal .gt) zarg6 sliceFits_S128x100000_S128x129).2
  let zv28 : IVec S128x128 32 := (extractStridedSlice S128x128 ![0, 0] · slices_S128x129_S128x128_0_0) zindices
  zv28

set_option maxHeartbeats 1000000 in
set_option maxRecDepth 100000 in
theorem kv28T_eq : W6 m c (Proc.devRef .tc main_v28) = kv28T (W5 m c (Proc.devRef .tc main_arg6)) := by
  unfold W6
  after_reads_simp
  simp only [kv28T]

/-- The candidates' uniform numbers. -/
def kv29T (zarg6 : FVec Ideal S128x100000 .f32) : FVec Ideal S128x128 .f32 :=
  let zvalues := (Host.topK S128x129 1 (FloatOps.cmpfTotal .gt) zarg6 sliceFits_S128x100000_S128x129).1
  let zv29 : FVec Ideal S128x128 .f32 := (extractStridedSlice S128x128 ![0, 0] · slices_S128x129_S128x128_0_0) zvalues
  zv29

set_option maxHeartbeats 1000000 in
set_option maxRecDepth 100000 in
theorem kv29T_eq : W6 m c (Proc.devRef .tc main_v29) = kv29T (W5 m c (Proc.devRef .tc main_arg6)) := by
  unfold W6
  after_reads_simp
  simp only [kv29T]

/-- The largest uniform number that is no candidate's. -/
def kv30T (zarg6 : FVec Ideal S128x100000 .f32) : FVec Ideal S128x1 .f32 :=
  let zvalues := (Host.topK S128x129 1 (FloatOps.cmpfTotal .gt) zarg6 sliceFits_S128x100000_S128x129).1
  let zv30 : FVec Ideal S128x1 .f32 := (extractStridedSlice S128x1 ![0, 128] · slices_S128x129_S128x1_0_128) zvalues
  zv30

set_option maxHeartbeats 1000000 in
set_option maxRecDepth 100000 in
theorem kv30T_eq : W6 m c (Proc.devRef .tc main_v30) = kv30T (W5 m c (Proc.devRef .tc main_arg6)) := by
  unfold W6
  after_reads_simp
  simp only [kv30T]

theorem ofBuf_v31 (a b d) (x : FVec Ideal S128x128 .f32) : (StableHlo.TRef.of main_v31 a b d : StableHlo.TRef sig ⟨S128x128, .f32⟩).ofBuf (Val := Elt Ideal) x = x := rfl

theorem toBuf_v31 (a b d) (x : FVec Ideal S128x128 .f32) : (StableHlo.TRef.of main_v31 a b d : StableHlo.TRef sig ⟨S128x128, .f32⟩).toBuf (Val := Elt Ideal) x = x := rfl

theorem ofBuf_v28 (a b d) (x : IVec S128x128 32) : (StableHlo.TRef.of main_v28 a b d : StableHlo.TRef sig ⟨S128x128, .i32⟩).ofBuf (Val := Elt Ideal) x = x := rfl

theorem toBuf_v28 (a b d) (x : IVec S128x128 32) : (StableHlo.TRef.of main_v28 a b d : StableHlo.TRef sig ⟨S128x128, .i32⟩).toBuf (Val := Elt Ideal) x = x := rfl

theorem resh_call3 (a b d a' b' d' h) (x : IVec S128x128 32) :
    (StableHlo.TRef.of main_call3_v5 a b d : StableHlo.TRef sig ⟨S128x128x1, .i32⟩).ofBuf (Val := Elt Ideal)
      (fun i => shapeCast main_call3_v5.ty.shape
        ((StableHlo.TRef.of main_call3_v4 a' b' d' : StableHlo.TRef sig ⟨S128x128, .i32⟩).toBuf (Val := Elt Ideal) x) h i)
      = shapeCast S128x128x1 x shapeCasts_S128x128_S128x128x1 := rfl

/-- The predictions at the candidates. -/
def kv31T (zv28 : IVec S128x128 32) (zarg1 : FVec Ideal S128x100000 .f32) : FVec Ideal S128x128 .f32 :=
  let zcall3_c := constantI S_ 32 0#32
  let zcall3_v0 := broadcastInDim S128x128 ![] bcast_S_S128x128 zcall3_c
  let zcall3_v1 := cmpi .slt zv28 zcall3_v0
  let zcall3_c_0 := constantI S_ 32 100000#32
  let zcall3_v2 := broadcastInDim S128x128 ![] bcast_S_S128x128 zcall3_c_0
  let zcall3_v3 := addi zv28 zcall3_v2
  let zcall3_v4 := select zcall3_v1 zcall3_v3 zv28
  let zcall3_v5 := shapeCast S128x128x1 zcall3_v4 shapeCasts_S128x128_S128x128x1
  let zcall3_c_1 := constantI S1 32 99999#32
  let zcall3_c_2 := constantI S_ 32 0#32
  let zcall3_v6 := broadcastInDim S128x128x1 ![] bcast_S_S128x128x1 zcall3_c_2
  let zcall3_v7 := cmpi .sge zcall3_v5 zcall3_v6
  let zcall3_v8 := broadcastInDim S1x1x1 ![2] bcast_S1_S1x1x1_2 zcall3_c_1
  let zcall3_v9 := broadcastInDim S128x128x1 ![0, 1, 2] bcast_S1x1x1_S128x128x1_0_1_2 zcall3_v8
  let zcall3_v10 := cmpi .sle zcall3_v5 zcall3_v9
  let zcall3_v11 := andi zcall3_v7 zcall3_v10
  let zcall3_c_3 := constantI S_ 1 1#1
  let zcall3_v12 := Host.reduce IntOp.andi zcall3_v11 zcall3_c_3 reducesTo_S128x128x1_S128x128_d2 h_S_
  let zcall3_v13 := Host.gather gather_S128x100000_S128x128x1_S128x128_n_1_0_0_1_2_11 zarg1 zcall3_v5
  let zcall3_cst := constant (F := Ideal) S_ .f32 0x7FC00000#32
  let zcall3_v14 := broadcastInDim S128x128 ![] bcast_S_S128x128 zcall3_cst
  let zv31 : FVec Ideal S128x128 .f32 := select zcall3_v12 zcall3_v13 zcall3_v14
  zv31

set_option maxHeartbeats 1000000 in
set_option maxRecDepth 100000 in
theorem kv31T_eq : W7 m c (Proc.devRef .tc main_v31) = kv31T (W6 m c (Proc.devRef .tc main_v28)) (W6 m c (Proc.devRef .tc main_arg1)) := by
  unfold W7
  after_reads_simp
  simp only [StableHlo.TRef.ofBuf_toBuf]
  erw [resh_call3]
  rw [toBuf_v31, ofBuf_v28, ofBuf_arg1]
  simp only [kv31T]

end Cert.KerValues

end
-- ==== Proof.KerVals1.lean ====
module

public import proofs.«01_k».proof.Proof.RowSpec
public import proofs.«01_k».proof.Proof.KerHost1
public import Idealize.ShloMosaic.Lib.SortFacts
public import proofs.«01_k».proof.Proof.IdxFacts
public import proofs.«01_k».proof.Proof.Coef

@[expose] public section

set_option maxRecDepth 16384

noncomputable section

namespace Cert.KerValues

open Cert.KernelIdeal hiding ix2
open Cert.KernelIdeal.Run Cert.KernelIdeal.Gen Cert.RowSpec
open Idealize.ShloMosaic.Routing
open Idealize.ShloMosaic Idealize.ShloMosaic.TcCoe Idealize.ShloMosaic.Tactic

/-! # The candidates: the columns of the largest uniform numbers -/

/-- The column at place `k` of a row's columns, the largest first. -/
def ordRow {C : ℕ} {α : Type} (gt : α → α → BitVec 1) (f : Fin C → α) : Fin C → Fin C := sortedFrom fun k k' => gt (f k) (f k') == 1#1

theorem topK_at {R C N : ℕ} {α : Type} (gt : α → α → BitVec 1) (x : (shape2 R C).Idx → α) (h) (i : Fin R) (q : Fin N) (hq : q.val < C) :
    (Host.topK (shape2 R N) 1 gt x h).1 (ix2 i q) = x (ix2 i (ordRow gt (fun k => x (ix2 i k)) ⟨q, hq⟩)) ∧
    (Host.topK (shape2 R N) 1 gt x h).2 (ix2 i q) = BitVec.ofNat 32 (ordRow gt (fun k => x (ix2 i k)) ⟨q, hq⟩).val := by
  have hd : (1 : ℕ) < (shape2 R C).rank := by show 1 < 2; decide
  have hal : ∀ (q : Fin C) (k : Fin C), Shape.Idx.along (s := shape2 R C) (ix2 i q) ⟨1, hd⟩ k = ix2 i k := fun q k => by
    funext a
    match a with
    | ⟨0, _⟩ => exact Function.update_of_ne (Fin.ne_of_val_ne Nat.zero_ne_one) _ _
    | ⟨1, _⟩ => exact Function.update_self _ _ _
  have hix : (fun a => ⟨(fun _ => 0 : Fin (shape2 R C).rank → ℕ) a + ((ix2 i q : (shape2 R N).Idx) (a.cast h.1.symm)).val,
      Nat.lt_of_lt_of_le (Nat.add_lt_add_left ((ix2 i q : (shape2 R N).Idx) _).isLt _) (h.2 a)⟩ : (shape2 R C).Idx) = ix2 i ⟨q, hq⟩ := by
    funext a
    apply Fin.ext
    match a with
    | ⟨0, _⟩ => exact Nat.zero_add _
    | ⟨1, _⟩ => exact Nat.zero_add _
  unfold Host.topK Host.sort2
  simp only [dif_pos hd]
  unfold extractStridedSlice
  simp only [hix]
  have hf : (fun k k' : Fin C => gt (x (Shape.Idx.along (s := shape2 R C) (ix2 i ⟨q, hq⟩) ⟨1, hd⟩ k))
      (x (Shape.Idx.along (s := shape2 R C) (ix2 i ⟨q, hq⟩) ⟨1, hd⟩ k')) == 1#1) = fun k k' => gt (x (ix2 i k)) (x (ix2 i k')) == 1#1 := by
    funext k k'
    rw [hal, hal]
  constructor
  · refine (congrArg x (hal _ _)).trans ?_
    exact congrArg x (congrArg (ix2 i) (congr (congrArg (fun B j => sortedFrom B j) hf) (Fin.ext (Nat.zero_add _))))
  · refine (congrArg (iotaInDim (shape2 R C) 32 ⟨1, hd⟩) (hal _ _)).trans ?_
    exact congrArg (fun z : Fin C => BitVec.ofNat 32 z.val) (congr (congrArg (fun B j => sortedFrom B j) hf) (Fin.ext (Nat.zero_add _)))

/-- The order of the columns by descending number. -/
def ordU {C : ℕ} (f : Fin C → EReal) : Fin C → Fin C := ordRow (FloatOps.cmpfTotal (F := Ideal) (φ := .f32) .gt) f

theorem gt_iff (a b : EReal) : ((FloatOps.cmpfTotal (F := Ideal) (φ := .f32) .gt) a b == 1#1) = decide (b < a) := by
  show (BitVec.ofBool (decide (b < a)) == 1#1) = _
  by_cases h : b < a <;> simp [h]

theorem ordU_inj {C : ℕ} (f : Fin C → EReal) : Function.Injective (ordU f) := sortedFrom_injective _

theorem ordU_le {C : ℕ} (f : Fin C → EReal) (i j : Fin C) (h : i ≤ j) : f (ordU f j) ≤ f (ordU f i) := by
  rcases h.lt_or_eq with h | rfl
  · have := sortedFrom_noInversion (fun k k' => (FloatOps.cmpfTotal (F := Ideal) (φ := .f32) .gt) (f k) (f k') == 1#1)
      (fun k k' => (FloatOps.cmpfTotal (F := Ideal) (φ := .f32) .gt) (f k) (f k') == 1#1) ?_ ?_ ?_ i j h
    · rw [gt_iff] at this
      exact not_lt.1 (of_decide_eq_false this)
    · intro a b h
      rw [gt_iff] at *
      exact decide_eq_false (not_lt.2 (of_decide_eq_true h).le)
    · exact fun a b h => h
    · intro a b d h h'
      rw [gt_iff] at *
      exact decide_eq_false (not_lt.2 ((not_lt.1 (of_decide_eq_false h)).trans (not_lt.1 (of_decide_eq_false h'))))
  · exact le_rfl

/-- The candidates of a row. -/
def candIdx (f : Fin 100000 → EReal) (q : Fin 128) : Fin 100000 := ordU f ⟨q.val, lt_trans q.isLt (by norm_num)⟩
/-- The next number in order. -/
def nextU (f : Fin 100000 → EReal) : EReal := f (ordU f ⟨128, by norm_num⟩)

theorem nextU_le (f : Fin 100000 → EReal) (j : Fin 100000) (h : ∀ q, candIdx f q ≠ j) : f j ≤ nextU f := by
  obtain ⟨p, hp⟩ := sortedFrom_surjective (fun k k' => (FloatOps.cmpfTotal (F := Ideal) (φ := .f32) .gt) (f k) (f k') == 1#1) j
  have hp : ordU f p = j := hp
  subst hp
  refine ordU_le f _ _ ?_
  by_contra hc
  have hc : p.val < 128 := by
    have := not_le.1 hc
    exact this
  exact h ⟨p.val, hc⟩ rfl

theorem kv28T_at (u : FVec Ideal S128x100000 .f32) (i q : Fin 128) : kv28T u (ix2 i q) = BitVec.ofNat 32 (candIdx (fun k => u (ix2 i k)) q).val := by
  have hq : q.val < 129 := by omega
  have e : (fun a => ⟨(![0, 0] : Fin 2 → ℕ) a + ((ix2 i q : (shape2 128 128).Idx) a).val,
      Nat.lt_of_lt_of_le (Nat.add_lt_add_left ((ix2 i q : (shape2 128 128).Idx) _).isLt _) (slices_S128x129_S128x128_0_0.2 a)⟩ : (shape2 128 129).Idx) = ix2 i ⟨q.val, hq⟩ := by
    funext a
    apply Fin.ext
    match a with
    | ⟨0, _⟩ => exact Nat.zero_add _
    | ⟨1, _⟩ => exact Nat.zero_add _
  unfold kv28T
  have hq2 : q.val < 100000 := lt_trans hq (by norm_num)
  have T := (topK_at (R := 128) (C := 100000) (N := 129) (FloatOps.cmpfTotal (F := Ideal) (φ := .f32) .gt) u sliceFits_S128x100000_S128x129 i ⟨q.val, hq⟩ hq2).2
  rw [← e] at T
  exact T

theorem kv29T_at (u : FVec Ideal S128x100000 .f32) (i q : Fin 128) : kv29T u (ix2 i q) = u (ix2 i (candIdx (fun k => u (ix2 i k)) q)) := by
  have hq : q.val < 129 := by omega
  have e : (fun a => ⟨(![0, 0] : Fin 2 → ℕ) a + ((ix2 i q : (shape2 128 128).Idx) a).val,
      Nat.lt_of_lt_of_le (Nat.add_lt_add_left ((ix2 i q : (shape2 128 128).Idx) _).isLt _) (slices_S128x129_S128x128_0_0.2 a)⟩ : (shape2 128 129).Idx) = ix2 i ⟨q.val, hq⟩ := by
    funext a
    apply Fin.ext
    match a with
    | ⟨0, _⟩ => exact Nat.zero_add _
    | ⟨1, _⟩ => exact Nat.zero_add _
  unfold kv29T
  have hq2 : q.val < 100000 := lt_trans hq (by norm_num)
  have T := (topK_at (R := 128) (C := 100000) (N := 129) (FloatOps.cmpfTotal (F := Ideal) (φ := .f32) .gt) u sliceFits_S128x100000_S128x129 i ⟨q.val, hq⟩ hq2).1
  rw [← e] at T
  exact T

theorem kv30T_at (u : FVec Ideal S128x100000 .f32) (i : Fin 128) : kv30T u (ix2 i 0) = nextU (fun k => u (ix2 i k)) := by
  have hq : 128 < 129 := by omega
  have e : (fun a => ⟨(![0, 128] : Fin 2 → ℕ) a + ((ix2 i 0 : (shape2 128 1).Idx) a).val,
      Nat.lt_of_lt_of_le (Nat.add_lt_add_left ((ix2 i 0 : (shape2 128 1).Idx) _).isLt _) (slices_S128x129_S128x1_0_128.2 a)⟩ : (shape2 128 129).Idx) = ix2 i ⟨128, hq⟩ := by
    funext a
    apply Fin.ext
    match a with
    | ⟨0, _⟩ => exact Nat.zero_add _
    | ⟨1, _⟩ => rfl
  unfold kv30T
  refine Eq.trans ?_ (topK_at (R := 128) (C := 100000) (N := 129) (FloatOps.cmpfTotal (F := Ideal) (φ := .f32) .gt) u sliceFits_S128x100000_S128x129 i ⟨128, hq⟩ (by show 128 < 100000; omega)).1
  rw [← e]
  rfl

/-! ## The other buffers -/

theorem kv16T_at (a0 : IVec S128x1 32) (a1 : FVec Ideal S128x100000 .f32) (X : Fin 128 → Fin 100000)
    (h : ∀ i, a0 (ix2 i 0) = BitVec.ofNat 32 (X i)) (i : Fin 128) : kv16T a0 a1 (ix2 i 0) = a1 (ix2 i (X i)) := by
  have hX := (X i).isLt
  unfold kv16T
  pointwise []
  rw [fold_one _ (by rw [h, wrap_word (by omega), word_in hX])]
  show Host.gather _ _ _ _ = _
  refine gather_along _ rfl rfl rfl rfl rfl rfl _ _ i 0 (X i) ?_ (by omega)
  pointwise []
  rw [h, wrap_word (by omega)]

theorem kv17T_at (a0 : IVec S128x1 32) (a1 : FVec Ideal S128x100000 .f32) (X : Fin 128 → Fin 100000)
    (h : ∀ i, a0 (ix2 i 0) = BitVec.ofNat 32 (X i)) (i : Fin 128) : kv17T a0 a1 (ix2 i 0) = a1 (ix2 i (X i)) := by
  have hX := (X i).isLt
  unfold kv17T
  pointwise []
  rw [fold_one _ (by rw [h, wrap_word (by omega), word_in hX])]
  show Host.gather _ _ _ _ = _
  refine gather_along _ rfl rfl rfl rfl rfl rfl _ _ i 0 (X i) ?_ (by omega)
  pointwise []
  rw [h, wrap_word (by omega)]

theorem kv31T_at (a0 : IVec S128x128 32) (a1 : FVec Ideal S128x100000 .f32) (X : Fin 128 → Fin 128 → Fin 100000)
    (h : ∀ i k, a0 (ix2 i k) = BitVec.ofNat 32 (X i k)) (i k : Fin 128) : kv31T a0 a1 (ix2 i k) = a1 (ix2 i (X i k)) := by
  have hX := (X i k).isLt
  unfold kv31T
  pointwise []
  rw [fold_one _ (by rw [h, wrap_word (by omega), word_in hX])]
  show Host.gather _ _ _ _ = _
  refine gather_along _ rfl rfl rfl rfl rfl rfl _ _ i k (X i k) ?_ (by omega)
  pointwise []
  rw [h, wrap_word (by omega)]

theorem kv15T_at (z z4 : FVec Ideal S1 .f32) (a4 : IVec S_ 32) (a3 a5 : FVec Ideal S1 .f32)
    (hz : z (ix1 0) = (1 : EReal)) (hz4 : z4 (ix1 0) = max (Ideal.ofBits .f32 953267991#32) (1 - a3 (ix1 0) : EReal)) :
    kv15T z z4 a4 a3 a5 (ix1 0) = cfE (a3 (ix1 0)) (a5 (ix1 0)) (a4 ix0) := by
  have e : id (addf (constant (F := Ideal) S_ .f32 1065353216#32) (sitofp .f32 a4)) ix0 = (1 + (((a4 ix0).toInt : ℝ) : EReal) : EReal) := by
    show addf (constant (F := Ideal) S_ .f32 1065353216#32) (sitofp .f32 a4) ix0 = _
    pointwise []
    rfl
  pointwise [kv15T]
  rw [e, hz, hz4]
  rfl

theorem kv3T_at (a : FVec Ideal S1 .f32) : kv3T a (ix1 0) = max (Ideal.ofBits .f32 953267991#32) (1 - a (ix1 0) : EReal) := by
  pointwise [kv3T]
  rfl

theorem kv2T_at : kv2T (ix1 0) = (1 : EReal) := by
  pointwise [kv2T]

theorem kv21T_at (a : FVec Ideal S128x1 .f32) (i : Fin 128) : kv21T a (ix2 i 0) = gum (a (ix2 i 0)) := by
  pointwise [kv21T]
  unfold gum
  rw [zero_sub, zero_sub]

theorem kv27T_at (a4 : IVec S_ 32) (a5 : FVec Ideal S1 .f32) (a : FVec Ideal S128x1 .f32) (i : Fin 128) :
    kv27T a4 a5 a (ix2 i 0) = bE (a5 (ix1 0)) (a4 ix0) (a (ix2 i 0)) := by
  pointwise [kv27T]
  rfl

end Cert.KerValues

end
-- ==== Proof.Payloads.lean ====
module

public import proofs.«01_k».proof.Proof.RowSpec
public import proofs.«01_k».proof.Proof.Region0
public import proofs.«01_k».proof.Proof.Region1
public import proofs.«01_k».proof.Proof.Region2
public import proofs.«01_k».proof.Proof.Region3
public import proofs.«01_k».proof.Proof.Region4
public import Idealize.ShloMosaic.Lib.Pointwise
public import Idealize.ShloMosaic.Lib.Pipeline.ValueKit

@[expose] public section

set_option maxRecDepth 16384

noncomputable section

namespace Cert.KerValues

open Cert.KernelIdeal hiding ix2
open Cert.KernelIdeal.Run Cert.KernelIdeal.Gen Cert.RowSpec
open Idealize.ShloMosaic Idealize.ShloMosaic.TcCoe Idealize.ShloMosaic.Tactic

/-! # The calls' bodies, read at a row -/

theorem neg_inf : Ideal.ofBits .f32 4286578688#32 = ⊥ := by
  have h1 : (BitVec.extractLsb' 23 8 4286578688#32).toNat = 255 := by decide
  have h2 : (BitVec.extractLsb' 0 23 4286578688#32).toNat = 0 := by decide
  have h3 : (BitVec.extractLsb' 31 1 4286578688#32 == 1#1) = true := by decide
  simp only [Ideal.ofBits, Ideal.ieee, Nat.reduceAdd, h1, h2, h3]
  norm_num

theorem word_eq (a b : Fin 100000) : IntOp.cmpi .eq (BitVec.ofNat 32 a) (BitVec.ofNat 32 b) = BitVec.ofBool (decide (a = b)) := by
  show BitVec.ofBool (BitVec.ofNat 32 a == BitVec.ofNat 32 b) = _
  congr 1
  rw [beq_eq_decide]
  refine decide_eq_decide.mpr ⟨fun h => ?_, fun h => by rw [h]⟩
  have := congrArg BitVec.toInt h
  rw [toInt_small a.2, toInt_small b.2] at this
  exact Fin.ext (by exact_mod_cast this)

/-- The mask of the current category: no column lies past the row's end. -/
theorem mask_sel {α : Type} (k X : Fin 100000) (a b : α) :
    Scalar.select (IntOp.ori (IntOp.cmpi .eq (BitVec.ofNat 32 k) (BitVec.ofNat 32 X)) (IntOp.cmpi .sge (BitVec.ofNat 32 k) 100000#32)) a b
      = if k = X then a else b := by
  have h : IntOp.cmpi .sge (BitVec.ofNat 32 k) 100000#32 = 0#1 := by
    show BitVec.ofBool ((100000#32 : BitVec 32).sle (BitVec.ofNat 32 k)) = _
    rw [BitVec.sle_eq_decide, toInt_small k.2]
    have : (100000#32 : BitVec 32).toInt = 100000 := by decide
    rw [this, decide_eq_false (by have := k.2; omega)]; rfl
  rw [h, word_eq]
  by_cases e : k = X <;> simp [e, Scalar.select, IntOp.ori]

/-- The indicator of an index. -/
def hot (s k : Fin 100000) : EReal := if k = s then 1 else 0

theorem hot_word (k s : Fin 100000) :
    FloatOps.sitofp (F := Ideal) .f32 (BitVec.setWidth 32 (IntOp.cmpi .eq (BitVec.ofNat 32 k) (BitVec.ofNat 32 s))) = hot s k := by
  rw [word_eq]
  unfold hot
  by_cases e : k = s
  · simp only [e, decide_true, if_true]
    show (((BitVec.setWidth 32 (BitVec.ofBool true)).toInt : ℝ) : EReal) = 1
    have : (BitVec.setWidth 32 (BitVec.ofBool true)).toInt = 1 := by decide
    rw [this]; norm_num
  · simp only [e, decide_false, if_false]
    show (((BitVec.setWidth 32 (BitVec.ofBool false)).toInt : ℝ) : EReal) = 0
    have : (BitVec.setWidth 32 (BitVec.ofBool false)).toInt = 0 := by decide
    rw [this]; norm_num

/-- The one-hot calls, at an element. -/
theorem pay3_at (x : Vec Ideal S16x1 .i32) (r : Fin 16) (k s : Fin 100000) (h : x (ix2 r 0) = BitVec.ofNat 32 s) :
    out3_1 (F := Ideal) x (ix2 r k) = hot s k := by
  unfold out3_1
  frame_out
  pointwise [k3_pay1]
  rw [h]; exact hot_word k s

theorem pay4_at (x : Vec Ideal S16x1 .i32) (r : Fin 16) (k s : Fin 100000) (h : x (ix2 r 0) = BitVec.ofNat 32 s) :
    out4_1 (F := Ideal) x (ix2 r k) = hot s k := by
  unfold out4_1
  frame_out
  pointwise [k4_pay1]
  rw [h]; exact hot_word k s

set_option maxHeartbeats 2000000 in
/-- The whole row's call, at an element: the indicator of the row's least index of the largest score. -/
theorem pay1_at (x0 : Vec Ideal S16x1 .i32) (x1 x2 : Vec Ideal S16x1 .f32) (x3 : Vec Ideal S1 .f32) (x4 x5 : Vec Ideal S16x100000 .f32)
    (r : Fin 16) (X : Fin 100000) (hX : x0 (ix2 r 0) = BitVec.ofNat 32 X) (hg : x2 (ix2 r 0) = gum (x5 (ix2 r X))) :
    ∃ s, Best (score (x3 idx0_S1) (x1 (ix2 r 0)) (fun k => x4 (ix2 r k)) (fun k => x5 (ix2 r k)) X) s ∧
      ∀ k, out1_6 (F := Ideal) x0 x1 x2 x3 x4 x5 (ix2 r k) = hot s k := by
  set f := others (x3 idx0_S1) (x1 (ix2 r 0)) (fun k => x4 (ix2 r k)) (fun k => x5 (ix2 r k)) X with hf
  obtain ⟨t, h1, h2, h3⟩ := fold_arg f (fun k => BitVec.ofNat 32 k) id (fun _ => rfl)
  obtain ⟨s, hs, hp⟩ := pick_best (x3 idx0_S1) (x1 (ix2 r 0)) (fun k => x4 (ix2 r k)) (fun k => x5 (ix2 r k)) X t
    (fun j => ⟨(le_fold_max f j).trans h1.ge, fun e => h3 j (e.trans h1)⟩)
  refine ⟨s, hs, fun k => ?_⟩
  refine Eq.trans ?_ (hot_word k s)
  rw [← hp, ← hf, h1]
  rw [show (BitVec.ofNat 32 (t : ℕ)) = BitVec.ofNat 32 (id t : Fin 100000) from rfl, ← h2, ← hg]
  unfold out1_6
  frame_out
  pointwise [k1_pay1, k1_pay2, k1_pay3, k1_pay4, k1_pay5, k1_pay6, k1_pay7]
  rw [hX]
  simp only [mask_sel, neg_inf]
  rfl

set_option maxHeartbeats 2000000 in
/-- The recomputing call, at a row: the choice between the current category and the best of the others. -/
theorem pay2_at (x0 : Vec Ideal S16x1 .i32) (x1 x2 x3 : Vec Ideal S16x1 .f32) (x4 : Vec Ideal S16x1 .i32) (x5 : Vec Ideal S1 .f32)
    (x6 : Vec Ideal S16x100000 .f32) (r : Fin 16) (X : Fin 100000) (hX : x0 (ix2 r 0) = BitVec.ofNat 32 X) :
    out2_7 (F := Ideal) x0 x1 x2 x3 x4 x5 x6 (ix2 r 0)
      = pick (BitVec.ofNat 32 X) (lgp (left (x5 idx0_S1) (x1 (ix2 r 0)) (fun k => x6 (ix2 r k)) X) + x2 (ix2 r 0))
          (x3 (ix2 r 0)) (x4 (ix2 r 0)) := by
  unfold out2_7
  frame_out
  pointwise [k2_pay1, k2_pay2, k2_pay3, k2_pay4, k2_pay5, k2_pay6]
  rw [hX]
  simp only [mask_sel, neg_inf]
  rfl

/-- A candidate's perturbed logarithm, as the candidate call computes it. -/
def candv (cf b : EReal) (xt ci : BitVec 32) (xc uc : EReal) : EReal :=
  Scalar.select (IntOp.cmpi .eq ci xt) ⊥ (lgp (prob cf xc b) + gum uc)

section
variable (x0 : Vec Ideal S128x1 .i32) (x1 x2 x3 : Vec Ideal S128x1 .f32) (x4 : Vec Ideal S1 .f32) (x5 : Vec Ideal S128x128 .i32)
  (x6 x7 : Vec Ideal S128x128 .f32)
/-- A row of candidates. -/
def candRow (r : Fin 128) (k : Fin 128) : EReal :=
  candv (x4 idx0_S1) (x1 (ix2 r 0)) (x0 (ix2 r 0)) (x5 (ix2 r k)) (x7 (ix2 r k)) (x6 (ix2 r k))

theorem pay08_at (r : Fin 128) : out0_8 (F := Ideal) x0 x1 x2 x3 x4 x5 x6 x7 (ix2 r 0)
    = Finset.univ.fold max ⊥ (candRow x0 x1 x4 x5 x6 x7 r) := by
  unfold out0_8
  frame_out
  unfold_payloads
  pointwise
  simp only [neg_inf]
  rfl
theorem pay09_at (r : Fin 128) : out0_9 (F := Ideal) x0 x1 x2 x3 x4 x5 x6 x7 (ix2 r 0)
    = Finset.univ.fold IntOp.minsi 2147483647#32 (fun j => if candRow x0 x1 x4 x5 x6 x7 r j
        = Finset.univ.fold max ⊥ (candRow x0 x1 x4 x5 x6 x7 r) then x5 (ix2 r j) else 2147483647#32) := by
  unfold out0_9
  frame_out
  unfold_payloads
  pointwise
  simp only [neg_inf]
  rfl
theorem pay11_at (r : Fin 128) : out0_11 (F := Ideal) x0 x1 x2 x3 x4 x5 x6 x7 (ix2 r 0)
    = BitVec.setWidth 32 (BitVec.ofBool (decide (gum (x3 (ix2 r 0)) + Ideal.ofBits .f32 953267991#32
        < Finset.univ.fold max ⊥ (candRow x0 x1 x4 x5 x6 x7 r)))) := by
  unfold out0_11
  frame_out
  unfold_payloads
  pointwise
  simp only [neg_inf]
  rfl
theorem pay10_at (r : Fin 128) : out0_10 (F := Ideal) x0 x1 x2 x3 x4 x5 x6 x7 (ix2 r 0)
    = BitVec.setWidth 32 (IntOp.andi (BitVec.ofBool (decide (gum (x3 (ix2 r 0)) + Ideal.ofBits .f32 953267991#32
        < Finset.univ.fold max ⊥ (candRow x0 x1 x4 x5 x6 x7 r))))
        (BitVec.ofBool (decide (gum (x2 (ix2 r 0)) < Finset.univ.fold max ⊥ (candRow x0 x1 x4 x5 x6 x7 r))))) := by
  unfold out0_10
  frame_out
  unfold_payloads
  pointwise
  simp only [neg_inf]
  rfl
end

end Cert.KerValues

end
-- ==== Proof.RegVals.lean ====
module

public import proofs.«01_k».proof.Proof.Payloads

@[expose] public section

set_option maxRecDepth 16384

noncomputable section

namespace Cert.KerValues

open Cert.KernelIdeal hiding ix2
open Cert.KernelIdeal.Run Cert.KernelIdeal.Gen Cert.RowSpec
open Idealize.ShloMosaic.Pipeline (Dat Cfg Window)
open Idealize.ShloMosaic Idealize.ShloMosaic.TcCoe Idealize.ShloMosaic.Tactic

/-! # The calls' results, read at an element -/

variable (V : (c : Dev nD) → (b : Ref sig .tc) → Buf (Elt Ideal) ((c : Thread nD τ).loc b))

/-- The indicators of one index per row. -/
def hots (s : Fin 128 → Fin 100000) : S128x100000.Idx → EReal := fun j => hot (s (j 0)) (j 1)

theorem idx3_0 : ∀ t : Fin cfg3.N, win3_0.index t = ![t.1, 0] := by decide +kernel
theorem idx3_1 : ∀ t : Fin cfg3.N, win3_1.index t = ![t.1, 0] := by decide +kernel
theorem ib3 (c : Dev nD) (t : Fin cfg3.N) (r : Fin 16) (i : Fin 128) (hi : (i : ℕ) = 16 * t.1 + r.1) :
    iblk3 V c 0 t (ix2 r 0) = V c (Pipeline.arrRef spec3 0) (ix2 i 0) := by
  blk_ext [iblk3, idx3_0 t]

theorem em3 (t : Fin cfg3.N) (r : Fin 16) (k : Fin 100000) (i : Fin 128) (hi : (i : ℕ) = 16 * t.1 + r.1) :
    (win3_1.blk t).view.emb (ix2 r k) = ix2 i k := by
  blk_ext [idx3_1 t]

/-- A row of a block of sixteen, as a row of the whole. -/
def rowOf (t : Fin 8) (r : Fin 16) : Fin 128 := ⟨16 * t.1 + r.1, by omega⟩

/-- A column of values, and of words. -/
def colE (f : Fin 128 → EReal) : S128x1.Idx → EReal := fun j => f (j 0)
def colW (f : Fin 128 → BitVec 32) : S128x1.Idx → BitVec 32 := fun j => f (j 0)

theorem arr3_at (c : Dev nD) (s : Fin 128 → Fin 100000)
    (h : ∀ i : Fin 128, V c (Pipeline.arrRef spec3 0) (ix2 i 0) = BitVec.ofNat 32 (s i)) :
    (dat3 V c).arrAt 1 cfg3.N = hots s := by
  refine (dat3 V c).arrAt_eq_of_covers 1 _ (by decide +kernel) fun t hf y => ?_
  blk_simp
  rw [after3_1]
  obtain ⟨r, k, rfl⟩ : ∃ (r : Fin 16) (k : Fin 100000), y = ix2 r k := ⟨y 0, y 1, eq_ix2 y⟩
  rw [em3 t r k (rowOf t r) rfl]
  exact pay3_at _ r k _ ((ib3 V c t r (rowOf t r) rfl).trans (h _))

theorem idx4_0 : ∀ t : Fin cfg4.N, win4_0.index t = ![t.1, 0] := by decide +kernel
theorem idx4_1 : ∀ t : Fin cfg4.N, win4_1.index t = ![t.1, 0] := by decide +kernel
theorem ib4 (c : Dev nD) (t : Fin cfg4.N) (r : Fin 16) (i : Fin 128) (hi : (i : ℕ) = 16 * t.1 + r.1) :
    iblk4 V c 0 t (ix2 r 0) = V c (Pipeline.arrRef spec4 0) (ix2 i 0) := by
  blk_ext [iblk4, idx4_0 t]
theorem em4 (t : Fin cfg4.N) (r : Fin 16) (k : Fin 100000) (i : Fin 128) (hi : (i : ℕ) = 16 * t.1 + r.1) :
    (win4_1.blk t).view.emb (ix2 r k) = ix2 i k := by
  blk_ext [idx4_1 t]
theorem arr4_at (c : Dev nD) (s : Fin 128 → Fin 100000)
    (h : ∀ i : Fin 128, V c (Pipeline.arrRef spec4 0) (ix2 i 0) = BitVec.ofNat 32 (s i)) :
    (dat4 V c).arrAt 1 cfg4.N = hots s := by
  refine (dat4 V c).arrAt_eq_of_covers 1 _ (by decide +kernel) fun t hf y => ?_
  blk_simp
  rw [after4_1]
  obtain ⟨r, k, rfl⟩ : ∃ (r : Fin 16) (k : Fin 100000), y = ix2 r k := ⟨y 0, y 1, eq_ix2 y⟩
  rw [em4 t r k (rowOf t r) rfl]
  exact pay4_at _ r k _ ((ib4 V c t r (rowOf t r) rfl).trans (h _))

theorem idx1_0 : ∀ t : Fin cfg1.N, win1_0.index t = ![t.1, 0] := by decide +kernel
theorem idx1_1 : ∀ t : Fin cfg1.N, win1_1.index t = ![t.1, 0] := by decide +kernel
theorem idx1_2 : ∀ t : Fin cfg1.N, win1_2.index t = ![t.1, 0] := by decide +kernel
theorem idx1_4 : ∀ t : Fin cfg1.N, win1_4.index t = ![t.1, 0] := by decide +kernel
theorem idx1_5 : ∀ t : Fin cfg1.N, win1_5.index t = ![t.1, 0] := by decide +kernel
theorem idx1_6 : ∀ t : Fin cfg1.N, win1_6.index t = ![t.1, 0] := by decide +kernel
theorem idx1_3 : ∀ t : Fin cfg1.N, win1_3.index t = ![0] := by decide +kernel
theorem ib1_0 (c : Dev nD) (t : Fin cfg1.N) (r : Fin 16) (i : Fin 128) (hi : (i : ℕ) = 16 * t.1 + r.1) :
    iblk1 V c 0 t (ix2 r 0) = V c (Pipeline.arrRef spec1 0) (ix2 i 0) := by
  blk_ext [iblk1, idx1_0 t]
theorem ib1_1 (c : Dev nD) (t : Fin cfg1.N) (r : Fin 16) (i : Fin 128) (hi : (i : ℕ) = 16 * t.1 + r.1) :
    iblk1 V c 1 t (ix2 r 0) = V c (Pipeline.arrRef spec1 1) (ix2 i 0) := by
  blk_ext [iblk1, idx1_1 t]
theorem ib1_2 (c : Dev nD) (t : Fin cfg1.N) (r : Fin 16) (i : Fin 128) (hi : (i : ℕ) = 16 * t.1 + r.1) :
    iblk1 V c 2 t (ix2 r 0) = V c (Pipeline.arrRef spec1 2) (ix2 i 0) := by
  blk_ext [iblk1, idx1_2 t]
theorem ib1_4 (c : Dev nD) (t : Fin cfg1.N) (r : Fin 16) (k : Fin 100000) (i : Fin 128) (hi : (i : ℕ) = 16 * t.1 + r.1) :
    iblk1 V c 4 t (ix2 r k) = V c (Pipeline.arrRef spec1 4) (ix2 i k) := by
  blk_ext [iblk1, idx1_4 t]
theorem ib1_5 (c : Dev nD) (t : Fin cfg1.N) (r : Fin 16) (k : Fin 100000) (i : Fin 128) (hi : (i : ℕ) = 16 * t.1 + r.1) :
    iblk1 V c 5 t (ix2 r k) = V c (Pipeline.arrRef spec1 5) (ix2 i k) := by
  blk_ext [iblk1, idx1_5 t]
theorem ib1_3 (c : Dev nD) (t : Fin cfg1.N) : iblk1 V c 3 t (ix1 0) = V c (Pipeline.arrRef spec1 3) (ix1 0) := by
  blk_ext [iblk1, idx1_3 t]
theorem em1 (t : Fin cfg1.N) (r : Fin 16) (k : Fin 100000) (i : Fin 128) (hi : (i : ℕ) = 16 * t.1 + r.1) :
    (win1_6.blk t).view.emb (ix2 r k) = ix2 i k := by
  blk_ext [idx1_6 t]
theorem first_eq : idx0_S1 = ix1 0 := by rw [eq_ix1 idx0_S1]; congr 1

/-- The whole row's call leaves the indicators of the rows' choices. -/
theorem arr1_at (c : Dev nD) (X : Fin 128 → Fin 100000) (cf : EReal) (b : Fin 128 → EReal) (x u : Fin 128 → Fin 100000 → EReal)
    (h0 : ∀ i : Fin 128, V c (Pipeline.arrRef spec1 0) (ix2 i 0) = BitVec.ofNat 32 (X i))
    (h1 : ∀ i : Fin 128, V c (Pipeline.arrRef spec1 1) (ix2 i 0) = b i)
    (h2 : ∀ i : Fin 128, V c (Pipeline.arrRef spec1 2) (ix2 i 0) = gum (u i (X i)))
    (h3 : V c (Pipeline.arrRef spec1 3) (ix1 0) = cf)
    (h4 : ∀ (i : Fin 128) (k : Fin 100000), V c (Pipeline.arrRef spec1 4) (ix2 i k) = x i k)
    (h5 : ∀ (i : Fin 128) (k : Fin 100000), V c (Pipeline.arrRef spec1 5) (ix2 i k) = u i k)
    (s : Fin 128 → Fin 100000) (hs : ∀ i, Best (score cf (b i) (x i) (u i) (X i)) (s i)) :
    (dat1 V c).arrAt 6 cfg1.N = hots s := by
  refine (dat1 V c).arrAt_eq_of_covers 6 _ (by decide +kernel) fun t hf y => ?_
  blk_simp
  rw [after1_6]
  obtain ⟨r, k, rfl⟩ : ∃ (r : Fin 16) (k : Fin 100000), y = ix2 r k := ⟨y 0, y 1, eq_ix2 y⟩
  rw [em1 t r k (rowOf t r) rfl]
  have e0 := (ib1_0 V c t r (rowOf t r) rfl).trans (h0 _)
  have e1 := (ib1_1 V c t r (rowOf t r) rfl).trans (h1 _)
  have e2 := (ib1_2 V c t r (rowOf t r) rfl).trans (h2 _)
  have e3 := (ib1_3 V c t).trans h3
  have e4 := fun k => (ib1_4 V c t r k (rowOf t r) rfl).trans (h4 _ k)
  have e5 := fun k => (ib1_5 V c t r k (rowOf t r) rfl).trans (h5 _ k)
  obtain ⟨s', hb, ho⟩ := pay1_at (iblk1 V c 0 t) (iblk1 V c 1 t) (iblk1 V c 2 t) (iblk1 V c 3 t) (iblk1 V c 4 t) (iblk1 V c 5 t) r
    (X (rowOf t r)) e0 (e2.trans (congrArg gum (e5 _).symm))
  rw [first_eq, e3, e1, show (fun k => iblk1 V c 4 t (ix2 r k)) = x (rowOf t r) from funext e4,
    show (fun k => iblk1 V c 5 t (ix2 r k)) = u (rowOf t r) from funext e5] at hb
  rw [Best.unique hb (hs (rowOf t r))] at ho
  exact ho k

theorem idx0_0 : ∀ t : Fin cfg0.N, win0_0.index t = ![0, 0] := by decide +kernel
theorem idx0_1 : ∀ t : Fin cfg0.N, win0_1.index t = ![0, 0] := by decide +kernel
theorem idx0_2 : ∀ t : Fin cfg0.N, win0_2.index t = ![0, 0] := by decide +kernel
theorem idx0_3 : ∀ t : Fin cfg0.N, win0_3.index t = ![0, 0] := by decide +kernel
theorem idx0_4 : ∀ t : Fin cfg0.N, win0_4.index t = ![0] := by decide +kernel
theorem idx0_5 : ∀ t : Fin cfg0.N, win0_5.index t = ![0, 0] := by decide +kernel
theorem idx0_6 : ∀ t : Fin cfg0.N, win0_6.index t = ![0, 0] := by decide +kernel
theorem idx0_7 : ∀ t : Fin cfg0.N, win0_7.index t = ![0, 0] := by decide +kernel
theorem idx0_8 : ∀ t : Fin cfg0.N, win0_8.index t = ![0, 0] := by decide +kernel
theorem idx0_9 : ∀ t : Fin cfg0.N, win0_9.index t = ![0, 0] := by decide +kernel
theorem idx0_10 : ∀ t : Fin cfg0.N, win0_10.index t = ![0, 0] := by decide +kernel
theorem idx0_11 : ∀ t : Fin cfg0.N, win0_11.index t = ![0, 0] := by decide +kernel
theorem ib0_0 (c : Dev nD) (t : Fin cfg0.N) (r : Fin 128) (k : Fin 1) :
    iblk0 V c 0 t (ix2 r k) = V c (Pipeline.arrRef spec0 0) (ix2 r k) := by
  blk_ext [iblk0, idx0_0 t]
theorem ib0_1 (c : Dev nD) (t : Fin cfg0.N) (r : Fin 128) (k : Fin 1) :
    iblk0 V c 1 t (ix2 r k) = V c (Pipeline.arrRef spec0 1) (ix2 r k) := by
  blk_ext [iblk0, idx0_1 t]
theorem ib0_2 (c : Dev nD) (t : Fin cfg0.N) (r : Fin 128) (k : Fin 1) :
    iblk0 V c 2 t (ix2 r k) = V c (Pipeline.arrRef spec0 2) (ix2 r k) := by
  blk_ext [iblk0, idx0_2 t]
theorem ib0_3 (c : Dev nD) (t : Fin cfg0.N) (r : Fin 128) (k : Fin 1) :
    iblk0 V c 3 t (ix2 r k) = V c (Pipeline.arrRef spec0 3) (ix2 r k) := by
  blk_ext [iblk0, idx0_3 t]
theorem ib0_4 (c : Dev nD) (t : Fin cfg0.N) : iblk0 V c 4 t (ix1 0) = V c (Pipeline.arrRef spec0 4) (ix1 0) := by
  blk_ext [iblk0, idx0_4 t]
theorem ib0_5 (c : Dev nD) (t : Fin cfg0.N) (r : Fin 128) (k : Fin 128) :
    iblk0 V c 5 t (ix2 r k) = V c (Pipeline.arrRef spec0 5) (ix2 r k) := by
  blk_ext [iblk0, idx0_5 t]
theorem ib0_6 (c : Dev nD) (t : Fin cfg0.N) (r : Fin 128) (k : Fin 128) :
    iblk0 V c 6 t (ix2 r k) = V c (Pipeline.arrRef spec0 6) (ix2 r k) := by
  blk_ext [iblk0, idx0_6 t]
theorem ib0_7 (c : Dev nD) (t : Fin cfg0.N) (r : Fin 128) (k : Fin 128) :
    iblk0 V c 7 t (ix2 r k) = V c (Pipeline.arrRef spec0 7) (ix2 r k) := by
  blk_ext [iblk0, idx0_7 t]

section
variable (c : Dev nD) (X : Fin 128 → Fin 100000) (cf : EReal) (b uxt ut : Fin 128 → EReal) (ci : Fin 128 → Fin 128 → BitVec 32)
    (uc xc : Fin 128 → Fin 128 → EReal)
/-- A row of candidates' perturbed logarithms. -/
def cand (i k : Fin 128) : EReal := candv cf (b i) (BitVec.ofNat 32 (X i)) (ci i k) (xc i k) (uc i k)
variable (h0 : ∀ i : Fin 128, V c (Pipeline.arrRef spec0 0) (ix2 i 0) = BitVec.ofNat 32 (X i))
    (h1 : ∀ i : Fin 128, V c (Pipeline.arrRef spec0 1) (ix2 i 0) = b i)
    (h2 : ∀ i : Fin 128, V c (Pipeline.arrRef spec0 2) (ix2 i 0) = uxt i)
    (h3 : ∀ i : Fin 128, V c (Pipeline.arrRef spec0 3) (ix2 i 0) = ut i)
    (h4 : V c (Pipeline.arrRef spec0 4) (ix1 0) = cf)
    (h5 : ∀ i k : Fin 128, V c (Pipeline.arrRef spec0 5) (ix2 i k) = ci i k)
    (h6 : ∀ i k : Fin 128, V c (Pipeline.arrRef spec0 6) (ix2 i k) = uc i k)
    (h7 : ∀ i k : Fin 128, V c (Pipeline.arrRef spec0 7) (ix2 i k) = xc i k)
include h0 h1 h4 h5 h6 h7
theorem candRow_eq (t : Fin cfg0.N) (i : Fin 128) :
    candRow (iblk0 V c 0 t) (iblk0 V c 1 t) (iblk0 V c 4 t) (iblk0 V c 5 t) (iblk0 V c 6 t) (iblk0 V c 7 t) i = cand X cf b ci uc xc i := by
  funext k
  have e0 := (ib0_0 V c t i 0).trans (h0 _)
  have e1 := (ib0_1 V c t i 0).trans (h1 _)
  have e4 := (ib0_4 V c t).trans h4
  have e5 := (ib0_5 V c t i k).trans (h5 _ _)
  have e6 := (ib0_6 V c t i k).trans (h6 _ _)
  have e7 := (ib0_7 V c t i k).trans (h7 _ _)
  unfold candRow cand
  rw [first_eq, e0, e1, e4, e5, e6, e7]
/-- The best of the candidates. -/
def cbest (i : Fin 128) : EReal := Finset.univ.fold max ⊥ (cand X cf b ci uc xc i)
/-- The least column of the best of the candidates. -/
def cidx (i : Fin 128) : BitVec 32 := Finset.univ.fold IntOp.minsi 2147483647#32
  (fun j => if cand X cf b ci uc xc i j = Finset.univ.fold max ⊥ (cand X cf b ci uc xc i) then ci i j else 2147483647#32)
/-- The best clears the noise of the next number in order. -/
def clear1 (ut : Fin 128 → EReal) (i : Fin 128) : BitVec 1 :=
  BitVec.ofBool (decide (gum (ut i) + Ideal.ofBits .f32 953267991#32 < cbest X cf b ci uc xc i))
/-- … and the current category's noise. -/
def clear2 (ut uxt : Fin 128 → EReal) (i : Fin 128) : BitVec 1 :=
  IntOp.andi (clear1 X cf b ci uc xc ut i) (BitVec.ofBool (decide (gum (uxt i) < cbest X cf b ci uc xc i)))
theorem arr008_at : (dat0 V c).arrAt 8 cfg0.N = colE (cbest X cf b ci uc xc) := by
  refine (dat0 V c).arrAt_eq_of_covers 8 _ (by decide +kernel) fun t hf y => ?_
  blk_simp
  rw [after0_8]
  obtain ⟨r, k, rfl⟩ : ∃ (r : Fin 128) (k : Fin 1), y = ix2 r k := ⟨y 0, y 1, eq_ix2 y⟩
  obtain rfl : k = 0 := Subsingleton.elim _ _
  have em : (win0_8.blk t).view.emb (ix2 r 0) = ix2 r 0 := by blk_ext [idx0_8 t]
  rw [em]
  refine (pay08_at ..).trans ?_
  rw [candRow_eq V c X cf b ci uc xc h0 h1 h4 h5 h6 h7]
  skip
  rfl
theorem arr009_at : (dat0 V c).arrAt 9 cfg0.N = colW (cidx X cf b ci uc xc) := by
  refine (dat0 V c).arrAt_eq_of_covers 9 _ (by decide +kernel) fun t hf y => ?_
  blk_simp
  rw [after0_9]
  obtain ⟨r, k, rfl⟩ : ∃ (r : Fin 128) (k : Fin 1), y = ix2 r k := ⟨y 0, y 1, eq_ix2 y⟩
  obtain rfl : k = 0 := Subsingleton.elim _ _
  have em : (win0_9.blk t).view.emb (ix2 r 0) = ix2 r 0 := by blk_ext [idx0_9 t]
  rw [em]
  refine (pay09_at ..).trans ?_
  rw [candRow_eq V c X cf b ci uc xc h0 h1 h4 h5 h6 h7]
  simp only [ib0_5 V c t r, h5]
  rfl
include h2 h3 in
theorem arr010_at : (dat0 V c).arrAt 10 cfg0.N = colW fun i => BitVec.setWidth 32 (clear2 X cf b ci uc xc ut uxt i) := by
  refine (dat0 V c).arrAt_eq_of_covers 10 _ (by decide +kernel) fun t hf y => ?_
  blk_simp
  rw [after0_10]
  obtain ⟨r, k, rfl⟩ : ∃ (r : Fin 128) (k : Fin 1), y = ix2 r k := ⟨y 0, y 1, eq_ix2 y⟩
  obtain rfl : k = 0 := Subsingleton.elim _ _
  have em : (win0_10.blk t).view.emb (ix2 r 0) = ix2 r 0 := by blk_ext [idx0_10 t]
  rw [em]
  have e2 := (ib0_2 V c t r 0).trans (h2 _)
  have e3 := (ib0_3 V c t r 0).trans (h3 _)
  refine (pay10_at ..).trans ?_
  rw [candRow_eq V c X cf b ci uc xc h0 h1 h4 h5 h6 h7, e2, e3]
  skip
  rfl
include h3 in
theorem arr011_at : (dat0 V c).arrAt 11 cfg0.N = colW fun i => BitVec.setWidth 32 (clear1 X cf b ci uc xc ut i) := by
  refine (dat0 V c).arrAt_eq_of_covers 11 _ (by decide +kernel) fun t hf y => ?_
  blk_simp
  rw [after0_11]
  obtain ⟨r, k, rfl⟩ : ∃ (r : Fin 128) (k : Fin 1), y = ix2 r k := ⟨y 0, y 1, eq_ix2 y⟩
  obtain rfl : k = 0 := Subsingleton.elim _ _
  have em : (win0_11.blk t).view.emb (ix2 r 0) = ix2 r 0 := by blk_ext [idx0_11 t]
  rw [em]
  have e3 := (ib0_3 V c t r 0).trans (h3 _)
  refine (pay11_at ..).trans ?_
  rw [candRow_eq V c X cf b ci uc xc h0 h1 h4 h5 h6 h7, e3]
  skip
  rfl
end

end Cert.KerValues

end
-- ==== Proof.RegVals2.lean ====
module

public import proofs.«01_k».proof.Proof.RegVals
public import Idealize.ShloMosaic.Lib.Pipeline.Covers

@[expose] public section

set_option maxRecDepth 16384

noncomputable section

namespace Cert.KerValues

open Cert.KernelIdeal hiding ix2
open Cert.KernelIdeal.Run Cert.KernelIdeal.Gen Cert.RowSpec
open Idealize.ShloMosaic.Pipeline (Dat Cfg Window)
open Idealize.ShloMosaic Idealize.ShloMosaic.TcCoe Idealize.ShloMosaic.Tactic

/-! # The recomputing call's results, read at a row -/

variable (V : (c : Dev nD) → (b : Ref sig .tc) → Buf (Elt Ideal) ((c : Thread nD τ).loc b))
variable (a : (pcfg2 (F := Ideal)).Adm)

/-- The table's entry of a grid point. -/
def tix (t : Fin (cfg2 a).N) : S2.Idx := ix1 ⟨t.1, t.2⟩
theorem off2_0 : ∀ t : Fin 2, k2_off1 (grid2.coords t) 0 = t.val := by decide +kernel
theorem entry2 (t : Fin (cfg2 a).N) (h : ∀ q, k2_off1 (grid2.coords t) q + S1.size q ≤ S2.size q) (p : (Rect.unit (s := S2) (k2_off1 (grid2.coords t)) S1.size h).shape.Idx) :
    (Rect.unit (s := S2) (k2_off1 (grid2.coords t)) S1.size h).emb p = tix a t := by
  funext q
  fin_cases q
  apply Fin.ext
  show k2_off1 (grid2.coords t) 0 + 1 * (p 0).val = t.1
  have hp : (p 0).val < 1 := (p 0).isLt
  have := off2_0 t
  omega

theorem idx2_0 (t : Fin (cfg2 a).N) : ((cfg2 a).win 0).index t = ![(a.1 0 (tix a t) : BitVec 32).toNat, 0] := by
  funext i
  fin_cases i
  · exact congrArg (fun p => BitVec.toNat (a.1 0 p)) (entry2 a t _ _)
  · rfl
theorem ib2_0 (c : Dev nD) (t : Fin (cfg2 a).N) (r : Fin 16) (i : Fin 128) (hi : (i : ℕ) = 16 * (a.1 0 (tix a t) : BitVec 32).toNat + r.1) :
    iblk2 V a c 0 t (ix2 r 0) = V c (Pipeline.arrRef spec2 0) (ix2 i 0) := by
  have := idx2_0 a t
  blk_ext [iblk2, this]

theorem idx2_1 (t : Fin (cfg2 a).N) : ((cfg2 a).win 1).index t = ![(a.1 0 (tix a t) : BitVec 32).toNat, 0] := by
  funext i
  fin_cases i
  · exact congrArg (fun p => BitVec.toNat (a.1 0 p)) (entry2 a t _ _)
  · rfl
theorem ib2_1 (c : Dev nD) (t : Fin (cfg2 a).N) (r : Fin 16) (i : Fin 128) (hi : (i : ℕ) = 16 * (a.1 0 (tix a t) : BitVec 32).toNat + r.1) :
    iblk2 V a c 1 t (ix2 r 0) = V c (Pipeline.arrRef spec2 1) (ix2 i 0) := by
  have := idx2_1 a t
  blk_ext [iblk2, this]

theorem idx2_2 (t : Fin (cfg2 a).N) : ((cfg2 a).win 2).index t = ![(a.1 0 (tix a t) : BitVec 32).toNat, 0] := by
  funext i
  fin_cases i
  · exact congrArg (fun p => BitVec.toNat (a.1 0 p)) (entry2 a t _ _)
  · rfl
theorem ib2_2 (c : Dev nD) (t : Fin (cfg2 a).N) (r : Fin 16) (i : Fin 128) (hi : (i : ℕ) = 16 * (a.1 0 (tix a t) : BitVec 32).toNat + r.1) :
    iblk2 V a c 2 t (ix2 r 0) = V c (Pipeline.arrRef spec2 2) (ix2 i 0) := by
  have := idx2_2 a t
  blk_ext [iblk2, this]

theorem idx2_3 (t : Fin (cfg2 a).N) : ((cfg2 a).win 3).index t = ![(a.1 0 (tix a t) : BitVec 32).toNat, 0] := by
  funext i
  fin_cases i
  · exact congrArg (fun p => BitVec.toNat (a.1 0 p)) (entry2 a t _ _)
  · rfl
theorem ib2_3 (c : Dev nD) (t : Fin (cfg2 a).N) (r : Fin 16) (i : Fin 128) (hi : (i : ℕ) = 16 * (a.1 0 (tix a t) : BitVec 32).toNat + r.1) :
    iblk2 V a c 3 t (ix2 r 0) = V c (Pipeline.arrRef spec2 3) (ix2 i 0) := by
  have := idx2_3 a t
  blk_ext [iblk2, this]

theorem idx2_4 (t : Fin (cfg2 a).N) : ((cfg2 a).win 4).index t = ![(a.1 0 (tix a t) : BitVec 32).toNat, 0] := by
  funext i
  fin_cases i
  · exact congrArg (fun p => BitVec.toNat (a.1 0 p)) (entry2 a t _ _)
  · rfl
theorem ib2_4 (c : Dev nD) (t : Fin (cfg2 a).N) (r : Fin 16) (i : Fin 128) (hi : (i : ℕ) = 16 * (a.1 0 (tix a t) : BitVec 32).toNat + r.1) :
    iblk2 V a c 4 t (ix2 r 0) = V c (Pipeline.arrRef spec2 4) (ix2 i 0) := by
  have := idx2_4 a t
  blk_ext [iblk2, this]

theorem idx2_6 (t : Fin (cfg2 a).N) : ((cfg2 a).win 6).index t = ![(a.1 0 (tix a t) : BitVec 32).toNat, 0] := by
  funext i
  fin_cases i
  · exact congrArg (fun p => BitVec.toNat (a.1 0 p)) (entry2 a t _ _)
  · rfl
theorem ib2_6 (c : Dev nD) (t : Fin (cfg2 a).N) (r : Fin 16) (k : Fin 100000) (i : Fin 128) (hi : (i : ℕ) = 16 * (a.1 0 (tix a t) : BitVec 32).toNat + r.1) :
    iblk2 V a c 6 t (ix2 r k) = V c (Pipeline.arrRef spec2 6) (ix2 i k) := by
  have := idx2_6 a t
  blk_ext [iblk2, this]

theorem idx2_5 (t : Fin (cfg2 a).N) : ((cfg2 a).win 5).index t = ![0] := by
  funext i
  fin_cases i
  rfl
theorem ib2_5 (c : Dev nD) (t : Fin (cfg2 a).N) : iblk2 V a c 5 t (ix1 0) = V c (Pipeline.arrRef spec2 5) (ix1 0) := by
  have := idx2_5 a t
  blk_ext [iblk2, this]
theorem idx2_7 (t : Fin (cfg2 a).N) : ((cfg2 a).win 7).index t = ![t.1, 0] := by
  have h : ∀ t : Fin 2, (grid2.coords t 0).val = t.val := by decide +kernel
  funext i
  fin_cases i
  · show BitVec.toNat (BitVec.ofNat 32 (grid2.coords t 0).val) = t.1
    have h' := h t
    rw [show (grid2.coords t 0).val = t.1 from h', BitVec.toNat_ofNat]
    have : t.1 < 2 := t.2
    show t.1 % _ = t.1
    omega
  · rfl
theorem em2 (t : Fin (cfg2 a).N) (r : Fin 16) (q : Fin 32) (hq : (q : ℕ) = 16 * t.1 + r.1) :
    (((cfg2 a).win 7).blk t).view.emb (ix2 r 0) = (ix2 q 0 : S32x1.Idx) := by
  have := idx2_7 a t
  blk_ext [this]

theorem covers2 : ((cfg2 a).win 7).Covers := by
  refine Pipeline.Window.covers_of_index_surj _ rfl (show ∀ q : Fin 2, 0 < S16x1.size q from by decide) fun β => ?_
  have h0 : ((cfg2 a).win 7).nblk (0 : Fin 2) = 2 := by
    show (S32x1.size 0 + S16x1.size 0 - 1) / S16x1.size 0 = 2
    decide
  have h1 : ((cfg2 a).win 7).nblk (1 : Fin 2) = 1 := by
    show (S32x1.size 1 + S16x1.size 1 - 1) / S16x1.size 1 = 1
    decide
  refine ⟨(⟨(β (0 : Fin 2)).val, lt_of_lt_of_eq (β (0 : Fin 2)).isLt h0⟩ : Fin 2), fun q => ?_⟩
  refine (congrFun (idx2_7 a _) q).trans ?_
  revert q
  show ∀ q : Fin 2, _
  intro q
  fin_cases q
  · rfl
  · have := lt_of_lt_of_eq (β (1 : Fin 2)).isLt h1
    show 0 = (β (1 : Fin 2)).val
    omega

/-- The row that a place of the recomputed rows comes from. -/
def fromRow (d : Fin 2 → Fin 8) (q : Fin 32) : Fin 128 := ⟨16 * (d ⟨q.1 / 16, by omega⟩).1 + q.1 % 16, by omega⟩

/-- A column of thirty-two words. -/
def colQ (f : Fin 32 → BitVec 32) : S32x1.Idx → BitVec 32 := fun j => f (j 0)

theorem arr2_at (c : Dev nD) (d : Fin 2 → Fin 8) (hd : ∀ t, a.1 0 (ix1 t) = BitVec.ofNat 32 (d t))
    (X : Fin 128 → Fin 100000) (cf : EReal) (b gx bm : Fin 128 → EReal) (bi : Fin 128 → BitVec 32) (x : Fin 128 → Fin 100000 → EReal)
    (h0 : ∀ i : Fin 128, V c (Pipeline.arrRef spec2 0) (ix2 i 0) = BitVec.ofNat 32 (X i))
    (h1 : ∀ i : Fin 128, V c (Pipeline.arrRef spec2 1) (ix2 i 0) = b i)
    (h2 : ∀ i : Fin 128, V c (Pipeline.arrRef spec2 2) (ix2 i 0) = gx i)
    (h3 : ∀ i : Fin 128, V c (Pipeline.arrRef spec2 3) (ix2 i 0) = bm i)
    (h4 : ∀ i : Fin 128, V c (Pipeline.arrRef spec2 4) (ix2 i 0) = bi i)
    (h5 : V c (Pipeline.arrRef spec2 5) (ix1 0) = cf)
    (h6 : ∀ (i : Fin 128) (k : Fin 100000), V c (Pipeline.arrRef spec2 6) (ix2 i k) = x i k) :
    (dat2 V a c).arrAt 7 (cfg2 a).N = colQ fun q => pick (BitVec.ofNat 32 (X (fromRow d q)))
      (lgp (left cf (b (fromRow d q)) (x (fromRow d q)) (X (fromRow d q))) + gx (fromRow d q)) (bm (fromRow d q)) (bi (fromRow d q)) := by
  refine (dat2 V a c).arrAt_eq_of_covers 7 _ (covers2 a) fun t hf y => ?_
  blk_simp
  rw [after2_7]
  obtain ⟨r, k, rfl⟩ : ∃ (r : Fin 16) (k : Fin 1), y = (ix2 r k : S16x1.Idx) := ⟨(show S16x1.Idx from y) 0, (show S16x1.Idx from y) 1, eq_ix2 (show S16x1.Idx from y)⟩
  obtain rfl : k = 0 := Subsingleton.elim _ _
  have ht : t.1 < 2 := t.2
  have hq : 16 * t.1 + r.1 < 32 := by omega
  have em := em2 a t r ⟨16 * t.1 + r.1, hq⟩ rfl
  rw [em]
  have hN : (a.1 0 (tix a t) : BitVec 32).toNat = (d ⟨t.1, ht⟩).1 := by
    refine (congrArg BitVec.toNat (hd ⟨t.1, ht⟩)).trans ?_
    rw [BitVec.toNat_ofNat]; omega
  have hr : ((fromRow d ⟨16 * t.1 + r.1, hq⟩ : Fin 128) : ℕ) = 16 * (a.1 0 (tix a t) : BitVec 32).toNat + r.1 := by
    rw [hN]; unfold fromRow
    have e1 : (16 * t.1 + r.1) / 16 = t.1 := by omega
    have e2 : (16 * t.1 + r.1) % 16 = r.1 := by omega
    simp only [e1, e2]
  show _ = pick _ _ _ _
  simp only [show ((ix2 (⟨16 * t.1 + r.1, hq⟩ : Fin 32) (0 : Fin 1) : S32x1.Idx) 0) = (⟨16 * t.1 + r.1, hq⟩ : Fin 32) from rfl]
  generalize fromRow d ⟨16 * t.1 + r.1, hq⟩ = i at hr ⊢
  have e0 := (ib2_0 V a c t r i hr).trans (h0 _)
  have e1 := (ib2_1 V a c t r i hr).trans (h1 _)
  have e2 := (ib2_2 V a c t r i hr).trans (h2 _)
  have e3 := (ib2_3 V a c t r i hr).trans (h3 _)
  have e4 := (ib2_4 V a c t r i hr).trans (h4 _)
  have e5 := (ib2_5 V a c t).trans h5
  have e6 := fun k => (ib2_6 V a c t r k i hr).trans (h6 _ k)
  refine (pay2_at _ _ _ _ _ _ _ r (X i) e0).trans ?_
  rw [first_eq, e5, e1, e2, e3, e4, show (fun k => iblk2 V a c 6 t (ix2 r k)) = x i from funext e6]

end Cert.KerValues

end
-- ==== Proof.KerVals2.lean ====
module

public import proofs.«01_k».proof.Proof.KerVals1
public import proofs.«01_k».proof.Proof.RegVals
public import proofs.«01_k».proof.Proof.RegVals2

@[expose] public section

set_option maxRecDepth 16384

noncomputable section

namespace Cert.KerValues

open Cert.KernelIdeal hiding ix2
open Cert.KernelIdeal.Run Cert.KernelIdeal.Gen Cert.RowSpec
open Idealize.ShloMosaic Idealize.ShloMosaic.TcCoe Idealize.ShloMosaic.Tactic

/-! # What the candidates' call leaves -/

/-- The forward rate, the backward rate of a row, and a row of a table. -/
def cfR (t dt : FVec Ideal S1 .f32) (nz : IVec S_ 32) : EReal := cfE (t (ix1 0)) (dt (ix1 0)) (nz ix0)
def bR (dt : FVec Ideal S1 .f32) (nz : IVec S_ 32) (x : FVec Ideal S128x100000 .f32) (X : Fin 128 → Fin 100000) (i : Fin 128) : EReal :=
  bE (dt (ix1 0)) (nz ix0) (x (ix2 i (X i)))
def rowR (x : FVec Ideal S128x100000 .f32) (i : Fin 128) : Fin 100000 → EReal := fun k => x (ix2 i k)
/-- The candidates' columns' words, uniform numbers and predictions. -/
def ciR (u : FVec Ideal S128x100000 .f32) (i q : Fin 128) : BitVec 32 := BitVec.ofNat 32 (candIdx (rowR u i) q).val
def atR (u x : FVec Ideal S128x100000 .f32) (i q : Fin 128) : EReal := rowR x i (candIdx (rowR u i) q)

section
variable (m : (ℓ : Loc nD τ sig) → Buf (Elt Ideal) ℓ) (c : Dev nD)
    (xt : IVec S128x1 32) (x1 : FVec Ideal S128x100000 .f32) (t dt : FVec Ideal S1 .f32) (nz : IVec S_ 32) (u : FVec Ideal S128x100000 .f32)
    (X : Fin 128 → Fin 100000)

/-- The arguments a memory holds. -/
structure Holds : Prop where
  hX : ∀ i, xt (ix2 i 0) = BitVec.ofNat 32 (X i)
  e0 : W0 m c (Proc.devRef .tc main_arg0) = xt
  e1 : W0 m c (Proc.devRef .tc main_arg1) = x1
  e3 : W0 m c (Proc.devRef .tc main_arg3) = t
  e4 : W0 m c (Proc.devRef .tc main_arg4) = nz
  e5 : W0 m c (Proc.devRef .tc main_arg5) = dt
  e6 : W0 m c (Proc.devRef .tc main_arg6) = u

variable {m c xt x1 t dt nz u X} (H : Holds m c xt x1 t dt nz u X)
include H

theorem W7_xt (i : Fin 128) : W7 m c (Proc.devRef .tc main_arg0) (ix2 i 0) = BitVec.ofNat 32 (X i) := by
  have e : W7 m c (Proc.devRef .tc main_arg0) = W0 m c (Proc.devRef .tc main_arg0) := ((W7_of m c main_arg0 (by decide))).trans (((W6_of m c main_arg0 (by decide))).trans (((W5_of m c main_arg0 (by decide))).trans (((W4_of m c main_arg0 (by decide))).trans (((W3_of m c main_arg0 (by decide))).trans (((W2_of m c main_arg0 (by decide))).trans ((W1_of m c main_arg0 (by decide))))))))
  rw [e, H.e0]; exact H.hX i

theorem W7_v15 : W7 m c (Proc.devRef .tc main_v15) (ix1 0) = cfR t dt nz := by
  have a3_2 : W2 m c (Proc.devRef .tc main_arg3) = t := (((W2_of m c main_arg3 (by decide))).trans ((W1_of m c main_arg3 (by decide)))).trans H.e3
  have a4_2 : W2 m c (Proc.devRef .tc main_arg4) = nz := (((W2_of m c main_arg4 (by decide))).trans ((W1_of m c main_arg4 (by decide)))).trans H.e4
  have a5_2 : W2 m c (Proc.devRef .tc main_arg5) = dt := (((W2_of m c main_arg5 (by decide))).trans ((W1_of m c main_arg5 (by decide)))).trans H.e5
  have e : W7 m c (Proc.devRef .tc main_v15) = W3 m c (Proc.devRef .tc main_v15) := ((W7_of m c main_v15 (by decide))).trans (((W6_of m c main_v15 (by decide))).trans (((W5_of m c main_v15 (by decide))).trans ((W4_of m c main_v15 (by decide)))))
  rw [e, kv15T_eq, a3_2, a4_2, a5_2]
  refine kv15T_at _ _ nz t dt ?_ ?_
  · rw [kv2T_eq]; exact kv2T_at
  · rw [kv3T_eq, H.e3]; exact kv3T_at t

theorem W4_v16 (i : Fin 128) : W4 m c (Proc.devRef .tc main_v16) (ix2 i 0) = x1 (ix2 i (X i)) := by
  have a0_3 : W3 m c (Proc.devRef .tc main_arg0) = xt := (((W3_of m c main_arg0 (by decide))).trans (((W2_of m c main_arg0 (by decide))).trans ((W1_of m c main_arg0 (by decide))))).trans H.e0
  have a1_3 : W3 m c (Proc.devRef .tc main_arg1) = x1 := (((W3_of m c main_arg1 (by decide))).trans (((W2_of m c main_arg1 (by decide))).trans ((W1_of m c main_arg1 (by decide))))).trans H.e1
  rw [kv16T_eq, a0_3, a1_3]
  exact kv16T_at xt x1 X H.hX i

theorem W5_v17 (i : Fin 128) : W5 m c (Proc.devRef .tc main_v17) (ix2 i 0) = rowR u i (X i) := by
  have a0_4 : W4 m c (Proc.devRef .tc main_arg0) = xt := (((W4_of m c main_arg0 (by decide))).trans (((W3_of m c main_arg0 (by decide))).trans (((W2_of m c main_arg0 (by decide))).trans ((W1_of m c main_arg0 (by decide)))))).trans H.e0
  have a6_4 : W4 m c (Proc.devRef .tc main_arg6) = u := (((W4_of m c main_arg6 (by decide))).trans (((W3_of m c main_arg6 (by decide))).trans (((W2_of m c main_arg6 (by decide))).trans ((W1_of m c main_arg6 (by decide)))))).trans H.e6
  rw [kv17T_eq, a0_4, a6_4]
  exact kv17T_at xt u X H.hX i

theorem W7_v17 (i : Fin 128) : W7 m c (Proc.devRef .tc main_v17) (ix2 i 0) = rowR u i (X i) := by
  have e : W7 m c (Proc.devRef .tc main_v17) = W5 m c (Proc.devRef .tc main_v17) := ((W7_of m c main_v17 (by decide))).trans ((W6_of m c main_v17 (by decide)))
  rw [e]; exact W5_v17 H i

theorem W7_v21 (i : Fin 128) : W7 m c (Proc.devRef .tc main_v21) (ix2 i 0) = gum (rowR u i (X i)) := by
  have e : W7 m c (Proc.devRef .tc main_v21) = W6 m c (Proc.devRef .tc main_v21) := (W7_of m c main_v21 (by decide))
  rw [e, kv21T_eq]
  refine (kv21T_at _ i).trans ?_
  rw [W5_v17 H i]

theorem W7_v27 (i : Fin 128) : W7 m c (Proc.devRef .tc main_v27) (ix2 i 0) = bR dt nz x1 X i := by
  have e : W7 m c (Proc.devRef .tc main_v27) = W6 m c (Proc.devRef .tc main_v27) := (W7_of m c main_v27 (by decide))
  have e16 : W5 m c (Proc.devRef .tc main_v16) = W4 m c (Proc.devRef .tc main_v16) := (W5_of m c main_v16 (by decide))
  have a4_5 : W5 m c (Proc.devRef .tc main_arg4) = nz := (((W5_of m c main_arg4 (by decide))).trans (((W4_of m c main_arg4 (by decide))).trans (((W3_of m c main_arg4 (by decide))).trans (((W2_of m c main_arg4 (by decide))).trans ((W1_of m c main_arg4 (by decide))))))).trans H.e4
  have a5_5 : W5 m c (Proc.devRef .tc main_arg5) = dt := (((W5_of m c main_arg5 (by decide))).trans (((W4_of m c main_arg5 (by decide))).trans (((W3_of m c main_arg5 (by decide))).trans (((W2_of m c main_arg5 (by decide))).trans ((W1_of m c main_arg5 (by decide))))))).trans H.e5
  rw [e, kv27T_eq, a4_5, a5_5, e16]
  refine (kv27T_at nz dt _ i).trans ?_
  rw [W4_v16 H i]
  rfl

theorem W6_v28 (i q : Fin 128) : W6 m c (Proc.devRef .tc main_v28) (ix2 i q) = ciR u i q := by
  have a6_5 : W5 m c (Proc.devRef .tc main_arg6) = u := (((W5_of m c main_arg6 (by decide))).trans (((W4_of m c main_arg6 (by decide))).trans (((W3_of m c main_arg6 (by decide))).trans (((W2_of m c main_arg6 (by decide))).trans ((W1_of m c main_arg6 (by decide))))))).trans H.e6
  rw [kv28T_eq, a6_5]
  exact kv28T_at u i q

theorem W7_v28 (i q : Fin 128) : W7 m c (Proc.devRef .tc main_v28) (ix2 i q) = ciR u i q := by
  have e : W7 m c (Proc.devRef .tc main_v28) = W6 m c (Proc.devRef .tc main_v28) := (W7_of m c main_v28 (by decide))
  rw [e]; exact W6_v28 H i q

theorem W7_v29 (i q : Fin 128) : W7 m c (Proc.devRef .tc main_v29) (ix2 i q) = atR u u i q := by
  have e : W7 m c (Proc.devRef .tc main_v29) = W6 m c (Proc.devRef .tc main_v29) := (W7_of m c main_v29 (by decide))
  have a6_5 : W5 m c (Proc.devRef .tc main_arg6) = u := (((W5_of m c main_arg6 (by decide))).trans (((W4_of m c main_arg6 (by decide))).trans (((W3_of m c main_arg6 (by decide))).trans (((W2_of m c main_arg6 (by decide))).trans ((W1_of m c main_arg6 (by decide))))))).trans H.e6
  rw [e, kv29T_eq, a6_5]
  exact kv29T_at u i q

theorem W7_v30 (i : Fin 128) : W7 m c (Proc.devRef .tc main_v30) (ix2 i 0) = nextU (rowR u i) := by
  have e : W7 m c (Proc.devRef .tc main_v30) = W6 m c (Proc.devRef .tc main_v30) := (W7_of m c main_v30 (by decide))
  have a6_5 : W5 m c (Proc.devRef .tc main_arg6) = u := (((W5_of m c main_arg6 (by decide))).trans (((W4_of m c main_arg6 (by decide))).trans (((W3_of m c main_arg6 (by decide))).trans (((W2_of m c main_arg6 (by decide))).trans ((W1_of m c main_arg6 (by decide))))))).trans H.e6
  rw [e, kv30T_eq, a6_5]
  exact kv30T_at u i

theorem W7_v31 (i q : Fin 128) : W7 m c (Proc.devRef .tc main_v31) (ix2 i q) = atR u x1 i q := by
  have a1_6 : W6 m c (Proc.devRef .tc main_arg1) = x1 := (((W6_of m c main_arg1 (by decide))).trans (((W5_of m c main_arg1 (by decide))).trans (((W4_of m c main_arg1 (by decide))).trans (((W3_of m c main_arg1 (by decide))).trans (((W2_of m c main_arg1 (by decide))).trans ((W1_of m c main_arg1 (by decide)))))))).trans H.e1
  rw [kv31T_eq, a1_6]
  obtain ⟨Y, hY⟩ : ∃ Y : Fin 128 → Fin 128 → Fin 100000, ∀ i q, candIdx (rowR u i) q = Y i q := ⟨_, fun _ _ => rfl⟩
  have h : ∀ i k : Fin 128, W6 m c (Proc.devRef .tc main_v28) (ix2 i k) = BitVec.ofNat 32 (Y i k).val := fun i k => by
    rw [W6_v28 H i k, ciR, hY]
  refine (kv31T_at _ x1 Y h i q).trans ?_
  unfold atR
  rw [hY]
  rfl

/-! ## The four columns -/

theorem W8_v32 : W8 m c (Proc.devRef .tc main_v32_0) = colE (cbest X (cfR t dt nz) (bR dt nz x1 X) (ciR u) (atR u u) (atR u x1)) :=
  (W8_arr m c 8).trans (arr008_at (tcOf (W7 m)) c X _ _ _ _ _ (W7_xt H) (W7_v27 H) (W7_v15 H) (W7_v28 H) (W7_v29 H) (W7_v31 H))
theorem W8_v32_1 : W8 m c (Proc.devRef .tc main_v32_1) = colW (cidx X (cfR t dt nz) (bR dt nz x1 X) (ciR u) (atR u u) (atR u x1)) :=
  (W8_arr m c 9).trans (arr009_at (tcOf (W7 m)) c X _ _ _ _ _ (W7_xt H) (W7_v27 H) (W7_v15 H) (W7_v28 H) (W7_v29 H) (W7_v31 H))
theorem W8_v32_2 : W8 m c (Proc.devRef .tc main_v32_2) = colW fun i => BitVec.setWidth 32
    (clear2 X (cfR t dt nz) (bR dt nz x1 X) (ciR u) (atR u u) (atR u x1) (fun i => nextU (rowR u i)) (fun i => rowR u i (X i)) i) :=
  (W8_arr m c 10).trans (arr010_at (tcOf (W7 m)) c X _ _ _ _ _ _ _ (W7_xt H) (W7_v27 H) (W7_v17 H) (W7_v30 H) (W7_v15 H) (W7_v28 H) (W7_v29 H) (W7_v31 H))
theorem W8_v32_3 : W8 m c (Proc.devRef .tc main_v32_3) = colW fun i => BitVec.setWidth 32
    (clear1 X (cfR t dt nz) (bR dt nz x1 X) (ciR u) (atR u u) (atR u x1) (fun i => nextU (rowR u i)) i) :=
  (W8_arr m c 11).trans (arr011_at (tcOf (W7 m)) c X _ _ _ _ _ _ (W7_xt H) (W7_v27 H) (W7_v30 H) (W7_v15 H) (W7_v28 H) (W7_v29 H) (W7_v31 H))
end

/-! ## What they mean -/

variable (cf : EReal) (b : Fin 128 → EReal) (x1 u : FVec Ideal S128x100000 .f32) (X : Fin 128 → Fin 100000)

theorem cand_others (i q : Fin 128) : cand X cf b (ciR u) (atR u u) (atR u x1) i q
    = others cf (b i) (rowR x1 i) (rowR u i) (X i) (candIdx (rowR u i) q) := by
  unfold cand candv ciR others
  rw [word_eq]
  by_cases h : candIdx (rowR u i) q = X i
  · rw [if_pos h, decide_eq_true h]; rfl
  · rw [if_neg h, decide_eq_false h]; rfl

theorem of_bit {P : Prop} [Decidable P] (h : BitVec.ofBool (decide P) = 1#1) : P := by
  by_contra hc
  rw [decide_eq_false hc] at h
  exact absurd h (by decide)

/-- A row whose best candidate clears the next number's noise. -/
theorem clear1_best (i : Fin 128) (h : clear1 X cf b (ciR u) (atR u u) (atR u x1) (fun i => nextU (rowR u i)) i = 1#1) :
    ∃ s, Best (others cf (b i) (rowR x1 i) (rowR u i) (X i)) s ∧
      others cf (b i) (rowR x1 i) (rowR u i) (X i) s = cbest X cf b (ciR u) (atR u u) (atR u x1) i ∧
      cidx X cf b (ciR u) (atR u u) (atR u x1) i = BitVec.ofNat 32 s := by
  refine cand_best cf (b i) (rowR x1 i) (rowR u i) (X i) (candIdx (rowR u i)) (ciR u i) (fun _ => rfl) (nextU (rowR u i))
    _ margin_nonneg (nextU_le (rowR u i)) (cand X cf b (ciR u) (atR u u) (atR u x1) i) (cand_others cf b x1 u X i) ?_
  exact of_bit h

/-- … and the current category's too: its best candidate is the sample. -/
theorem clear2_best (hcf : 0 ≤ cf) (hb : ∀ i, 0 ≤ b i) (hx : ∀ i k, 0 ≤ x1 (ix2 i k)) (i : Fin 128)
    (h : clear2 X cf b (ciR u) (atR u u) (atR u x1) (fun i => nextU (rowR u i)) (fun i => rowR u i (X i)) i = 1#1) :
    ∃ s, Best (score cf (b i) (rowR x1 i) (rowR u i) (X i)) s ∧ cidx X cf b (ciR u) (atR u u) (atR u x1) i = BitVec.ofNat 32 s := by
  unfold clear2 at h
  have key : ∀ p q : BitVec 1, IntOp.andi p q = 1#1 → p = 1#1 ∧ q = 1#1 := by decide
  obtain ⟨h1, h2⟩ := key _ _ h
  obtain ⟨s, hs, hv, hi⟩ := clear1_best cf b x1 u X i h1
  refine ⟨s, best_of_others cf (b i) (rowR x1 i) (rowR u i) (X i) s hcf (hb i) (hx i) hs ?_, hi⟩
  rw [hv]
  exact of_bit h2

end Cert.KerValues

end
-- ==== Proof.KerHost3.lean ====
module

public import proofs.«01_k».proof.Proof.RowSpec
public import proofs.«01_k».proof.Proof.Vals2
public import Idealize.ShloMosaic.Lib.Pointwise
public import Idealize.ShloMosaic.Lib.StableHlo.RunRead

@[expose] public section

set_option maxRecDepth 16384

noncomputable section

namespace Cert.KerValues

open Cert.KernelIdeal hiding ix2
open Cert.KernelIdeal.Run Cert.KernelIdeal.Gen Cert.RowSpec
open Idealize.ShloMosaic Idealize.ShloMosaic.TcCoe Idealize.ShloMosaic.Tactic

/-! # The kernel's host buffers of its short arm, as terms -/

variable (m : (ℓ : Loc nD τ sig) → Buf (Elt Ideal) ℓ) (c : Dev nD)

/-- The recomputed rows' numbers. -/
def kv72T (zv41 : IVec S2 32) : IVec S32x1 32 :=
  let zcase0b0_case1b1_v55 := broadcastInDim S2x1 ![0] bcast_S2_S2x1_0 zv41
  let zcase0b0_case1b1_c_11 := constantI S_ 32 16#32
  let zcase0b0_case1b1_v56 := broadcastInDim S2x1 ![] bcast_S_S2x1 zcase0b0_case1b1_c_11
  let zcase0b0_case1b1_v57 := muli zcase0b0_case1b1_v55 zcase0b0_case1b1_v56
  let zcase0b0_case1b1_v58 := iotaInDim S16 32 0
  let zcase0b0_case1b1_v59 := broadcastInDim S1x16 ![1] bcast_S16_S1x16_1 zcase0b0_case1b1_v58
  let zcase0b0_case1b1_v60 := broadcastInDim S2x16 ![0, 1] bcast_S2x1_S2x16_0_1 zcase0b0_case1b1_v57
  let zcase0b0_case1b1_v61 := broadcastInDim S2x16 ![0, 1] bcast_S1x16_S2x16_0_1 zcase0b0_case1b1_v59
  let zcase0b0_case1b1_v62 := addi zcase0b0_case1b1_v60 zcase0b0_case1b1_v61
  let zcase0b0_case1b1_v63 := shapeCast S32 zcase0b0_case1b1_v62 shapeCasts_S2x16_S32
  let zcase0b0_case1b1_c_12 := constantI S_ 32 0#32
  let zcase0b0_case1b1_v65 := broadcastInDim S32 ![] bcast_S_S32 zcase0b0_case1b1_c_12
  let zcase0b0_case1b1_v66 := cmpi .slt zcase0b0_case1b1_v63 zcase0b0_case1b1_v65
  let zcase0b0_case1b1_c_13 := constantI S_ 32 128#32
  let zcase0b0_case1b1_v67 := broadcastInDim S32 ![] bcast_S_S32 zcase0b0_case1b1_c_13
  let zcase0b0_case1b1_v68 := addi zcase0b0_case1b1_v63 zcase0b0_case1b1_v67
  let zcase0b0_case1b1_v69 := select zcase0b0_case1b1_v66 zcase0b0_case1b1_v68 zcase0b0_case1b1_v63
  let zcase0b0_case1b1_v72 : IVec S32x1 32 := broadcastInDim S32x1 ![0] bcast_S32_S32x1_0 zcase0b0_case1b1_v69
  zcase0b0_case1b1_v72

/-- The column's number. -/
def kv73T  : IVec S32x1 32 :=
  let zcase0b0_case1b1_c_14 := constantI S_ 32 0#32
  let zcase0b0_case1b1_v70 := broadcastInDim S32 ![] bcast_S_S32 zcase0b0_case1b1_c_14
  let zcase0b0_case1b1_v71 := id zcase0b0_case1b1_v70
  let zcase0b0_case1b1_v73 : IVec S32x1 32 := broadcastInDim S32x1 ![0] bcast_S32_S32x1_0 zcase0b0_case1b1_v71
  zcase0b0_case1b1_v73

/-- The recomputed choices. -/
def kv64T (zcase0b0_case1b1_v54 : IVec S32x1 32) : IVec S32 32 :=
  let zcase0b0_case1b1_v64 : IVec S32 32 := shapeCast S32 zcase0b0_case1b1_v54 shapeCasts_S32x1_S32
  zcase0b0_case1b1_v64

theorem v72_upto : StableHlo.upto opsL (WL1 m c) 23 (Proc.devRef .tc main_case0b0_case1b1_v72) = kv72T (WL1 m c (Proc.devRef .tc main_v41)) := by
  after_reads_simp
  rfl
theorem v73_upto : StableHlo.upto opsL (WL1 m c) 23 (Proc.devRef .tc main_case0b0_case1b1_v73) = kv73T := by
  after_reads_simp
  rfl

/-- The choices with the recomputed rows' put in their places. -/
def kv75T (z32 : IVec S128x1 32) (z41 : IVec S2 32) (z54 : IVec S32x1 32) : IVec S128x1 32 :=
  Host.scatter scatter_S128x1_S32x2_S32_n_01_01_1 (fun _ b => b) z32
    (concatenate S32x2 1 [⟨S32x1, kv72T z41⟩, ⟨S32x1, kv73T⟩] concatenates_S32x1_S32x1_S32x2_d1) (kv64T z54)

set_option maxHeartbeats 1000000 in
set_option maxRecDepth 100000 in
theorem kv75T_eq : WL2 m c (Proc.devRef .tc main_case0b0_case1b1_v75)
    = kv75T (WL1 m c (Proc.devRef .tc main_v32_1)) (WL1 m c (Proc.devRef .tc main_v41)) (WL1 m c (Proc.devRef .tc main_case0b0_case1b1_v54)) := by
  unfold WL2
  after_reads_simp
  rw [v72_upto, v73_upto]
  rfl

end Cert.KerValues

end
-- ==== Proof.KerVals3.lean ====
module

public import proofs.«01_k».proof.Proof.KerHost3
public import proofs.«01_k».proof.Proof.RegVals2
public import proofs.«01_k».proof.Proof.IdxFacts
public import proofs.«01_k».proof.Proof.Coef
public import Idealize.ShloMosaic.Lib.Routing.OpsSet

@[expose] public section

set_option maxRecDepth 16384

noncomputable section

namespace Cert.KerValues

open Cert.KernelIdeal hiding ix2
open Cert.KernelIdeal.Run Cert.KernelIdeal.Gen Cert.RowSpec
open Idealize.ShloMosaic.Routing
open Idealize.ShloMosaic Idealize.ShloMosaic.TcCoe Idealize.ShloMosaic.Tactic

/-! # The recomputed rows put in their places -/

/-- Where an update lands: at the row its first word names, in the column its second names. -/
theorem lands_row (idx : IVec S32x2 32) (q : Fin 32) (r : Fin 128) (z : Fin 1) :
    scatter_S128x1_S32x2_S32_n_01_01_1.resultIdx? (ix1 q) idx = some (ix2 r z)
      ↔ (idx (ix2 q 0)).toInt = r.val ∧ (idx (ix2 q 1)).toInt = z.val := by
  have hwin : ∀ a : Fin 2, scatter_S128x1_S32x2_S32_n_01_01_1.window (ix1 q) a = 0 := fun a => by
    unfold ScatterDims.window
    exact dif_neg (by revert a; decide)
  have hm : ∀ a : Fin 2, a ∈ scatter_S128x1_S32x2_S32_n_01_01_1.scatterDimsToOperandDims := by decide
  have hsi : ∀ a : Fin 2, scatter_S128x1_S32x2_S32_n_01_01_1.siIdx (ix1 q)
      ⟨scatter_S128x1_S32x2_S32_n_01_01_1.scatterDimsToOperandDims.idxOf a, List.idxOf_lt_length_iff.2 (hm a)⟩ = ix2 q a := fun a => by
    funext b
    apply Fin.ext
    match b with
    | ⟨0, _⟩ =>
      unfold ScatterDims.siIdx
      rw [dif_neg (by exact Nat.zero_ne_one)]
      rfl
    | ⟨1, _⟩ =>
      unfold ScatterDims.siIdx
      rw [dif_pos (by rfl)]
      fin_cases a <;> rfl
  have hstart : ∀ a : Fin 2, scatter_S128x1_S32x2_S32_n_01_01_1.start (ix1 q) idx a = (idx (ix2 q a)).toInt := fun a => by
    unfold ScatterDims.start
    rw [dif_pos (hm a), hsi]
  refine (resultIdx?_ix2 scatter_S128x1_S32x2_S32_n_01_01_1 (ix1 q) idx r z).trans ?_
  rw [hstart, hstart, hwin, hwin]
  simp

variable (z32 : IVec S128x1 32) (z41 : IVec S2 32) (z54 : IVec S32x1 32) (d : Fin 2 → Fin 8) (hd : ∀ t, z41 (ix1 t) = BitVec.ofNat 32 (d t))

theorem kv64T_at (q : Fin 32) : kv64T z54 (ix1 q) = z54 (ix2 q 0) := by
  pointwise [kv64T]

include hd in
theorem kv72T_at (q : Fin 32) : kv72T z41 (ix2 q 0) = BitVec.ofNat 32 (fromRow d q).val := by
  pointwise [kv72T]
  have e : ∀ a b : ℕ, IntOp.addi (IntOp.muli (BitVec.ofNat 32 a) 16#32) (BitVec.ofNat 32 b) = BitVec.ofNat 32 (16 * a + b) := fun a b => by
    show BitVec.ofNat 32 a * 16#32 + BitVec.ofNat 32 b = _
    rw [BitVec.ofNat_add, BitVec.ofNat_mul, BitVec.mul_comm]
  have hlt : 16 * (d ⟨q.val / 16, by omega⟩).val + q.val % 16 < 2147483648 := by
    have := (d ⟨q.val / 16, by omega⟩).isLt
    omega
  rw [hd, e, wrap_word hlt]
  rfl

theorem kv73T_at (q : Fin 32) : kv73T (ix2 q 0) = 0#32 := by
  pointwise [kv73T]
  rfl

include hd in
theorem lands_at (q : Fin 32) (i : Fin 128) :
    scatter_S128x1_S32x2_S32_n_01_01_1.resultIdx? (ix1 q)
      (concatenate S32x2 1 [⟨S32x1, kv72T z41⟩, ⟨S32x1, kv73T⟩] concatenates_S32x1_S32x1_S32x2_d1) = some (ix2 i 0) ↔ fromRow d q = i := by
  rw [lands_row]
  have e0 : concatenate S32x2 1 [⟨S32x1, kv72T z41⟩, ⟨S32x1, kv73T⟩] concatenates_S32x1_S32x1_S32x2_d1 (ix2 q 0) = kv72T z41 (ix2 q 0) := by
    pointwise []
  have e1 : concatenate S32x2 1 [⟨S32x1, kv72T z41⟩, ⟨S32x1, kv73T⟩] concatenates_S32x1_S32x1_S32x2_d1 (ix2 q 1) = kv73T (ix2 q 0) := by
    pointwise []
  rw [e0, e1, kv72T_at z41 d hd q, kv73T_at, toInt_word (by have := (fromRow d q).isLt; omega)]
  constructor
  · rintro ⟨h, -⟩
    exact Fin.ext (by exact_mod_cast h)
  · rintro rfl
    exact ⟨rfl, rfl⟩

include hd in
/-- A recomputed row holds its recomputed choice. -/
theorem kv75T_hit (i : Fin 128) (v : BitVec 32) (hv : ∀ q, fromRow d q = i → z54 (ix2 q 0) = v) (q : Fin 32) (hq : fromRow d q = i) :
    kv75T z32 z41 z54 (ix2 i 0) = v := by
  refine scatter_set_hit _ z32 _ _ (ix2 i 0) v (fun k hk => ?_) (ix1 q) ((lands_at z41 d hd q i).2 hq)
  obtain ⟨p, rfl⟩ : ∃ p : Fin 32, k = ix1 p := ⟨k 0, eq_ix1 k⟩
  rw [kv64T_at]
  exact hv p ((lands_at z41 d hd p i).1 hk)

include hd in
/-- Every other row keeps its choice. -/
theorem kv75T_miss (i : Fin 128) (h : ∀ q, fromRow d q ≠ i) : kv75T z32 z41 z54 (ix2 i 0) = z32 (ix2 i 0) := by
  refine scatter_set_miss _ z32 _ _ (ix2 i 0) fun k hk => ?_
  obtain ⟨p, rfl⟩ : ∃ p : Fin 32, k = ix1 p := ⟨k 0, eq_ix1 k⟩
  exact h p ((lands_at z41 d hd p i).1 hk)

end Cert.KerValues

end
-- ==== Proof.KerHost2.lean ====
module

public import proofs.«01_k».proof.Proof.RowSpec
public import proofs.«01_k».proof.Proof.Vals2
public import Idealize.ShloMosaic.Lib.Pointwise
public import Idealize.ShloMosaic.Lib.StableHlo.RunRead

@[expose] public section

set_option maxRecDepth 16384

noncomputable section

namespace Cert.KerValues

open Cert.KernelIdeal hiding ix2
open Cert.KernelIdeal.Run Cert.KernelIdeal.Gen Cert.RowSpec
open Idealize.ShloMosaic Idealize.ShloMosaic.TcCoe Idealize.ShloMosaic.Tactic

/-! # The kernel's host buffers of its branches, as terms -/

variable (m : (ℓ : Loc nD τ sig) → Buf (Elt Ideal) ℓ) (c : Dev nD)

/-- Which blocks have a row to compute again. -/
def kv36T (zv32_2 : IVec S128x1 32) : IVec S8 1 :=
  let zc_3 := constantI S_ 32 0#32
  let zv33 := broadcastInDim S128x1 ![] bcast_S_S128x1 zc_3
  let zv34 := cmpi .eq zv32_2 zv33
  let zv35 := shapeCast S8x16 zv34 shapeCasts_S128x1_S8x16
  let zc_4 := constantI S_ 1 0#1
  let zv36 : IVec S8 1 := Host.reduce IntOp.ori zv35 zc_4 reducesTo_S8x16_S8_d1 h_S_
  zv36

set_option maxHeartbeats 1000000 in
set_option maxRecDepth 100000 in
theorem kv36T_eq : W9 m c (Proc.devRef .tc main_v36) = kv36T (W8 m c (Proc.devRef .tc main_v32_2)) := by
  unfold W9
  after_reads_simp
  rfl

/-- How many of them. -/
def kv38T (zv32_2 : IVec S128x1 32) : IVec S_ 32 :=
  let zc_3 := constantI S_ 32 0#32
  let zv33 := broadcastInDim S128x1 ![] bcast_S_S128x1 zc_3
  let zv34 := cmpi .eq zv32_2 zv33
  let zv35 := shapeCast S8x16 zv34 shapeCasts_S128x1_S8x16
  let zc_4 := constantI S_ 1 0#1
  let zv36 : IVec S8 1 := Host.reduce IntOp.ori zv35 zc_4 reducesTo_S8x16_S8_d1 h_S_
  let zv37 := (extui 32 · natLt_1_32) zv36
  let zc_5 := constantI S_ 32 0#32
  let zv38 : IVec S_ 32 := Host.reduce IntOp.addi zv37 zc_5 reducesTo_S8_S_d0 h_S_
  zv38

set_option maxHeartbeats 1000000 in
set_option maxRecDepth 100000 in
theorem kv38T_eq : W9 m c (Proc.devRef .tc main_v38) = kv38T (W8 m c (Proc.devRef .tc main_v32_2)) := by
  unfold W9
  after_reads_simp
  rfl

/-- The other blocks. -/
def kv39T (zv32_2 : IVec S128x1 32) : IVec S8 1 :=
  let zc_3 := constantI S_ 32 0#32
  let zv33 := broadcastInDim S128x1 ![] bcast_S_S128x1 zc_3
  let zv34 := cmpi .eq zv32_2 zv33
  let zv35 := shapeCast S8x16 zv34 shapeCasts_S128x1_S8x16
  let zc_4 := constantI S_ 1 0#1
  let zv36 : IVec S8 1 := Host.reduce IntOp.ori zv35 zc_4 reducesTo_S8x16_S8_d1 h_S_
  let zv39 : IVec S8 1 := noti zv36
  zv39

set_option maxHeartbeats 1000000 in
set_option maxRecDepth 100000 in
theorem kv39T_eq : W9 m c (Proc.devRef .tc main_v39) = kv39T (W8 m c (Proc.devRef .tc main_v32_2)) := by
  unfold W9
  after_reads_simp
  rfl

/-- Whether every row is settled. -/
def kv44T (zv32_2 : IVec S128x1 32) : IVec S_ 1 :=
  let zc_6 := constantI S_ 32 1#32
  let zv42 := broadcastInDim S128x1 ![] bcast_S_S128x1 zc_6
  let zv43 := cmpi .eq zv32_2 zv42
  let zc_7 := constantI S_ 1 1#1
  let zv44 : IVec S_ 1 := Host.reduce IntOp.andi zv43 zc_7 reducesTo_S128x1_S_d0_1 h_S_
  zv44

set_option maxHeartbeats 1000000 in
set_option maxRecDepth 100000 in
theorem kv44T_eq : W11 m c (Proc.devRef .tc main_v44) = kv44T (W10 m c (Proc.devRef .tc main_v32_2)) := by
  unfold W11
  after_reads_simp
  rfl

/-- The word of the first branch. -/
def kv45T (zv44 : IVec S_ 1) : IVec S_ 32 :=
  let zv45 : IVec S_ 32 := (extui 32 · natLt_1_32) zv44
  zv45

set_option maxHeartbeats 1000000 in
set_option maxRecDepth 100000 in
theorem kv45T_eq : W12 m c (Proc.devRef .tc main_v45) = kv45T (W11 m c (Proc.devRef .tc main_v44)) := by
  unfold W12
  after_reads_simp
  rfl

/-- Whether the blocks to compute again fit. -/
def kv51T (zv32_3 : IVec S128x1 32) (zv38 : IVec S_ 32) : IVec S_ 1 :=
  let zcase0b0_c_8 := constantI S_ 32 1#32
  let zcase0b0_v47 := broadcastInDim S128x1 ![] bcast_S_S128x1 zcase0b0_c_8
  let zcase0b0_v48 := cmpi .eq zv32_3 zcase0b0_v47
  let zcase0b0_c_9 := constantI S_ 1 1#1
  let zcase0b0_v49 := Host.reduce IntOp.andi zcase0b0_v48 zcase0b0_c_9 reducesTo_S128x1_S_d0_1 h_S_
  let zcase0b0_c_10 := constantI S_ 32 2#32
  let zcase0b0_v50 := cmpi .sle zv38 zcase0b0_c_10
  let zcase0b0_v51 : IVec S_ 1 := andi zcase0b0_v49 zcase0b0_v50
  zcase0b0_v51

set_option maxHeartbeats 1000000 in
set_option maxRecDepth 100000 in
theorem kv51T_eq : W13 m c (Proc.devRef .tc main_case0b0_v51) = kv51T (W12 m c (Proc.devRef .tc main_v32_3)) (W12 m c (Proc.devRef .tc main_v38)) := by
  unfold W13
  after_reads_simp
  rfl

/-- The word of the second branch. -/
def kv52T (zcase0b0_v51 : IVec S_ 1) : IVec S_ 32 :=
  let zcase0b0_v52 : IVec S_ 32 := (extui 32 · natLt_1_32) zcase0b0_v51
  zcase0b0_v52

set_option maxHeartbeats 1000000 in
set_option maxRecDepth 100000 in
theorem kv52T_eq : W14 m c (Proc.devRef .tc main_case0b0_v52) = kv52T (W13 m c (Proc.devRef .tc main_case0b0_v51)) := by
  unfold W14
  after_reads_simp
  rfl

end Cert.KerValues

end
-- ==== Proof.KerVals4.lean ====
module

public import proofs.«01_k».proof.Proof.KerHost2
public import proofs.«01_k».proof.Proof.RegVals2
public import proofs.«01_k».proof.Proof.TableOk
public import proofs.«01_k».proof.Proof.IdxFacts

@[expose] public section

set_option maxRecDepth 16384

noncomputable section

namespace Cert.KerValues

open Cert.KernelIdeal hiding ix2
open Cert.KernelIdeal.Run Cert.KernelIdeal.Gen Cert.RowSpec
open Idealize.ShloMosaic Idealize.ShloMosaic.TcCoe Idealize.ShloMosaic.Tactic

/-! # The flags the branches read -/

theorem andi_one {ι : Type} [DecidableEq ι] (f : ι → BitVec 1) (S : Finset ι) (h : S.fold IntOp.andi 1#1 f = 1#1) : ∀ i ∈ S, f i = 1#1 := by
  have key : ∀ p q : BitVec 1, IntOp.andi p q = 1#1 → p = 1#1 ∧ q = 1#1 := by decide
  induction S using Finset.induction_on with
  | empty => intro i hi; exact absurd hi (Finset.notMem_empty i)
  | insert a S ha ih =>
    rw [Finset.fold_insert ha] at h
    obtain ⟨h1, h2⟩ := key _ _ h
    intro i hi
    rcases Finset.mem_insert.1 hi with rfl | hi
    · exact h1
    · exact ih h2 i hi

theorem ori_zero {ι : Type} [DecidableEq ι] (f : ι → BitVec 1) (S : Finset ι) (h : S.fold IntOp.ori 0#1 f = 0#1) : ∀ i ∈ S, f i = 0#1 := by
  have key : ∀ p q : BitVec 1, IntOp.ori p q = 0#1 → p = 0#1 ∧ q = 0#1 := by decide
  induction S using Finset.induction_on with
  | empty => intro i hi; exact absurd hi (Finset.notMem_empty i)
  | insert a S ha ih =>
    rw [Finset.fold_insert ha] at h
    obtain ⟨h1, h2⟩ := key _ _ h
    intro i hi
    rcases Finset.mem_insert.1 hi with rfl | hi
    · exact h1
    · exact ih h2 i hi

theorem ori_comm : Std.Commutative (IntOp.ori : BitVec 1 → BitVec 1 → BitVec 1) := ⟨by decide⟩

/-- The order of eight blocks by their flags. -/
def ord8 (w : Fin 8 → BitVec 1) : Fin 8 → Fin 8 := sortedFrom fun k k' => IntOp.cmpi .ult (w k) (w k') == 1#1

/-- When at most two blocks are bad, both are among the first two of the order. -/
theorem short_order : ∀ w : Fin 8 → Bool,
    (Finset.univ.fold IntOp.addi 0#32 (fun j => BitVec.setWidth 32 (BitVec.ofBool (w j)))).sle 2#32 = true →
    ∀ j, w j = true → ord8 (fun k => ~~~ BitVec.ofBool (w k)) 0 = j ∨ ord8 (fun k => ~~~ BitVec.ofBool (w k)) 1 = j := by
  decide +kernel

variable (f : Fin 128 → BitVec 1)

theorem bit_one : ∀ p : BitVec 1, IntOp.cmpi CmpIPredicate.eq (BitVec.setWidth 32 p) 1#32 = 1#1 → p = 1#1 := by decide
theorem bit_not_zero : ∀ p : BitVec 1, IntOp.cmpi CmpIPredicate.eq (BitVec.setWidth 32 p) 0#32 = 0#1 → p = 1#1 := by decide

/-- The first flag: every row is settled. -/
theorem kv44T_one (h : kv44T (colW fun i => BitVec.setWidth 32 (f i)) ix0 = 1#1) : ∀ i, f i = 1#1 := by
  revert h
  pointwise [kv44T]
  intro h i
  exact bit_one _ (andi_one _ _ h (i, 0) (Finset.mem_univ _))

theorem kv36T_at (z : IVec S128x1 32) (j : Fin 8) : kv36T z (ix1 j)
    = Finset.univ.fold IntOp.ori 0#1 (fun r : Fin 16 => IntOp.cmpi CmpIPredicate.eq (z (ix2 ⟨j.val * 16 + r.val, by omega⟩ 0)) 0#32) := by
  pointwise [kv36T]

/-- A block that is not bad has no bad row. -/
theorem block_good (j : Fin 8) (h : kv36T (colW fun i => BitVec.setWidth 32 (f i)) (ix1 j) = 0#1) (i : Fin 128) (hi : i.val / 16 = j.val) : f i = 1#1 := by
  rw [kv36T_at] at h
  have h1 := ori_zero _ _ h ⟨i.val % 16, by omega⟩ (Finset.mem_univ _)
  have e : (⟨j.val * 16 + i.val % 16, by omega⟩ : Fin 128) = i := Fin.ext (by show j.val * 16 + i.val % 16 = i.val; omega)
  have h2 : IntOp.cmpi CmpIPredicate.eq (BitVec.setWidth 32 (f ⟨j.val * 16 + i.val % 16, by omega⟩)) 0#32 = 0#1 := h1
  rw [e] at h2
  exact bit_not_zero _ h2

theorem kv39T_at (z : IVec S128x1 32) (j : Fin 8) : kv39T z (ix1 j) = ~~~ (kv36T z (ix1 j)) := by
  rfl
theorem kv38T_at (z : IVec S128x1 32) : kv38T z ix0 = Finset.univ.fold IntOp.addi 0#32 (fun j => BitVec.setWidth 32 (kv36T z (ix1 j))) := by
  simp only [kv36T_at]
  pointwise [kv38T]

/-- The second flag: every row's best candidate is the best of the others, and the bad blocks are few. -/
theorem kv51T_at (z38 : IVec S_ 32) (h : kv51T (colW fun i => BitVec.setWidth 32 (f i)) z38 ix0 = 1#1) : (∀ i, f i = 1#1) ∧ (z38 ix0).sle 2#32 = true := by
  revert h
  pointwise [kv51T]
  intro h
  have key : ∀ p q : BitVec 1, IntOp.andi p q = 1#1 → p = 1#1 ∧ q = 1#1 := by decide
  obtain ⟨h1, h2⟩ := key _ _ h
  refine ⟨fun i => bit_one _ (andi_one _ _ h1 (i, 0) (Finset.mem_univ _)), ?_⟩
  have h3 : BitVec.ofBool ((z38 ix0).sle 2#32) = 1#1 := h2
  revert h3
  cases (z38 ix0).sle 2#32
  · intro h; exact absurd h (by decide)
  · intro _; rfl

/-- The blocks computed again. -/
def twoBlk (v : IVec S8 1) (t : Fin 2) : Fin 8 := ordFrom v ⟨t.val, by omega⟩

/-- A bad row is computed again. -/
theorem bad_row (h : (kv38T (colW fun i => BitVec.setWidth 32 (f i)) ix0).sle 2#32 = true) (i : Fin 128) (hi : f i ≠ 1#1) :
    ∃ q : Fin 32, fromRow (twoBlk (kv39T (colW fun i => BitVec.setWidth 32 (f i)))) q = i := by
  generalize hz : (colW fun i => BitVec.setWidth 32 (f i)) = z at h
  have bit : ∀ p : BitVec 1, BitVec.ofBool (decide (p = 1#1)) = p := by decide
  have hj : kv36T z (ix1 (⟨i.val / 16, by omega⟩ : Fin 8)) = 1#1 := by
    have two : ∀ p : BitVec 1, p ≠ 0#1 → p = 1#1 := by decide
    refine two _ fun h0 => hi (block_good f _ (by rw [hz]; exact h0) i rfl)
  have hs := short_order (fun k => decide (kv36T z (ix1 k) = 1#1)) (by
    simp only [bit]
    rw [← kv38T_at]; exact h) ⟨i.val / 16, by omega⟩ (decide_eq_true hj)
  simp only [bit] at hs
  have ho : ord8 (fun k => ~~~ (kv36T z (ix1 k))) = ordFrom (kv39T z) := rfl
  rw [ho] at hs
  have fin : ∀ t : Fin 2, twoBlk (kv39T z) t = ⟨i.val / 16, by omega⟩ → ∃ q : Fin 32, fromRow (twoBlk (kv39T z)) q = i := by
    intro t ht
    refine ⟨⟨16 * t.val + i.val % 16, by omega⟩, Fin.ext ?_⟩
    have e : (⟨(16 * t.val + i.val % 16) / 16, by omega⟩ : Fin 2) = t := Fin.ext (by show (16 * t.val + i.val % 16) / 16 = t.val; omega)
    show 16 * (twoBlk (kv39T z) ⟨(16 * t.val + i.val % 16) / 16, by omega⟩).val + (16 * t.val + i.val % 16) % 16 = i.val
    rw [e, ht]
    show 16 * (i.val / 16) + (16 * t.val + i.val % 16) % 16 = i.val
    omega
  rcases hs with hs | hs
  · exact fin 0 hs
  · exact fin 1 hs

end Cert.KerValues

end
-- ==== Proof.KerVals5.lean ====
module

public import proofs.«01_k».proof.Proof.KerVals2
public import proofs.«01_k».proof.Proof.KerVals3
public import proofs.«01_k».proof.Proof.KerVals4

@[expose] public section

set_option maxRecDepth 16384

noncomputable section

namespace Cert.KerValues

open Cert.KernelIdeal hiding ix2
open Cert.KernelIdeal.Run Cert.KernelIdeal.Gen Cert.RowSpec
open Idealize.ShloMosaic Idealize.ShloMosaic.TcCoe Idealize.ShloMosaic.Tactic

/-! # The kernel's result is the samples' indicators -/

section
variable (m : (ℓ : Loc nD τ sig) → Buf (Elt Ideal) ℓ) (c : Dev nD)
theorem W14_v15_keep : W14 m c (Proc.devRef .tc main_v15) = W7 m c (Proc.devRef .tc main_v15) :=
  ((W14_of m c main_v15 (by decide))).trans (((W13_of m c main_v15 (by decide))).trans (((W12_of m c main_v15 (by decide))).trans (((W11_of m c main_v15 (by decide))).trans (((W10_of m c main_v15 (by decide))).trans (((W9_of m c main_v15 (by decide))).trans ((W8_of m c main_v15 (by decide +kernel))))))))
theorem W14_v27_keep : W14 m c (Proc.devRef .tc main_v27) = W7 m c (Proc.devRef .tc main_v27) :=
  ((W14_of m c main_v27 (by decide))).trans (((W13_of m c main_v27 (by decide))).trans (((W12_of m c main_v27 (by decide))).trans (((W11_of m c main_v27 (by decide))).trans (((W10_of m c main_v27 (by decide))).trans (((W9_of m c main_v27 (by decide))).trans ((W8_of m c main_v27 (by decide +kernel))))))))
theorem W14_v21_keep : W14 m c (Proc.devRef .tc main_v21) = W7 m c (Proc.devRef .tc main_v21) :=
  ((W14_of m c main_v21 (by decide))).trans (((W13_of m c main_v21 (by decide))).trans (((W12_of m c main_v21 (by decide))).trans (((W11_of m c main_v21 (by decide))).trans (((W10_of m c main_v21 (by decide))).trans (((W9_of m c main_v21 (by decide))).trans ((W8_of m c main_v21 (by decide +kernel))))))))
theorem W14_v32_0_keep : W14 m c (Proc.devRef .tc main_v32_0) = W8 m c (Proc.devRef .tc main_v32_0) :=
  ((W14_of m c main_v32_0 (by decide))).trans (((W13_of m c main_v32_0 (by decide))).trans (((W12_of m c main_v32_0 (by decide))).trans (((W11_of m c main_v32_0 (by decide))).trans (((W10_of m c main_v32_0 (by decide))).trans ((W9_of m c main_v32_0 (by decide)))))))
theorem W14_v32_1_keep : W14 m c (Proc.devRef .tc main_v32_1) = W8 m c (Proc.devRef .tc main_v32_1) :=
  ((W14_of m c main_v32_1 (by decide))).trans (((W13_of m c main_v32_1 (by decide))).trans (((W12_of m c main_v32_1 (by decide))).trans (((W11_of m c main_v32_1 (by decide))).trans (((W10_of m c main_v32_1 (by decide))).trans ((W9_of m c main_v32_1 (by decide)))))))
theorem W14_arg0_keep : W14 m c (Proc.devRef .tc main_arg0) = W0 m c (Proc.devRef .tc main_arg0) :=
  ((W14_of m c main_arg0 (by decide))).trans (((W13_of m c main_arg0 (by decide))).trans (((W12_of m c main_arg0 (by decide))).trans (((W11_of m c main_arg0 (by decide))).trans (((W10_of m c main_arg0 (by decide))).trans (((W9_of m c main_arg0 (by decide))).trans (((W8_of m c main_arg0 (by decide +kernel))).trans (((W7_of m c main_arg0 (by decide))).trans (((W6_of m c main_arg0 (by decide))).trans (((W5_of m c main_arg0 (by decide))).trans (((W4_of m c main_arg0 (by decide))).trans (((W3_of m c main_arg0 (by decide))).trans (((W2_of m c main_arg0 (by decide))).trans ((W1_of m c main_arg0 (by decide)))))))))))))))
theorem W14_arg1_keep : W14 m c (Proc.devRef .tc main_arg1) = W0 m c (Proc.devRef .tc main_arg1) :=
  ((W14_of m c main_arg1 (by decide))).trans (((W13_of m c main_arg1 (by decide))).trans (((W12_of m c main_arg1 (by decide))).trans (((W11_of m c main_arg1 (by decide))).trans (((W10_of m c main_arg1 (by decide))).trans (((W9_of m c main_arg1 (by decide))).trans (((W8_of m c main_arg1 (by decide +kernel))).trans (((W7_of m c main_arg1 (by decide))).trans (((W6_of m c main_arg1 (by decide))).trans (((W5_of m c main_arg1 (by decide))).trans (((W4_of m c main_arg1 (by decide))).trans (((W3_of m c main_arg1 (by decide))).trans (((W2_of m c main_arg1 (by decide))).trans ((W1_of m c main_arg1 (by decide)))))))))))))))
theorem W14_arg6_keep : W14 m c (Proc.devRef .tc main_arg6) = W0 m c (Proc.devRef .tc main_arg6) :=
  ((W14_of m c main_arg6 (by decide))).trans (((W13_of m c main_arg6 (by decide))).trans (((W12_of m c main_arg6 (by decide))).trans (((W11_of m c main_arg6 (by decide))).trans (((W10_of m c main_arg6 (by decide))).trans (((W9_of m c main_arg6 (by decide))).trans (((W8_of m c main_arg6 (by decide +kernel))).trans (((W7_of m c main_arg6 (by decide))).trans (((W6_of m c main_arg6 (by decide))).trans (((W5_of m c main_arg6 (by decide))).trans (((W4_of m c main_arg6 (by decide))).trans (((W3_of m c main_arg6 (by decide))).trans (((W2_of m c main_arg6 (by decide))).trans ((W1_of m c main_arg6 (by decide)))))))))))))))
theorem W12_v32_1_keep : W12 m c (Proc.devRef .tc main_v32_1) = W8 m c (Proc.devRef .tc main_v32_1) :=
  ((W12_of m c main_v32_1 (by decide))).trans (((W11_of m c main_v32_1 (by decide))).trans (((W10_of m c main_v32_1 (by decide))).trans ((W9_of m c main_v32_1 (by decide)))))
theorem W10_v32_2_keep : W10 m c (Proc.devRef .tc main_v32_2) = W8 m c (Proc.devRef .tc main_v32_2) :=
  ((W10_of m c main_v32_2 (by decide))).trans ((W9_of m c main_v32_2 (by decide)))
theorem W12_v32_3_keep : W12 m c (Proc.devRef .tc main_v32_3) = W8 m c (Proc.devRef .tc main_v32_3) :=
  ((W12_of m c main_v32_3 (by decide))).trans (((W11_of m c main_v32_3 (by decide))).trans (((W10_of m c main_v32_3 (by decide))).trans ((W9_of m c main_v32_3 (by decide)))))
theorem W12_v38_keep : W12 m c (Proc.devRef .tc main_v38) = W9 m c (Proc.devRef .tc main_v38) :=
  ((W12_of m c main_v38 (by decide))).trans (((W11_of m c main_v38 (by decide))).trans ((W10_of m c main_v38 (by decide))))

theorem WB2_v46 : WB2 m c (Proc.devRef .tc main_v46) = WB1 m c (Proc.devRef .tc main_case0b1_v47) := by
  unfold WB2; after_reads_simp; rfl
theorem WF3_v46 : WF3 m c (Proc.devRef .tc main_v46) = WF1 m c (Proc.devRef .tc main_case0b0_case1b0_v54) := by
  unfold WF3; after_reads_simp; unfold WF2; after_reads_simp; rfl
theorem WL5_v46 : WL5 m c (Proc.devRef .tc main_v46) = WL3 m c (Proc.devRef .tc main_case0b0_case1b1_v76) := by
  unfold WL5; after_reads_simp; unfold WL4; after_reads_simp; rfl

theorem ord_two (v w : IVec S8 1) (h : v = w) (p : Fin 2) (q : Fin 8) (hq : q.val = p.val) : BitVec.ofNat 32 (ordFrom v q).val = BitVec.ofNat 32 (twoBlk w p).val := by
  subst h
  have e : q = ⟨p.val, by omega⟩ := Fin.ext hq
  rw [e]
  rfl

theorem W14_v41_two (p : Fin 2) : W14 m 0 (Proc.devRef .tc main_v41) (ix1 p) = BitVec.ofNat 32 (twoBlk (kv39T (W8 m 0 (Proc.devRef .tc main_v32_2))) p).val := by
  have h := W14_v41_at m 0 (ix1 p)
  exact h.trans (ord_two _ _ (kv39T_eq m 0) p _ rfl)

theorem tab_ref : pre2.ref 0 = main_v41 := rfl
theorem a2_fst : (a2 m).1 = fun k => W14 m 0 (Proc.devRef .tc (pre2.ref k)) := rfl
theorem a2_at (j : S2.Idx) : (show IVec S2 32 from W14 m 0 (Proc.devRef .tc (pre2.ref 0))) j = W14 m 0 (Proc.devRef .tc main_v41) j := by
  rfl

theorem table_two (p : Fin 2) : (a2 m).1 0 (ix1 p) = BitVec.ofNat 32 (twoBlk (kv39T (W8 m 0 (Proc.devRef .tc main_v32_2))) p).val := by
  rw [a2_fst]
  exact W14_v41_two m p
theorem WL1_v41_keep  : WL1 m c (Proc.devRef .tc main_v41) = W14 m c (Proc.devRef .tc main_v41) := WL1_of m c main_v41
  (show ∀ w : Fin 8, Pipeline.arrRef spec2 w = main_v41 → (spec2 w).isOut = false from by decide +kernel)
theorem WL1_v32_1_keep  : WL1 m c (Proc.devRef .tc main_v32_1) = W14 m c (Proc.devRef .tc main_v32_1) := WL1_of m c main_v32_1
  (show ∀ w : Fin 8, Pipeline.arrRef spec2 w = main_v32_1 → (spec2 w).isOut = false from by decide +kernel)

theorem idx0_eq : (HostLoop.idx0 : S_.Idx) = ix0 := Subsingleton.elim _ _

theorem branch_bit : ∀ p : BitVec 1, ¬ HostLoop.branch (BitVec.setWidth 32 p) 1 = 0 → p = 1#1 := by decide

theorem word1_eq : word1 m c = BitVec.setWidth 32 (kv44T (W8 m c (Proc.devRef .tc main_v32_2)) ix0) := by
  unfold word1
  rw [kv45T_eq, kv44T_eq, W10_v32_2_keep, idx0_eq]
  rfl
theorem word2_eq : word2 m c = BitVec.setWidth 32 (kv51T (W8 m c (Proc.devRef .tc main_v32_3)) (kv38T (W8 m c (Proc.devRef .tc main_v32_2))) ix0) := by
  unfold word2
  rw [kv52T_eq, kv51T_eq, W12_v32_3_keep, W12_v38_keep, kv38T_eq, idx0_eq]
  rfl
end

section
variable {m : (ℓ : Loc nD τ sig) → Buf (Elt Ideal) ℓ} {c : Dev nD}
    {xt : IVec S128x1 32} {x1 : FVec Ideal S128x100000 .f32} {t dt : FVec Ideal S1 .f32} {nz : IVec S_ 32} {u : FVec Ideal S128x100000 .f32}
    {X : Fin 128 → Fin 100000} (H : Holds m c xt x1 t dt nz u X)
    (s : Fin 128 → Fin 100000) (hs : ∀ i, Best (score (cfR t dt nz) (bR dt nz x1 X i) (rowR x1 i) (rowR u i) (X i)) (s i))
include H hs

/-- A settled row's best candidate is its sample. -/
theorem settled_row (hcf : 0 ≤ cfR t dt nz) (hb : ∀ i, 0 ≤ bR dt nz x1 X i) (hx : ∀ i k, 0 ≤ x1 (ix2 i k)) (i : Fin 128)
    (h : clear2 X (cfR t dt nz) (bR dt nz x1 X) (ciR u) (atR u u) (atR u x1) (fun i => nextU (rowR u i)) (fun i => rowR u i (X i)) i = 1#1) :
    cidx X (cfR t dt nz) (bR dt nz x1 X) (ciR u) (atR u u) (atR u x1) i = BitVec.ofNat 32 (s i).val := by
  obtain ⟨s', h1, h2⟩ := clear2_best (cfR t dt nz) (bR dt nz x1 X) x1 u X hcf hb hx i h
  rw [h2, h1.unique (hs i)]

theorem all_settled (hcf : 0 ≤ cfR t dt nz) (hb : ∀ i, 0 ≤ bR dt nz x1 X i) (hx : ∀ i k, 0 ≤ x1 (ix2 i k))
    (hw : ¬ HostLoop.branch (word1 m c) 1 = 0) : WB2 m c (Proc.devRef .tc main_v46) = hots s := by
  rw [word1_eq, W8_v32_2 H] at hw
  have hc := kv44T_one _ (branch_bit _ hw)
  rw [WB2_v46]
  refine (WB1_arr m c 1).trans (arr4_at (tcOf (W12 m)) c s fun i => ?_)
  show W12 m c (Proc.devRef .tc main_v32_1) (ix2 i 0) = _
  rw [W12_v32_1_keep, W8_v32_1 H]
  exact settled_row H s hs hcf hb hx i (hc i)

theorem whole_rows : WF3 m c (Proc.devRef .tc main_v46) = hots s := by
  rw [WF3_v46]
  refine (WF1_arr m c 6).trans (arr1_at (tcOf (W14 m)) c X (cfR t dt nz) (bR dt nz x1 X) (rowR x1) (rowR u) ?_ ?_ ?_ ?_ ?_ ?_ s hs)
  · intro i
    show W14 m c (Proc.devRef .tc main_arg0) (ix2 i 0) = _
    rw [W14_arg0_keep, H.e0]; exact H.hX i
  · intro i
    show W14 m c (Proc.devRef .tc main_v27) (ix2 i 0) = _
    rw [W14_v27_keep]; exact W7_v27 H i
  · intro i
    show W14 m c (Proc.devRef .tc main_v21) (ix2 i 0) = _
    rw [W14_v21_keep]; exact W7_v21 H i
  · show W14 m c (Proc.devRef .tc main_v15) (ix1 0) = _
    rw [W14_v15_keep]; exact W7_v15 H
  · intro i k
    show W14 m c (Proc.devRef .tc main_arg1) (ix2 i k) = _
    rw [W14_arg1_keep, H.e1]; rfl
  · intro i k
    show W14 m c (Proc.devRef .tc main_arg6) (ix2 i k) = _
    rw [W14_arg6_keep, H.e6]; rfl

/-- The recomputed choices. -/
theorem WL1_v54 (d : Fin 2 → Fin 8) (hd : ∀ t, (a2 m).1 0 (ix1 t) = BitVec.ofNat 32 (d t)) :
    WL1 m c (Proc.devRef .tc main_case0b0_case1b1_v54) = colQ fun q => pick (BitVec.ofNat 32 (X (fromRow d q)))
      (lgp (left (cfR t dt nz) (bR dt nz x1 X (fromRow d q)) (rowR x1 (fromRow d q)) (X (fromRow d q))) + gum (rowR u (fromRow d q) (X (fromRow d q))))
      (cbest X (cfR t dt nz) (bR dt nz x1 X) (ciR u) (atR u u) (atR u x1) (fromRow d q))
      (cidx X (cfR t dt nz) (bR dt nz x1 X) (ciR u) (atR u u) (atR u x1) (fromRow d q)) := by
  refine (WL1_arr m c 7).trans (arr2_at (tcOf (W14 m)) (a2 m) c d hd X (cfR t dt nz) (bR dt nz x1 X) (fun i => gum (rowR u i (X i)))
    (cbest X (cfR t dt nz) (bR dt nz x1 X) (ciR u) (atR u u) (atR u x1)) (cidx X (cfR t dt nz) (bR dt nz x1 X) (ciR u) (atR u u) (atR u x1)) (rowR x1) ?_ ?_ ?_ ?_ ?_ ?_ ?_)
  · intro i
    show W14 m c (Proc.devRef .tc main_arg0) (ix2 i 0) = _
    rw [W14_arg0_keep, H.e0]; exact H.hX i
  · intro i
    show W14 m c (Proc.devRef .tc main_v27) (ix2 i 0) = _
    rw [W14_v27_keep]; exact W7_v27 H i
  · intro i
    show W14 m c (Proc.devRef .tc main_v21) (ix2 i 0) = _
    rw [W14_v21_keep]; exact W7_v21 H i
  · intro i
    show W14 m c (Proc.devRef .tc main_v32_0) (ix2 i 0) = _
    rw [W14_v32_0_keep, W8_v32 H]; rfl
  · intro i
    show W14 m c (Proc.devRef .tc main_v32_1) (ix2 i 0) = _
    rw [W14_v32_1_keep, W8_v32_1 H]; rfl
  · show W14 m c (Proc.devRef .tc main_v15) (ix1 0) = _
    rw [W14_v15_keep]; exact W7_v15 H
  · intro i k
    show W14 m c (Proc.devRef .tc main_arg1) (ix2 i k) = _
    rw [W14_arg1_keep, H.e1]; rfl

/-- A row's recomputed choice is its sample, where its best candidate is the best of the others. -/
theorem picked_row (i : Fin 128) (h : clear1 X (cfR t dt nz) (bR dt nz x1 X) (ciR u) (atR u u) (atR u x1) (fun i => nextU (rowR u i)) i = 1#1) :
    pick (BitVec.ofNat 32 (X i)) (lgp (left (cfR t dt nz) (bR dt nz x1 X i) (rowR x1 i) (X i)) + gum (rowR u i (X i)))
      (cbest X (cfR t dt nz) (bR dt nz x1 X) (ciR u) (atR u u) (atR u x1) i)
      (cidx X (cfR t dt nz) (bR dt nz x1 X) (ciR u) (atR u u) (atR u x1) i) = BitVec.ofNat 32 (s i).val := by
  obtain ⟨z, hz1, hz2, hz3⟩ := clear1_best (cfR t dt nz) (bR dt nz x1 X) x1 u X i h
  obtain ⟨s', hs1, hs2⟩ := pick_best _ _ _ _ _ z hz1
  rw [hz3, ← hz2, hs2, hs1.unique (hs i)]

/-- The choices the short arm ends with. -/
theorem short_choice (d : Fin 2 → Fin 8) (hd : ∀ p, (a2 m).1 0 (ix1 p) = BitVec.ofNat 32 (d p))
    (h41 : ∀ p : Fin 2, WL1 m c (Proc.devRef .tc main_v41) (ix1 p) = BitVec.ofNat 32 (d p))
    (hcf : 0 ≤ cfR t dt nz) (hb : ∀ i, 0 ≤ bR dt nz x1 X i) (hx : ∀ i k, 0 ≤ x1 (ix2 i k))
    (h1 : ∀ i, clear1 X (cfR t dt nz) (bR dt nz x1 X) (ciR u) (atR u u) (atR u x1) (fun i => nextU (rowR u i)) i = 1#1)
    (hbad : ∀ i, (∀ q, fromRow d q ≠ i) →
      clear2 X (cfR t dt nz) (bR dt nz x1 X) (ciR u) (atR u u) (atR u x1) (fun i => nextU (rowR u i)) (fun i => rowR u i (X i)) i = 1#1)
    (i : Fin 128) : WL2 m c (Proc.devRef .tc main_case0b0_case1b1_v75) (ix2 i 0) = BitVec.ofNat 32 (s i).val := by
  rw [kv75T_eq]
  by_cases hq : ∃ q, fromRow d q = i
  · obtain ⟨q, hq⟩ := hq
    refine kv75T_hit _ _ _ d h41 i _ (fun q hq => ?_) q hq
    rw [WL1_v54 H s hs d hd]
    subst hq
    exact picked_row H s hs _ (h1 _)
  · have hq : ∀ q, fromRow d q ≠ i := fun q e => hq ⟨q, e⟩
    rw [kv75T_miss _ _ _ d h41 i hq, WL1_v32_1_keep, W14_v32_1_keep, W8_v32_1 H]
    exact settled_row H s hs hcf hb hx i (hbad i hq)

theorem short_rows (hcf : 0 ≤ cfR t dt nz) (hb : ∀ i, 0 ≤ bR dt nz x1 X i) (hx : ∀ i k, 0 ≤ x1 (ix2 i k))
    (hw : ¬ HostLoop.branch (word2 m c) 1 = 0) : WL5 m c (Proc.devRef .tc main_v46) = hots s := by
  obtain rfl : c = 0 := Subsingleton.elim _ _
  rw [word2_eq, W8_v32_3 H] at hw
  obtain ⟨h1, hcount⟩ := kv51T_at _ _ (branch_bit _ hw)
  rw [WL5_v46]
  refine (WL3_arr m 0 1).trans (arr3_at (tcOf (WL2 m)) 0 s fun i => ?_)
  show WL2 m 0 (Proc.devRef .tc main_case0b0_case1b1_v75) (ix2 i 0) = _
  refine short_choice H s hs _ (table_two m) (fun p => ?_) hcf hb hx h1 (fun i h => ?_) i
  · rw [WL1_v41_keep]
    exact W14_v41_two m p
  · by_contra hc
    rw [W8_v32_2 H] at hcount h
    obtain ⟨q, hq⟩ := bad_row _ hcount i hc
    exact h q hq

/-- The kernel returns the indicators of the samples. -/
theorem ker_value (hcf : 0 ≤ cfR t dt nz) (hb : ∀ i, 0 ≤ bR dt nz x1 X i) (hx : ∀ i k, 0 ≤ x1 (ix2 i k)) :
    Wend m c (Proc.devRef .tc main_v46) = hots s := by
  unfold Wend
  split
  · split
    · exact whole_rows H s hs
    · exact short_rows H s hs hcf hb hx ‹_›
  · exact all_settled H s hs hcf hb hx ‹_›
end

end Cert.KerValues

end
-- ==== Proof.PreVals.lean ====
module

public import proofs.«01_k».proof.Pre_inputs
public import proofs.«01_k».proof.Proof.KerVals2
public import proofs.«01_k».proof.Proof.KerVals4

@[expose] public section

set_option maxRecDepth 16384

noncomputable section

namespace Cert.PreValues

open Cert.Pre_inputs
open Cert.RowSpec Cert.KerValues
open Idealize.ShloMosaic Idealize.ShloMosaic.TcCoe Idealize.ShloMosaic.Tactic

/-! # What the precondition says -/

/-- The side conditions of the precondition's operations. -/
theorem facts : Cert.Pre_inputs.Facts where
  bcast_S_S128x1 := by decide
  reducesTo_S128x1_S_d0_1 := by decide
  h_S_ := by decide
  bcast_S_S128x100000 := by decide
  reducesTo_S128x100000_S_d0_1 := by decide
  bcast_S_S1 := by decide
  reducesTo_S1_S_d0 := by decide

variable [Cert.Pre_inputs.Facts]

/-- A conjunction of two bits holds where both do. -/
theorem both (p q : BitVec 1) : IntOp.andi p q = 1#1 → p = 1#1 ∧ q = 1#1 := by
  revert p q; decide

/-- A signed comparison of words that holds, as integers. -/
theorem sge_int {a b : BitVec 32} (h : IntOp.cmpi .sge a b = 1#1) : b.toInt ≤ a.toInt := by
  have h' : BitVec.ofBool (decide (b.toInt ≤ a.toInt)) = 1#1 := by
    rw [← h]; simp [IntOp.cmpi, BitVec.sle_eq_decide]
  exact of_bit h'

theorem sle_int {a b : BitVec 32} (h : IntOp.cmpi .sle a b = 1#1) : a.toInt ≤ b.toInt := by
  have h' : BitVec.ofBool (decide (a.toInt ≤ b.toInt)) = 1#1 := by
    rw [← h]; simp [IntOp.cmpi, BitVec.sle_eq_decide]
  exact of_bit h'

theorem slt_int {a b : BitVec 32} (h : IntOp.cmpi .slt a b = 1#1) : a.toInt < b.toInt := by
  have h' : BitVec.ofBool (decide (a.toInt < b.toInt)) = 1#1 := by
    rw [← h]; simp [IntOp.cmpi, BitVec.slt_eq_decide]
  exact of_bit h'

/-- A word between zero and a bound is that number's word. -/
theorem word_between {a : BitVec 32} {n : ℤ} (h0 : 0 ≤ a.toInt) (h1 : a.toInt < n) : (a.toInt.toNat : ℤ) < n ∧ a = BitVec.ofNat 32 a.toInt.toNat := by
  refine ⟨by omega, BitVec.eq_of_toInt_eq ?_⟩
  have hl := BitVec.toInt_lt (x := a)
  rw [toInt_word (by omega)]
  omega

/-- The precondition, taken apart: the current categories are categories, the predictions, the time and the
    step are not below zero, and the noise is a number up to 21475. -/
theorem unpack (xt : IVec S128x1 32) (x1 x0 : FVec Ideal S128x100000 .f32) (t : FVec Ideal S1 .f32) (nz : IVec S_ 32) (dt : FVec Ideal S1 .f32)
    (u : FVec Ideal S128x100000 .f32) (h : Cert.Pre_inputs.fn (F := Ideal) xt x1 x0 t nz dt u = fun _ => 1#1) :
    (∃ X : Fin 128 → Fin 100000, ∀ i, xt (ix2 i 0) = BitVec.ofNat 32 (X i)) ∧ (∀ i k, (0 : EReal) ≤ x1 (ix2 i k)) ∧ (0 : EReal) ≤ t (ix1 0)
      ∧ NoiseOk (nz ix0) ∧ (0 : EReal) ≤ dt (ix1 0) := by
  have h' := congrFun h ix0
  revert h'
  pointwise [Cert.Pre_inputs.fn, Cert.Pre_inputs.fn_part1]
  intro h'
  obtain ⟨h', hdt⟩ := both _ _ h'
  obtain ⟨h', hn1⟩ := both _ _ h'
  obtain ⟨h', hn0⟩ := both _ _ h'
  obtain ⟨h', ht⟩ := both _ _ h'
  obtain ⟨hxt, hx1⟩ := both _ _ h'
  refine ⟨?_, fun i k => of_bit (andi_one _ _ hx1 (i, k) (Finset.mem_univ _)), of_bit (andi_one _ _ ht 0 (Finset.mem_univ _)), ?_,
    of_bit (andi_one _ _ hdt 0 (Finset.mem_univ _))⟩
  · have hw : ∀ i : Fin 128, ∃ a : Fin 100000, xt (ix2 i 0) = BitVec.ofNat 32 a := by
      intro i
      obtain ⟨ha, hb⟩ := both _ _ (andi_one _ _ hxt (i, 0) (Finset.mem_univ _))
      obtain ⟨hl, he⟩ := word_between (n := 100000) (sge_int ha) (slt_int hb)
      have hl' : (xt (ix2 i 0)).toInt.toNat < 100000 := by exact_mod_cast hl
      exact ⟨⟨(xt (ix2 i 0)).toInt.toNat, hl'⟩, he⟩
    exact ⟨fun i => (hw i).choose, fun i => (hw i).choose_spec⟩
  · have h0 : 0 ≤ (nz ix0).toInt := sge_int hn0
    have h1 : (nz ix0).toInt ≤ 21475 := sle_int hn1
    exact ⟨(nz ix0).toInt.toNat, by omega, (word_between (n := 21476) h0 (by omega)).2⟩

end Cert.PreValues

end
-- ==== Proof.Equal.lean ====
/- The proof that the kernel and the reference end with equal results: each row's sample is the first category of
   the best score on both sides. -/
module

public import proofs.«01_k».proof.Defs
public import proofs.«01_k».proof.Proof.Run
public import proofs.«01_k».proof.Proof.RefRun
public import proofs.«01_k».proof.Proof.RefVals3
public import proofs.«01_k».proof.Proof.KerVals5
public import proofs.«01_k».proof.Proof.PreVals

@[expose] public section

noncomputable section

namespace Cert.Equal

open Idealize.ShloMosaic Idealize.SL.Sem Idealize.ShloMosaic.TcCoe Idealize.ShloMosaic.Tactic

/-- The kernel's run, with its result and the arguments. -/
theorem ker_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v46) = KernelIdeal.Run.Wend m c (Proc.devRef .tc KernelIdeal.main_v46)
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)) :=
  (θ_run _ _ _).mono (fun r h c => ⟨(h.1 c) _ (KernelIdeal.Run.mem_uc KernelIdeal.main_v46 (by decide)), KernelIdeal.Run.run_arg m c KernelIdeal.main_arg0 (by decide) (by decide) (h.1 c), KernelIdeal.Run.run_arg m c KernelIdeal.main_arg1 (by decide) (by decide) (h.1 c), KernelIdeal.Run.run_arg m c KernelIdeal.main_arg2 (by decide) (by decide) (h.1 c), KernelIdeal.Run.run_arg m c KernelIdeal.main_arg3 (by decide) (by decide) (h.1 c), KernelIdeal.Run.run_arg m c KernelIdeal.main_arg4 (by decide) (by decide) (h.1 c), KernelIdeal.Run.run_arg m c KernelIdeal.main_arg5 (by decide) (by decide) (h.1 c), KernelIdeal.Run.run_arg m c KernelIdeal.main_arg6 (by decide) (by decide) (h.1 c)⟩)
    (KernelIdeal.Run.run_end m g)

/-- The reference's run, with its result and the arguments. -/
theorem ref_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => ∀ c : Dev ReferenceIdeal.nD,
      r.2.mem ((c.tc : Thread ReferenceIdeal.nD ReferenceIdeal.τ).loc ReferenceIdeal.main_v73) = ReferenceIdeal.Run.W15 m c (Proc.devRef .tc ReferenceIdeal.main_v73)
      ∧ r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5)
      ∧ r.2.mem ((c.tc : Thread ReferenceIdeal.nD ReferenceIdeal.τ).loc ReferenceIdeal.main_arg6) = m ((c.tc : Thread ReferenceIdeal.nD ReferenceIdeal.τ).loc ReferenceIdeal.main_arg6)) :=
  (θ_run _ _ _).mono (fun r h c => ⟨h c ReferenceIdeal.main_v73, (h c ReferenceIdeal.main_arg0).trans (ReferenceIdeal.Run.W15_args m c ReferenceIdeal.main_arg0 (by decide)), (h c ReferenceIdeal.main_arg1).trans (ReferenceIdeal.Run.W15_args m c ReferenceIdeal.main_arg1 (by decide)), (h c ReferenceIdeal.main_arg2).trans (ReferenceIdeal.Run.W15_args m c ReferenceIdeal.main_arg2 (by decide)), (h c ReferenceIdeal.main_arg3).trans (ReferenceIdeal.Run.W15_args m c ReferenceIdeal.main_arg3 (by decide)), (h c ReferenceIdeal.main_arg4).trans (ReferenceIdeal.Run.W15_args m c ReferenceIdeal.main_arg4 (by decide)), (h c ReferenceIdeal.main_arg5).trans (ReferenceIdeal.Run.W15_args m c ReferenceIdeal.main_arg5 (by decide)), (h c ReferenceIdeal.main_arg6).trans (ReferenceIdeal.Run.W15_args m c ReferenceIdeal.main_arg6 (by decide))⟩)
    (ReferenceIdeal.Run.run_end m g)

/-- The two results agree on arguments that agree and that the precondition admits. -/
theorem same_value [Cert.Pre_inputs.Facts] (m : (ℓ : Loc KernelIdeal.nD KernelIdeal.τ KernelIdeal.sig) → Buf (Elt Ideal) ℓ)
    (m' : (ℓ : Loc ReferenceIdeal.nD ReferenceIdeal.τ ReferenceIdeal.sig) → Buf (Elt Ideal) ℓ) (hp : Pre_KernelIdeal_inputs m) (c : Dev KernelIdeal.nD)
    (ha : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    ReferenceIdeal.Run.W15 m' c (Proc.devRef .tc ReferenceIdeal.main_v73) = KernelIdeal.Run.Wend m c (Proc.devRef .tc KernelIdeal.main_v46) := by
  obtain ⟨⟨X, hX⟩, hx, ht, hn, hdt⟩ := PreValues.unpack _ _ _ _ _ _ _ (hp c)
  obtain ⟨a0, a1, _, a3, a4, a5, a6⟩ := ha
  obtain ⟨s, hs, hr⟩ := RefValues.ref_value m' c _ _ _ _ _ _ X hX a0 a1 a3 a4 a5 a6
  refine hr.trans (Eq.symm ?_)
  exact KerValues.ker_value (m := m) (c := c) ⟨hX, rfl, rfl, rfl, rfl, rfl, rfl⟩ s hs (RowSpec.cfE_nonneg ht hdt hn)
    (fun i => RowSpec.bE_nonneg hdt (hx i (X i)) hn) hx

theorem algebraic [Cert.Pre_inputs.Facts] (m : (ℓ : Loc KernelIdeal.nD KernelIdeal.τ KernelIdeal.sig) → Buf (Elt Ideal) ℓ) (g : Dev KernelIdeal.nD → PrngReg)
    (m' : (ℓ : Loc ReferenceIdeal.nD ReferenceIdeal.τ ReferenceIdeal.sig) → Buf (Elt Ideal) ℓ) (g' : Dev ReferenceIdeal.nD → PrngReg) (hp : Pre_KernelIdeal_inputs m)
    (ha : ∀ c : Dev KernelIdeal.nD, m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    ∃ v0 : Dev KernelIdeal.nD → FVec Ideal ⟨2, ![128, 100000]⟩ .f32,
      θ_run (KernelIdeal.defs (F := Ideal)) (onTc (τ := KernelIdeal.τ) (KernelIdeal.main (F := Ideal))) ⟨m, fun _ => 0, g⟩ (fun r => ∀ c : Dev KernelIdeal.nD,
      r.2.mem ((c.tc : Thread KernelIdeal.nD KernelIdeal.τ).loc KernelIdeal.main_v46) = v0 c
      ∧ r.2.mem ((c.tc : Thread KernelIdeal.nD KernelIdeal.τ).loc KernelIdeal.main_arg0) = m ((c.tc : Thread KernelIdeal.nD KernelIdeal.τ).loc KernelIdeal.main_arg0)
      ∧ r.2.mem ((c.tc : Thread KernelIdeal.nD KernelIdeal.τ).loc KernelIdeal.main_arg1) = m ((c.tc : Thread KernelIdeal.nD KernelIdeal.τ).loc KernelIdeal.main_arg1)
      ∧ r.2.mem ((c.tc : Thread KernelIdeal.nD KernelIdeal.τ).loc KernelIdeal.main_arg2) = m ((c.tc : Thread KernelIdeal.nD KernelIdeal.τ).loc KernelIdeal.main_arg2)
      ∧ r.2.mem ((c.tc : Thread KernelIdeal.nD KernelIdeal.τ).loc KernelIdeal.main_arg3) = m ((c.tc : Thread KernelIdeal.nD KernelIdeal.τ).loc KernelIdeal.main_arg3)
      ∧ r.2.mem ((c.tc : Thread KernelIdeal.nD KernelIdeal.τ).loc KernelIdeal.main_arg4) = m ((c.tc : Thread KernelIdeal.nD KernelIdeal.τ).loc KernelIdeal.main_arg4)
      ∧ r.2.mem ((c.tc : Thread KernelIdeal.nD KernelIdeal.τ).loc KernelIdeal.main_arg5) = m ((c.tc : Thread KernelIdeal.nD KernelIdeal.τ).loc KernelIdeal.main_arg5)
      ∧ r.2.mem ((c.tc : Thread KernelIdeal.nD KernelIdeal.τ).loc KernelIdeal.main_arg6) = m ((c.tc : Thread KernelIdeal.nD KernelIdeal.τ).loc KernelIdeal.main_arg6)) ∧
      θ_run (ReferenceIdeal.defs (F := Ideal)) (onTc (τ := ReferenceIdeal.τ) (ReferenceIdeal.main (F := Ideal))) ⟨m', fun _ => 0, g'⟩ (fun r => ∀ c : Dev ReferenceIdeal.nD,
      r.2.mem ((c.tc : Thread ReferenceIdeal.nD ReferenceIdeal.τ).loc ReferenceIdeal.main_v73) = v0 c
      ∧ r.2.mem ((c.tc : Thread ReferenceIdeal.nD ReferenceIdeal.τ).loc ReferenceIdeal.main_arg0) = m' ((c.tc : Thread ReferenceIdeal.nD ReferenceIdeal.τ).loc ReferenceIdeal.main_arg0)
      ∧ r.2.mem ((c.tc : Thread ReferenceIdeal.nD ReferenceIdeal.τ).loc ReferenceIdeal.main_arg1) = m' ((c.tc : Thread ReferenceIdeal.nD ReferenceIdeal.τ).loc ReferenceIdeal.main_arg1)
      ∧ r.2.mem ((c.tc : Thread ReferenceIdeal.nD ReferenceIdeal.τ).loc ReferenceIdeal.main_arg2) = m' ((c.tc : Thread ReferenceIdeal.nD ReferenceIdeal.τ).loc ReferenceIdeal.main_arg2)
      ∧ r.2.mem ((c.tc : Thread ReferenceIdeal.nD ReferenceIdeal.τ).loc ReferenceIdeal.main_arg3) = m' ((c.tc : Thread ReferenceIdeal.nD ReferenceIdeal.τ).loc ReferenceIdeal.main_arg3)
      ∧ r.2.mem ((c.tc : Thread ReferenceIdeal.nD ReferenceIdeal.τ).loc ReferenceIdeal.main_arg4) = m' ((c.tc : Thread ReferenceIdeal.nD ReferenceIdeal.τ).loc ReferenceIdeal.main_arg4)
      ∧ r.2.mem ((c.tc : Thread ReferenceIdeal.nD ReferenceIdeal.τ).loc ReferenceIdeal.main_arg5) = m' ((c.tc : Thread ReferenceIdeal.nD ReferenceIdeal.τ).loc ReferenceIdeal.main_arg5)
      ∧ r.2.mem ((c.tc : Thread ReferenceIdeal.nD ReferenceIdeal.τ).loc ReferenceIdeal.main_arg6) = m' ((c.tc : Thread ReferenceIdeal.nD ReferenceIdeal.τ).loc ReferenceIdeal.main_arg6)) :=
  ⟨fun c => KernelIdeal.Run.Wend m c (Proc.devRef .tc KernelIdeal.main_v46), ker_run m g,
    (θ_run _ _ _).mono (fun r h c => ⟨(h c).1.trans (same_value m m' hp c (ha c)), (h c).2⟩) (ref_run m' g')⟩

end Cert.Equal

end
-- ==== Proof.lean ====
module

public import proofs.«01_k».proof.Defs
public import proofs.«01_k».proof.Proof.Run
public import proofs.«01_k».proof.Proof.K.Run
public import proofs.«01_k».proof.Proof.RefRun
public import proofs.«01_k».proof.Proof.Equal

@[expose] public section

noncomputable section

namespace Cert.Proof

open Idealize.ShloMosaic Idealize.SL.Sem

theorem claim : Cert.Claim := ⟨Cert.Kernel.Gen.facts, Cert.KernelIdeal.Gen.facts, Cert.ReferenceIdeal.Gen.facts, Cert.PreValues.facts,
  fun m g _ => Cert.Kernel.Run.frame m g, fun m g _ => Cert.KernelIdeal.Run.frame m g, fun m g _ => Cert.KernelIdeal.Run.frame m g,
  fun m g _ => Cert.ReferenceIdeal.Run.frame m g, fun m g _ => Cert.ReferenceIdeal.Run.frame m g, trivial,
  letI := Cert.PreValues.facts
  fun m g m' g' hp ha => Cert.Equal.algebraic m g m' g' hp ha⟩

end Cert.Proof

end
